-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 4096, 768]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = Layout.block ⟨3, ![2, 256, 768]⟩ ⟨3, ![2, 4096, 768]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  bcast_S_S768x256 : S_.BroadcastsInDim S768x256 (![] : Fin 0 → Fin S768x256.rank)

variable [Facts]

def fn {F : FTy → Type} [FloatOps F] (main_arg0 : FVec F S2x256x768 .bf16) (main_arg1 : FVec F S768x256 .bf16) (main_arg2 : FVec F S768x256 .bf16) (main_arg3 : FVec F S768x256 .bf16) (main_arg4 : FVec F S256x768 .bf16) : IVec S2x256x768 1 × IVec S768x256 1 × IVec S768x256 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_v3 : FVec F S768x256 .bf16 := Host.absf main_arg1
  let main_cst_0 : FVec F S_ .bf16 := constant S_ .bf16 0x7F80#16
  let main_v4 : FVec F S768x256 .bf16 := broadcastInDim S768x256 ![] bcast_S_S768x256 main_cst_0
  let main_v5 : IVec S768x256 1 := cmpf .olt main_v3 main_v4
  let main_v6 : FVec F S768x256 .bf16 := Host.absf main_arg2
  let main_cst_1 : FVec F S_ .bf16 := constant S_ .bf16 0x7F80#16
  let main_v7 : FVec F S768x256 .bf16 := broadcastInDim S768x256 ![] bcast_S_S768x256 main_cst_1
  let main_v8 : IVec S768x256 1 := cmpf .olt main_v6 main_v7
  (main_v2, main_v5, main_v8)
-- ==== Pre_finite_ReferenceIdeal.lean ====
abbrev S2x4096x768 : Shape := ⟨3, ![2, 4096, 768]⟩
abbrev S768x256 : Shape := ⟨2, ![768, 256]⟩
abbrev S256x768 : Shape := ⟨2, ![256, 768]⟩
abbrev S_ : Shape := ⟨0, ![]⟩

class Facts : Prop where
  bcast_S_S2x4096x768 : S_.BroadcastsInDim S2x4096x768 (![] : Fin 0 → Fin S2x4096x768.rank)
  bcast_S_S768x256 : S_.BroadcastsInDim S768x256 (![] : Fin 0 → Fin S768x256.rank)

variable [Facts]

def fn {F : FTy → Type} [FloatOps F] (main_arg0 : FVec F S2x4096x768 .bf16) (main_arg1 : FVec F S768x256 .bf16) (main_arg2 : FVec F S768x256 .bf16) (main_arg3 : FVec F S768x256 .bf16) (main_arg4 : FVec F S256x768 .bf16) : IVec S2x4096x768 1 × IVec S768x256 1 × IVec S768x256 1 :=
  let main_v0 : FVec F S2x4096x768 .bf16 := Host.absf main_arg0
  let main_cst : FVec F S_ .bf16 := constant S_ .bf16 0x7F80#16
  let main_v1 : FVec F S2x4096x768 .bf16 := broadcastInDim S2x4096x768 ![] bcast_S_S2x4096x768 main_cst
  let main_v2 : IVec S2x4096x768 1 := cmpf .olt main_v0 main_v1
  let main_v3 : FVec F S768x256 .bf16 := Host.absf main_arg1
  let main_cst_0 : FVec F S_ .bf16 := constant S_ .bf16 0x7F80#16
  let main_v4 : FVec F S768x256 .bf16 := broadcastInDim S768x256 ![] bcast_S_S768x256 main_cst_0
  let main_v5 : IVec S768x256 1 := cmpf .olt main_v3 main_v4
  let main_v6 : FVec F S768x256 .bf16 := Host.absf main_arg2
  let main_cst_1 : FVec F S_ .bf16 := constant S_ .bf16 0x7F80#16
  let main_v7 : FVec F S768x256 .bf16 := broadcastInDim S768x256 ![] bcast_S_S768x256 main_cst_1
  let main_v8 : IVec S768x256 1 := cmpf .olt main_v6 main_v7
  (main_v2, main_v5, main_v8)
-- ==== Kernel.lean ====
abbrev S2x256x768 : Shape := ⟨3, ![2, 256, 768]⟩
abbrev S768x256 : Shape := ⟨2, ![768, 256]⟩
abbrev S256x768 : Shape := ⟨2, ![256, 768]⟩
abbrev S256x256 : Shape := ⟨2, ![256, 256]⟩
abbrev S_ : Shape := ⟨0, ![]⟩
abbrev S512x768 : Shape := ⟨2, ![512, 768]⟩
abbrev S32 : Shape := ⟨1, ![32]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S1x256x1x64 : Shape := ⟨4, ![1, 256, 1, 64]⟩
abbrev S2x256x4x64 : Shape := ⟨4, ![2, 256, 4, 64]⟩
abbrev S512x256 : Shape := ⟨2, ![512, 256]⟩
abbrev S8x2x256x64 : Shape := ⟨4, ![8, 2, 256, 64]⟩
abbrev S8x256x64 : Shape := ⟨3, ![8, 256, 64]⟩
abbrev S16x2x256x64 : Shape := ⟨4, ![16, 2, 256, 64]⟩
abbrev S8x2 : Shape := ⟨2, ![8, 2]⟩
abbrev S16 : Shape := ⟨1, ![16]⟩
abbrev S8 : Shape := ⟨1, ![8]⟩
abbrev S1x1x256x64 : Shape := ⟨4, ![1, 1, 256, 64]⟩
abbrev S1x256x64 : Shape := ⟨3, ![1, 256, 64]⟩
abbrev S1x1 : Shape := ⟨2, ![1, 1]⟩
abbrev S1 : Shape := ⟨1, ![1]⟩
abbrev S1x2x256x64 : Shape := ⟨4, ![1, 2, 256, 64]⟩
abbrev S2x256x64 : Shape := ⟨3, ![2, 256, 64]⟩
abbrev S2048x64 : Shape := ⟨2, ![2048, 64]⟩
abbrev S512x64 : Shape := ⟨2, ![512, 64]⟩
abbrev S2048x512 : Shape := ⟨2, ![2048, 512]⟩
abbrev S2048 : Shape := ⟨1, ![2048]⟩
abbrev S2048x1 : Shape := ⟨2, ![2048, 1]⟩

abbrev nBuf : Space → Nat
  | .hbm => 54
  | .vmem => 15
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S256x256, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S512x768, .bf16⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .i32⟩
  | .hbm, ⟨30, _⟩ => ⟨S_, .i32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256x1, .f32⟩
  | .hbm, ⟨36, _⟩ => ⟨S1x32, .f32⟩
  | .hbm, ⟨37, _⟩ => ⟨S256x32, .f32⟩
  | .hbm, ⟨38, _⟩ => ⟨S256x32, .f32⟩
  | .hbm, ⟨39, _⟩ => ⟨S256x32, .f32⟩
  | .hbm, ⟨40, _⟩ => ⟨S256x32, .f32⟩
  | .hbm, ⟨41, _⟩ => ⟨S256x32x2, .f32⟩
  | .hbm, ⟨42, _⟩ => ⟨S256x64, .f32⟩
  | .hbm, ⟨43, _⟩ => ⟨S1x256x1x64, .f32⟩
  | .hbm, ⟨44, _⟩ => ⟨S2x256x4x64, .f32⟩
  | .hbm, ⟨45, _⟩ => ⟨S512x256, .f32⟩
  | .hbm, ⟨46, _⟩ => ⟨S256x32, .f32⟩
  | .hbm, ⟨47, _⟩ => ⟨S256x32x2, .f32⟩
  | .hbm, ⟨48, _⟩ => ⟨S256x64, .f32⟩
  | .hbm, ⟨49, _⟩ => ⟨S1x256x1x64, .f32⟩
  | .hbm, ⟨50, _⟩ => ⟨S2x256x4x64, .f32⟩
  | .hbm, ⟨51, _⟩ => ⟨S512x256, .f32⟩
  | .hbm, ⟨52, _⟩ => ⟨S512x768, .f32⟩
  | .hbm, ⟨53, _⟩ => ⟨S2x256x768, .f32⟩
  | .local _ .vmem, ⟨0, _⟩ => ⟨S512x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S512x256, .f32⟩
  | .local _ .vmem, ⟨6, _⟩ => ⟨S512x256, .f32⟩
  | .local _ .vmem, ⟨7, _⟩ => ⟨S256x256, .bf16⟩
  | .local _ .vmem, ⟨8, _⟩ => ⟨S512x768, .f32⟩
  | .local _ .vmem, ⟨9, _⟩ => ⟨S8x2x256x64, .bf16⟩
  | .local _ .vmem, ⟨10, _⟩ => ⟨S8x256x64, .bf16⟩
  | .local _ .vmem, ⟨11, _⟩ => ⟨S8x256x64, .bf16⟩
  | .local _ .vmem, ⟨12, _⟩ => ⟨S16x2x256x64, .bf16⟩
  | .local _ .vmem, ⟨13, _⟩ => ⟨S8x256x64, .bf16⟩
  | .local _ .vmem, ⟨14, _⟩ => ⟨S8x256x64, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 16
abbrev τ : Topo := Topo.v7x

variable {F : FTy → Type} [FloatOps F]

abbrev grid0 : Pipeline.Grid := .none

def k0_dev1 : Nat :=
  let c0_i32_105 : BitVec 32 := 0#32
  let c0_i32 : BitVec 32 := 0#32
  let c1_i32_104 : BitVec 32 := 1#32
  let v135 : BitVec 32 := Scalar.muli c0_i32 c1_i32_104
  let v136 : BitVec 32 := Scalar.addi c0_i32_105 v135
  v136.toNat
def k0_dev2 : Nat :=
  let c0_i32_109 : BitVec 32 := 0#32
  let c1_i32_107 : BitVec 32 := 1#32
  let c1_i32_108 : BitVec 32 := 1#32
  let v137 : BitVec 32 := Scalar.muli c1_i32_107 c1_i32_108
  let v138 : BitVec 32 := Scalar.addi c0_i32_109 v137
  v138.toNat
def k0_dev3 : Nat :=
  let c0_i32_112 : BitVec 32 := 0#32
  let c2_i32 : BitVec 32 := 2#32
  let c1_i32_111 : BitVec 32 := 1#32
  let v139 : BitVec 32 := Scalar.muli c2_i32 c1_i32_111
  let v140 : BitVec 32 := Scalar.addi c0_i32_112 v139
  v140.toNat
def k0_dev4 : Nat :=
  let c0_i32_115 : BitVec 32 := 0#32
  let c3_i32 : BitVec 32 := 3#32
  let c1_i32_114 : BitVec 32 := 1#32
  let v141 : BitVec 32 := Scalar.muli c3_i32 c1_i32_114
  let v142 : BitVec 32 := Scalar.addi c0_i32_115 v141
  v142.toNat
def k0_dev5 : Nat :=
  let c0_i32_118 : BitVec 32 := 0#32
  let c4_i32 : BitVec 32 := 4#32
  let c1_i32_117 : BitVec 32 := 1#32
  let v143 : BitVec 32 := Scalar.muli c4_i32 c1_i32_117
  let v144 : BitVec 32 := Scalar.addi c0_i32_118 v143
  v144.toNat
def k0_dev6 : Nat :=
  let c0_i32_121 : BitVec 32 := 0#32
  let c5_i32 : BitVec 32 := 5#32
  let c1_i32_120 : BitVec 32 := 1#32
  let v145 : BitVec 32 := Scalar.muli c5_i32 c1_i32_120
  let v146 : BitVec 32 := Scalar.addi c0_i32_121 v145
  v146.toNat
def k0_dev7 : Nat :=
  let c0_i32_124 : BitVec 32 := 0#32
  let c6_i32 : BitVec 32 := 6#32
  let c1_i32_123 : BitVec 32 := 1#32
  let v147 : BitVec 32 := Scalar.muli c6_i32 c1_i32_123
  let v148 : BitVec 32 := Scalar.addi c0_i32_124 v147
  v148.toNat
def k0_dev8 : Nat :=
  let c0_i32_127 : BitVec 32 := 0#32
  let c7_i32 : BitVec 32 := 7#32
  let c1_i32_126 : BitVec 32 := 1#32
  let v149 : BitVec 32 := Scalar.muli c7_i32 c1_i32_126
  let v150 : BitVec 32 := Scalar.addi c0_i32_127 v149
  v150.toNat
def k0_dev9 : Nat :=
  let c0_i32_131 : BitVec 32 := 0#32
  let c8_i32_129 : BitVec 32 := 8#32
  let c1_i32_130 : BitVec 32 := 1#32
  let v151 : BitVec 32 := Scalar.muli c8_i32_129 c1_i32_130
  let v152 : BitVec 32 := Scalar.addi c0_i32_131 v151
  v152.toNat
def k0_dev10 : Nat :=
  let c0_i32_134 : BitVec 32 := 0#32
  let c9_i32 : BitVec 32 := 9#32
  let c1_i32_133 : BitVec 32 := 1#32
  let v153 : BitVec 32 := Scalar.muli c9_i32 c1_i32_133
  let v154 : BitVec 32 := Scalar.addi c0_i32_134 v153
  v154.toNat
def k0_dev11 : Nat :=
  let c0_i32_137 : BitVec 32 := 0#32
  let c10_i32 : BitVec 32 := 10#32
  let c1_i32_136 : BitVec 32 := 1#32
  let v155 : BitVec 32 := Scalar.muli c10_i32 c1_i32_136
  let v156 : BitVec 32 := Scalar.addi c0_i32_137 v155
  v156.toNat
def k0_dev12 : Nat :=
  let c0_i32_140 : BitVec 32 := 0#32
  let c11_i32 : BitVec 32 := 11#32
  let c1_i32_139 : BitVec 32 := 1#32
  let v157 : BitVec 32 := Scalar.muli c11_i32 c1_i32_139
  let v158 : BitVec 32 := Scalar.addi c0_i32_140 v157
  v158.toNat
def k0_dev13 : Nat :=
  let c0_i32_143 : BitVec 32 := 0#32
  let c12_i32 : BitVec 32 := 12#32
  let c1_i32_142 : BitVec 32 := 1#32
  let v159 : BitVec 32 := Scalar.muli c12_i32 c1_i32_142
  let v160 : BitVec 32 := Scalar.addi c0_i32_143 v159
  v160.toNat
def k0_dev14 : Nat :=
  let c0_i32_146 : BitVec 32 := 0#32
  let c13_i32 : BitVec 32 := 13#32
  let c1_i32_145 : BitVec 32 := 1#32
  let v161 : BitVec 32 := Scalar.muli c13_i32 c1_i32_145
  let v162 : BitVec 32 := Scalar.addi c0_i32_146 v161
  v162.toNat
def k0_dev15 : Nat :=
  let c0_i32_149 : BitVec 32 := 0#32
  let c14_i32 : BitVec 32 := 14#32
  let c1_i32_148 : BitVec 32 := 1#32
  let v163 : BitVec 32 := Scalar.muli c14_i32 c1_i32_148
  let v164 : BitVec 32 := Scalar.addi c0_i32_149 v163
  v164.toNat
def k0_dev16 : Nat :=
  let c0_i32_152 : BitVec 32 := 0#32
  let c15_i32 : BitVec 32 := 15#32
  let c1_i32_151 : BitVec 32 := 1#32
  let v165 : BitVec 32 := Scalar.muli c15_i32 c1_i32_151
  let v166 : BitVec 32 := Scalar.addi c0_i32_152 v165
  v166.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_160 : BitVec 32 := 0#32
  let c0_i32_161 : BitVec 32 := 0#32
  let c0_i32_162 : BitVec 32 := 0#32
  ![v2.toNat, 0, 0, 0]
def k0_dev17 : Nat :=
  let c0_i32_159 : BitVec 32 := 0#32
  let c0_i32_157 : BitVec 32 := 0#32
  let c1_i32_158 : BitVec 32 := 1#32
  let v167 : BitVec 32 := Scalar.muli c0_i32_157 c1_i32_158
  let v168 : BitVec 32 := Scalar.addi c0_i32_159 v167
  v168.toNat
def k0_dev18 : Nat :=
  let c0_i32_171 : BitVec 32 := 0#32
  let c8_i32_169 : BitVec 32 := 8#32
  let c1_i32_170 : BitVec 32 := 1#32
  let v177 : BitVec 32 := Scalar.muli c8_i32_169 c1_i32_170
  let v178 : BitVec 32 := Scalar.addi c0_i32_171 v177
  v178.toNat
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_0 : BitVec 32 := 8#32
  let v4 : BitVec 32 := Scalar.remsi v2 c8_i32_0
  ![v4.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_0 : BitVec 32 := 8#32
  let v4 : BitVec 32 := Scalar.remsi v2 c8_i32_0
  let c0_i32_184 : BitVec 32 := 0#32
  let c0_i32_185 : BitVec 32 := 0#32
  ![v4.toNat, 0, 0]
def k0_dev19 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_178 : BitVec 32 := 8#32
  let v187 : BitVec 32 := Scalar.muli v3 c8_i32_178
  let c0_i32_179 : BitVec 32 := 0#32
  let v188 : BitVec 32 := Scalar.addi v187 c0_i32_179
  let c1_i32_182 : BitVec 32 := 1#32
  let v189 : BitVec 32 := Scalar.muli v188 c1_i32_182
  let v190 : BitVec 32 := Scalar.addi c0_i32_183 v189
  v190.toNat
def k0_dev20 : Nat :=
  let c0_i32_193 : BitVec 32 := 0#32
  let c1_i32_191 : BitVec 32 := 1#32
  let c1_i32_192 : BitVec 32 := 1#32
  let v199 : BitVec 32 := Scalar.muli c1_i32_191 c1_i32_192
  let v200 : BitVec 32 := Scalar.addi c0_i32_193 v199
  v200.toNat
def k0_dev21 : Nat :=
  let c0_i32_205 : BitVec 32 := 0#32
  let c9_i32_203 : BitVec 32 := 9#32
  let c1_i32_204 : BitVec 32 := 1#32
  let v209 : BitVec 32 := Scalar.muli c9_i32_203 c1_i32_204
  let v210 : BitVec 32 := Scalar.addi c0_i32_205 v209
  v210.toNat
def k0_dev22 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_212 : BitVec 32 := 8#32
  let v219 : BitVec 32 := Scalar.muli v3 c8_i32_212
  let c1_i32_213 : BitVec 32 := 1#32
  let v220 : BitVec 32 := Scalar.addi v219 c1_i32_213
  let c1_i32_216 : BitVec 32 := 1#32
  let v221 : BitVec 32 := Scalar.muli v220 c1_i32_216
  let v222 : BitVec 32 := Scalar.addi c0_i32_217 v221
  v222.toNat
def k0_dev23 : Nat :=
  let c0_i32_227 : BitVec 32 := 0#32
  let c2_i32_225 : BitVec 32 := 2#32
  let c1_i32_226 : BitVec 32 := 1#32
  let v231 : BitVec 32 := Scalar.muli c2_i32_225 c1_i32_226
  let v232 : BitVec 32 := Scalar.addi c0_i32_227 v231
  v232.toNat
def k0_dev24 : Nat :=
  let c0_i32_239 : BitVec 32 := 0#32
  let c10_i32_237 : BitVec 32 := 10#32
  let c1_i32_238 : BitVec 32 := 1#32
  let v241 : BitVec 32 := Scalar.muli c10_i32_237 c1_i32_238
  let v242 : BitVec 32 := Scalar.addi c0_i32_239 v241
  v242.toNat
def k0_dev25 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_246 : BitVec 32 := 8#32
  let v251 : BitVec 32 := Scalar.muli v3 c8_i32_246
  let c2_i32_247 : BitVec 32 := 2#32
  let v252 : BitVec 32 := Scalar.addi v251 c2_i32_247
  let c1_i32_250 : BitVec 32 := 1#32
  let v253 : BitVec 32 := Scalar.muli v252 c1_i32_250
  let v254 : BitVec 32 := Scalar.addi c0_i32_251 v253
  v254.toNat
def k0_dev26 : Nat :=
  let c0_i32_261 : BitVec 32 := 0#32
  let c3_i32_259 : BitVec 32 := 3#32
  let c1_i32_260 : BitVec 32 := 1#32
  let v263 : BitVec 32 := Scalar.muli c3_i32_259 c1_i32_260
  let v264 : BitVec 32 := Scalar.addi c0_i32_261 v263
  v264.toNat
def k0_dev27 : Nat :=
  let c0_i32_273 : BitVec 32 := 0#32
  let c11_i32_271 : BitVec 32 := 11#32
  let c1_i32_272 : BitVec 32 := 1#32
  let v273 : BitVec 32 := Scalar.muli c11_i32_271 c1_i32_272
  let v274 : BitVec 32 := Scalar.addi c0_i32_273 v273
  v274.toNat
def k0_dev28 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_280 : BitVec 32 := 8#32
  let v283 : BitVec 32 := Scalar.muli v3 c8_i32_280
  let c3_i32_281 : BitVec 32 := 3#32
  let v284 : BitVec 32 := Scalar.addi v283 c3_i32_281
  let c1_i32_284 : BitVec 32 := 1#32
  let v285 : BitVec 32 := Scalar.muli v284 c1_i32_284
  let v286 : BitVec 32 := Scalar.addi c0_i32_285 v285
  v286.toNat
def k0_dev29 : Nat :=
  let c0_i32_295 : BitVec 32 := 0#32
  let c4_i32_293 : BitVec 32 := 4#32
  let c1_i32_294 : BitVec 32 := 1#32
  let v295 : BitVec 32 := Scalar.muli c4_i32_293 c1_i32_294
  let v296 : BitVec 32 := Scalar.addi c0_i32_295 v295
  v296.toNat
def k0_dev30 : Nat :=
  let c0_i32_307 : BitVec 32 := 0#32
  let c12_i32_305 : BitVec 32 := 12#32
  let c1_i32_306 : BitVec 32 := 1#32
  let v305 : BitVec 32 := Scalar.muli c12_i32_305 c1_i32_306
  let v306 : BitVec 32 := Scalar.addi c0_i32_307 v305
  v306.toNat
def k0_dev31 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_314 : BitVec 32 := 8#32
  let v315 : BitVec 32 := Scalar.muli v3 c8_i32_314
  let c4_i32_315 : BitVec 32 := 4#32
  let v316 : BitVec 32 := Scalar.addi v315 c4_i32_315
  let c1_i32_318 : BitVec 32 := 1#32
  let v317 : BitVec 32 := Scalar.muli v316 c1_i32_318
  let v318 : BitVec 32 := Scalar.addi c0_i32_319 v317
  v318.toNat
def k0_dev32 : Nat :=
  let c0_i32_329 : BitVec 32 := 0#32
  let c5_i32_327 : BitVec 32 := 5#32
  let c1_i32_328 : BitVec 32 := 1#32
  let v327 : BitVec 32 := Scalar.muli c5_i32_327 c1_i32_328
  let v328 : BitVec 32 := Scalar.addi c0_i32_329 v327
  v328.toNat
def k0_dev33 : Nat :=
  let c0_i32_341 : BitVec 32 := 0#32
  let c13_i32_339 : BitVec 32 := 13#32
  let c1_i32_340 : BitVec 32 := 1#32
  let v337 : BitVec 32 := Scalar.muli c13_i32_339 c1_i32_340
  let v338 : BitVec 32 := Scalar.addi c0_i32_341 v337
  v338.toNat
def k0_dev34 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_348 : BitVec 32 := 8#32
  let v347 : BitVec 32 := Scalar.muli v3 c8_i32_348
  let c5_i32_349 : BitVec 32 := 5#32
  let v348 : BitVec 32 := Scalar.addi v347 c5_i32_349
  let c1_i32_352 : BitVec 32 := 1#32
  let v349 : BitVec 32 := Scalar.muli v348 c1_i32_352
  let v350 : BitVec 32 := Scalar.addi c0_i32_353 v349
  v350.toNat
def k0_dev35 : Nat :=
  let c0_i32_363 : BitVec 32 := 0#32
  let c6_i32_361 : BitVec 32 := 6#32
  let c1_i32_362 : BitVec 32 := 1#32
  let v359 : BitVec 32 := Scalar.muli c6_i32_361 c1_i32_362
  let v360 : BitVec 32 := Scalar.addi c0_i32_363 v359
  v360.toNat
def k0_dev36 : Nat :=
  let c0_i32_375 : BitVec 32 := 0#32
  let c14_i32_373 : BitVec 32 := 14#32
  let c1_i32_374 : BitVec 32 := 1#32
  let v369 : BitVec 32 := Scalar.muli c14_i32_373 c1_i32_374
  let v370 : BitVec 32 := Scalar.addi c0_i32_375 v369
  v370.toNat
def k0_dev37 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_382 : BitVec 32 := 8#32
  let v379 : BitVec 32 := Scalar.muli v3 c8_i32_382
  let c6_i32_383 : BitVec 32 := 6#32
  let v380 : BitVec 32 := Scalar.addi v379 c6_i32_383
  let c1_i32_386 : BitVec 32 := 1#32
  let v381 : BitVec 32 := Scalar.muli v380 c1_i32_386
  let v382 : BitVec 32 := Scalar.addi c0_i32_387 v381
  v382.toNat
def k0_dev38 : Nat :=
  let c0_i32_397 : BitVec 32 := 0#32
  let c7_i32_395 : BitVec 32 := 7#32
  let c1_i32_396 : BitVec 32 := 1#32
  let v391 : BitVec 32 := Scalar.muli c7_i32_395 c1_i32_396
  let v392 : BitVec 32 := Scalar.addi c0_i32_397 v391
  v392.toNat
def k0_dev39 : Nat :=
  let c0_i32_409 : BitVec 32 := 0#32
  let c15_i32_407 : BitVec 32 := 15#32
  let c1_i32_408 : BitVec 32 := 1#32
  let v401 : BitVec 32 := Scalar.muli c15_i32_407 c1_i32_408
  let v402 : BitVec 32 := Scalar.addi c0_i32_409 v401
  v402.toNat
def k0_dev40 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_416 : BitVec 32 := 8#32
  let v411 : BitVec 32 := Scalar.muli v3 c8_i32_416
  let c7_i32_417 : BitVec 32 := 7#32
  let v412 : BitVec 32 := Scalar.addi v411 c7_i32_417
  let c1_i32_420 : BitVec 32 := 1#32
  let v413 : BitVec 32 := Scalar.muli v412 c1_i32_420
  let v414 : BitVec 32 := Scalar.addi c0_i32_421 v413
  v414.toNat
def k0_dev41 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_909 : BitVec 32 := 8#32
  let v813 : BitVec 32 := Scalar.muli v3 c8_i32_909
  let c0_i32_910 : BitVec 32 := 0#32
  let v814 : BitVec 32 := Scalar.addi v813 c0_i32_910
  let c1_i32_913 : BitVec 32 := 1#32
  let v815 : BitVec 32 := Scalar.muli v814 c1_i32_913
  let v816 : BitVec 32 := Scalar.addi c0_i32_914 v815
  v816.toNat
def k0_dev42 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_922 : BitVec 32 := 8#32
  let v829 : BitVec 32 := Scalar.muli v3 c8_i32_922
  let c1_i32_923 : BitVec 32 := 1#32
  let v830 : BitVec 32 := Scalar.addi v829 c1_i32_923
  let c1_i32_926 : BitVec 32 := 1#32
  let v831 : BitVec 32 := Scalar.muli v830 c1_i32_926
  let v832 : BitVec 32 := Scalar.addi c0_i32_927 v831
  v832.toNat
def k0_dev43 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_935 : BitVec 32 := 8#32
  let v845 : BitVec 32 := Scalar.muli v3 c8_i32_935
  let c2_i32_936 : BitVec 32 := 2#32
  let v846 : BitVec 32 := Scalar.addi v845 c2_i32_936
  let c1_i32_939 : BitVec 32 := 1#32
  let v847 : BitVec 32 := Scalar.muli v846 c1_i32_939
  let v848 : BitVec 32 := Scalar.addi c0_i32_940 v847
  v848.toNat
def k0_dev44 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_948 : BitVec 32 := 8#32
  let v861 : BitVec 32 := Scalar.muli v3 c8_i32_948
  let c3_i32_949 : BitVec 32 := 3#32
  let v862 : BitVec 32 := Scalar.addi v861 c3_i32_949
  let c1_i32_952 : BitVec 32 := 1#32
  let v863 : BitVec 32 := Scalar.muli v862 c1_i32_952
  let v864 : BitVec 32 := Scalar.addi c0_i32_953 v863
  v864.toNat
def k0_dev45 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_961 : BitVec 32 := 8#32
  let v877 : BitVec 32 := Scalar.muli v3 c8_i32_961
  let c4_i32_962 : BitVec 32 := 4#32
  let v878 : BitVec 32 := Scalar.addi v877 c4_i32_962
  let c1_i32_965 : BitVec 32 := 1#32
  let v879 : BitVec 32 := Scalar.muli v878 c1_i32_965
  let v880 : BitVec 32 := Scalar.addi c0_i32_966 v879
  v880.toNat
def k0_dev46 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_974 : BitVec 32 := 8#32
  let v893 : BitVec 32 := Scalar.muli v3 c8_i32_974
  let c5_i32_975 : BitVec 32 := 5#32
  let v894 : BitVec 32 := Scalar.addi v893 c5_i32_975
  let c1_i32_978 : BitVec 32 := 1#32
  let v895 : BitVec 32 := Scalar.muli v894 c1_i32_978
  let v896 : BitVec 32 := Scalar.addi c0_i32_979 v895
  v896.toNat
def k0_dev47 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_987 : BitVec 32 := 8#32
  let v909 : BitVec 32 := Scalar.muli v3 c8_i32_987
  let c6_i32_988 : BitVec 32 := 6#32
  let v910 : BitVec 32 := Scalar.addi v909 c6_i32_988
  let c1_i32_991 : BitVec 32 := 1#32
  let v911 : BitVec 32 := Scalar.muli v910 c1_i32_991
  let v912 : BitVec 32 := Scalar.addi c0_i32_992 v911
  v912.toNat
def k0_dev48 (d0 : Dev nD) : Nat :=
  let c0_i32_1005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.divsi v2 c8_i32
  let c8_i32_1000 : BitVec 32 := 8#32
  let v925 : BitVec 32 := Scalar.muli v3 c8_i32_1000
  let c7_i32_1001 : BitVec 32 := 7#32
  let v926 : BitVec 32 := Scalar.addi v925 c7_i32_1001
  let c1_i32_1004 : BitVec 32 := 1#32
  let v927 : BitVec 32 := Scalar.muli v926 c1_i32_1004
  let v928 : BitVec 32 := Scalar.addi c0_i32_1005 v927
  v928.toNat
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S2x4096x768 : Shape := ⟨3, ![2, 4096, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x32x2 : Shape := ⟨3, ![4096, 32, 2]⟩
abbrev S4096x64 : Shape := ⟨2, ![4096, 64]⟩
abbrev S2x4096x256 : Shape := ⟨3, ![2, 4096, 256]⟩
abbrev S2x4096x4x64 : Shape := ⟨4, ![2, 4096, 4, 64]⟩
abbrev S2x4096x4x32x2 : Shape := ⟨5, ![2, 4096, 4, 32, 2]⟩
abbrev S2x4096x4x32x1 : Shape := ⟨5, ![2, 4096, 4, 32, 1]⟩
abbrev S2x4096x4x32 : Shape := ⟨4, ![2, 4096, 4, 32]⟩
abbrev S1x4096x1x64 : Shape := ⟨4, ![1, 4096, 1, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S2x4096x768, .f32⟩
  | .hbm, ⟨6, _⟩ => ⟨S768x256, .f32⟩
  | .hbm, ⟨7, _⟩ => ⟨S768x256, .f32⟩
  | .hbm, ⟨8, _⟩ => ⟨S768x256, .f32⟩
  | .hbm, ⟨9, _⟩ => ⟨S256x768, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096, .i32⟩
  | .hbm, ⟨28, _⟩ => ⟨S4096x1, .i32⟩
  | .hbm, ⟨29, _⟩ => ⟨S1x32, .f32⟩
  | .hbm, ⟨30, _⟩ => ⟨S4096x1, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32x2, .f32⟩
  | .hbm, ⟨36, _⟩ => ⟨S4096x64, .f32⟩
  | .hbm, ⟨37, _⟩ => ⟨S4096x32, .f32⟩
  | .hbm, ⟨38, _⟩ => ⟨S4096x32x2, .f32⟩
  | .hbm, ⟨39, _⟩ => ⟨S4096x64, .f32⟩
  | .hbm, ⟨40, _⟩ => ⟨S2x4096x256, .f32⟩
  | .hbm, ⟨41, _⟩ => ⟨S2x4096x4x64, .f32⟩
  | .hbm, ⟨42, _⟩ => ⟨S2x4096x4x32x2, .f32⟩
  | .hbm, ⟨43, _⟩ => ⟨S2x4096x4x32x1, .f32⟩
  | .hbm, ⟨44, _⟩ => ⟨S2x4096x4x32, .f32⟩
  | .hbm, ⟨45, _⟩ => ⟨S2x4096x4x32, .f32⟩
  | .hbm, ⟨46, _⟩ => ⟨S2x4096x4x32x1, .f32⟩
  | .hbm, ⟨47, _⟩ => ⟨S2x4096x4x32, .f32⟩
  | .hbm, ⟨48, _⟩ => ⟨S2x4096x4x32x1, .f32⟩
  | .hbm, ⟨49, _⟩ => ⟨S2x4096x4x32x1, .f32⟩
  | .hbm, ⟨50, _⟩ => ⟨S2x4096x4x32x2, .f32⟩
  | .hbm, ⟨51, _⟩ => ⟨S2x4096x4x64, .f32⟩
  | .hbm, ⟨52, _⟩ => ⟨S1x4096x1x64, .f32⟩
  | .hbm, ⟨53, _⟩ => ⟨S2x4096x4x64, .f32⟩
  | .hbm, ⟨54, _⟩ => ⟨S2x4096x4x64, .f32⟩
  | .hbm, ⟨55, _⟩ => ⟨S1x4096x1x64, .f32⟩
  | .hbm, ⟨56, _⟩ => ⟨S2x4096x4x64, .f32⟩
  | .hbm, ⟨57, _⟩ => ⟨S2x4096x4x64, .f32⟩
  | .hbm, ⟨58, _⟩ => ⟨S2x4096x4x64, .f32⟩
  | .hbm, ⟨59, _⟩ => ⟨S2x4096x256, .f32⟩
  | .hbm, ⟨60, _⟩ => ⟨S2x4096x4x64, .f32⟩
  | .hbm, ⟨61, _⟩ => ⟨S2x4096x4x32x2, .f32⟩
  | .hbm, ⟨62, _⟩ => ⟨S2x4096x4x32x1, .f32⟩
  | .hbm, ⟨63, _⟩ => ⟨S2x4096x4x32, .f32⟩
  | .hbm, ⟨64, _⟩ => ⟨S2x4096x4x32, .f32⟩
  | .hbm, ⟨65, _⟩ => ⟨S2x4096x4x32x1, .f32⟩
  | .hbm, ⟨66, _⟩ => ⟨S2x4096x4x32, .f32⟩
  | .hbm, ⟨67, _⟩ => ⟨S2x4096x4x32x1, .f32⟩
  | .hbm, ⟨68, _⟩ => ⟨S2x4096x4x32x1, .f32⟩
  | .hbm, ⟨69, _⟩ => ⟨S2x4096x4x32x2, .f32⟩
  | .hbm, ⟨70, _⟩ => ⟨S2x4096x4x64, .f32⟩
  | .hbm, ⟨71, _⟩ => ⟨S1x4096x1x64, .f32⟩
  | .hbm, ⟨72, _⟩ => ⟨S2x4096x4x64, .f32⟩
  | .hbm, ⟨73, _⟩ => ⟨S2x4096x4x64, .f32⟩
  | .hbm, ⟨74, _⟩ => ⟨S1x4096x1x64, .f32⟩
  | .hbm, ⟨75, _⟩ => ⟨S2x4096x4x64, .f32⟩
  | .hbm, ⟨76, _⟩ => ⟨S2x4096x4x64, .f32⟩
  | .hbm, ⟨77, _⟩ => ⟨S2x4096x4x64, .f32⟩
  | .hbm, ⟨78, _⟩ => ⟨S2x4096x256, .f32⟩
  | .hbm, ⟨79, _⟩ => ⟨S2x4096x4x64, .f32⟩
  | .hbm, ⟨80, _⟩ => ⟨S2x4x4096x4096, .f32⟩
  | .hbm, ⟨81, _⟩ => ⟨S_, .f32⟩
  | .hbm, ⟨82, _⟩ => ⟨S2x4x4096x4096, .f32⟩
  | .hbm, ⟨83, _⟩ => ⟨S2x4x4096x4096, .f32⟩
  | .hbm, ⟨84, _⟩ => ⟨S_, .f32⟩
  | .hbm, ⟨85, _⟩ => ⟨S2x4x4096, .f32⟩
  | .hbm, ⟨86, _⟩ => ⟨S2x4x4096x1, .f32⟩
  | .hbm, ⟨87, _⟩ => ⟨S2x4x4096x4096, .f32⟩
  | .hbm, ⟨88, _⟩ => ⟨S2x4x4096x4096, .f32⟩
  | .hbm, ⟨89, _⟩ => ⟨S2x4x4096x4096, .f32⟩
  | .hbm, ⟨90, _⟩ => ⟨S_, .f32⟩
  | .hbm, ⟨91, _⟩ => ⟨S2x4x4096, .f32⟩
  | .hbm, ⟨92, _⟩ => ⟨S2x4x4096x1, .f32⟩
  | .hbm, ⟨93, _⟩ => ⟨S2x4x4096x4096, .f32⟩
  | .hbm, ⟨94, _⟩ => ⟨S2x4x4096x4096, .f32⟩
  | .hbm, ⟨95, _⟩ => ⟨S2x4x64x4096, .f32⟩
  | .hbm, ⟨96, _⟩ => ⟨S2x4096x4x64, .f32⟩
  | .hbm, ⟨97, _⟩ => ⟨S2x4096x256, .f32⟩
  | .hbm, ⟨98, _⟩ => ⟨S2x4096x768, .f32⟩
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Same.lean ====
/-
  The kernel as printed and the kernel over the reals are one program at the bits, where the named
  constant reads as its printed word.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem Idealize.ShloMosaic.TcCoe

/-- The bits' reading of a named constant: the word it was printed with. -/
@[reducible] def named_bits : Named Bits where
  named _ _ {φ} bits := Scalar.ofBits φ bits

attribute [local instance] named_bits
attribute [local instance] Cert.Kernel.Gen.facts Cert.KernelIdeal.Gen.facts

theorem lit0_same : Cert.KernelIdeal.lit0 = Cert.Kernel.lit0 := rfl

set_option maxRecDepth 65536 in
set_option maxHeartbeats 2000000 in
theorem body_same : Cert.KernelIdeal.cc0_body (F := Bits) = Cert.Kernel.cc0_body (F := Bits) := by
  unfold Cert.KernelIdeal.cc0_body Cert.Kernel.cc0_body
  rfl

theorem defs₀_same : Cert.KernelIdeal.defs₀ (F := Bits) = Cert.Kernel.defs₀ (F := Bits) := by
  refine congrArg Defs.onTc (funext fun l => funext fun a => ?_)
  obtain ⟨l, h⟩ := l
  cases l with
  | zero =>
    dsimp only
    rw [body_same]
  | succ l => exact absurd h (Nat.not_lt.2 (Nat.le_add_left _ _))

set_option maxRecDepth 65536 in
set_option maxHeartbeats 2000000 in
theorem defs_same : Cert.KernelIdeal.defs (F := Bits) = Cert.Kernel.defs (F := Bits) := by
  unfold Cert.KernelIdeal.defs Cert.Kernel.defs
  rw [defs₀_same]
  rfl

set_option maxRecDepth 65536 in
set_option maxHeartbeats 2000000 in
theorem main_same : Cert.KernelIdeal.main (F := Bits) = Cert.Kernel.main (F := Bits) := by
  unfold Cert.KernelIdeal.main Cert.Kernel.main
  rw [lit0_same]
  rfl

end Cert.Proof

end
-- ==== Proof.Proto.lean ====
/-
  The protocol of the sixteen-device kernel, before any run: its cells, the
  slots its copies move between, what each slot holds, the rounds schedule.

  Device c stages eight (batch, head) pieces. Piece n goes to the two devices
  n and 8+n (keys and values, slot c of their kvbuf) and to the one of them in
  c's half (queries, slot c%8 of its qbuf). The contexts go back by the same
  rule. Before the first copy every device signals every device once, which
  hands the signalled device the slots it will write on the signaller.
-/
module

public import proofs.«01_k».proof.Proof.Gen.KernelIdeal.Skeleton
public import proofs.«01_k».proof.Proof.Gen.KernelIdeal.Launch
public import Idealize.ShloMosaic.Lib.Pipeline.RegionTalk
public import Idealize.ShloMosaic.Lib.Rounds
public import Idealize.ShloMosaic.Lib.MemrefSat
public import Idealize.ShloMosaic.Lib.ValueIdx

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## Devices -/

/-- The device of `c`'s half that serves head `j`. -/
def mate (c : Dev nD) (j : Fin 8) : Dev nD := ⟨8 * (c.val / 8) + j.val, by have := c.isLt; have := j.isLt; simp only [nD] at *; omega⟩
/-- The head (and place in its half) of device `c`. -/
def lo (c : Dev nD) : Fin 8 := ⟨c.val % 8, Nat.mod_lt _ (by decide)⟩
theorem lo_mate (c : Dev nD) (j : Fin 8) : lo (mate c j) = j := by revert c j; decide
theorem mate_mate (c : Dev nD) (j : Fin 8) : mate (mate c j) (lo c) = c := by revert c j; decide

/-! ## The slots -/

/-- The four scratch buffers of eight slots have one shape; the window slices' bounds at a named slot. -/
theorem inb4 {n : ℕ} (i : Fin n) : ∀ a, (![i.val, 0, 0, 0] : Fin 4 → ℕ) a + S1x2x256x64.size a ≤ (⟨4, ![n, 2, 256, 64]⟩ : Shape).size a := by
  have := i.isLt; intro a; fin_cases a <;> simp [S1x2x256x64] <;> omega
theorem inb3 {n : ℕ} (i : Fin n) : ∀ a, (![i.val, 0, 0] : Fin 3 → ℕ) a + S1x256x64.size a ≤ (⟨3, ![n, 256, 64]⟩ : Shape).size a := by
  have := i.isLt; intro a; fin_cases a <;> simp [S1x256x64] <;> omega

/-- Slot `i` of the staged keys and values, of the received ones; slot `i` of a buffer of queries or contexts. -/
abbrev stM (i : Fin 8) : Memref sig .tc .vmem S2x256x64 .bf16 :=
  ((Memref.whole cc0_scratch0).slice (Rect.unit (s := S8x2x256x64) ![i.val, 0, 0, 0] S1x2x256x64.size (inb4 i)) (fun _ => rfl)).squeeze S2x256x64 squeezes_S1x2x256x64_S2x256x64
abbrev kvM (i : Fin 16) : Memref sig .tc .vmem S2x256x64 .bf16 :=
  ((Memref.whole cc0_scratch3).slice (Rect.unit (s := S16x2x256x64) ![i.val, 0, 0, 0] S1x2x256x64.size (inb4 i)) (fun _ => rfl)).squeeze S2x256x64 squeezes_S1x2x256x64_S2x256x64
abbrev qsM (i : Fin 8) : Memref sig .tc .vmem S256x64 .bf16 :=
  ((Memref.whole cc0_scratch1).slice (Rect.unit (s := S8x256x64) ![i.val, 0, 0] S1x256x64.size (inb3 i)) (fun _ => rfl)).squeeze S256x64 squeezes_S1x256x64_S256x64
abbrev csM (i : Fin 8) : Memref sig .tc .vmem S256x64 .bf16 :=
  ((Memref.whole cc0_scratch2).slice (Rect.unit (s := S8x256x64) ![i.val, 0, 0] S1x256x64.size (inb3 i)) (fun _ => rfl)).squeeze S256x64 squeezes_S1x256x64_S256x64
abbrev qbM (i : Fin 8) : Memref sig .tc .vmem S256x64 .bf16 :=
  ((Memref.whole cc0_scratch4).slice (Rect.unit (s := S8x256x64) ![i.val, 0, 0] S1x256x64.size (inb3 i)) (fun _ => rfl)).squeeze S256x64 squeezes_S1x256x64_S256x64
abbrev cbM (i : Fin 8) : Memref sig .tc .vmem S256x64 .bf16 :=
  ((Memref.whole cc0_scratch5).slice (Rect.unit (s := S8x256x64) ![i.val, 0, 0] S1x256x64.size (inb3 i)) (fun _ => rfl)).squeeze S256x64 squeezes_S1x256x64_S256x64

/-- A slot of keys and values counts `NK` on a transfer's semaphore, one of queries or contexts `NQ`. -/
def NK : ℕ := (kvM 0).view.dmaCredit
def NQ : ℕ := (qbM 0).view.dmaCredit
theorem NK_pos : 0 < NK := View.dmaCredit_pos _ (by decide)
theorem NQ_pos : 0 < NQ := View.dmaCredit_pos _ (by decide)

/-! ## The cells -/

/-- The kinds of cell on one device. -/
inductive Ch where
  | bar | kvs (n : Fin 8) (h : Fin 2) | kvr (s : Fin 16) | qs (n : Fin 8) | qr (j : Fin 8) | cs (n : Fin 8) | cr (j : Fin 8)
  deriving DecidableEq, Fintype

/-- The number of a kind's semaphore: the barrier's apart, the others in the order the kernel allocates them. -/
def semNo : Ch → ℕ
  | .bar => 0 | .kvs n h => 9 + (2 * n.val + h.val) | .kvr s => 25 + s.val | .qs n => 41 + n.val | .qr n => 49 + n.val
  | .cs n => 57 + n.val | .cr n => 65 + n.val
theorem semNo_lt (k : Ch) : semNo k < 73 := by cases k <;> simp only [semNo] <;> omega

/-- A kind's semaphore. -/
def semOf (k : Ch) : SemLoc sig := if k = .bar then .reg (sig.barrier 0 rfl) else .dma ⟨semNo k, semNo_lt k⟩

theorem semOf_inj : Function.Injective semOf := fun a b h => by
  have hn : ∀ k : Ch, k ≠ .bar → 9 ≤ semNo k := by intro k hk; cases k <;> simp [semNo] at * <;> omega
  unfold semOf at h
  by_cases ha : a = .bar <;> by_cases hb : b = .bar
  · rw [ha, hb]
  · rw [if_pos ha, if_neg hb] at h; exact absurd h (by simp)
  · rw [if_neg ha, if_pos hb] at h; exact absurd h (by simp)
  · rw [if_neg ha, if_neg hb] at h
    have h' : semNo a = semNo b := congrArg Fin.val (SemLoc.dma.inj h)
    cases a <;> cases b <;> simp only [semNo, Ch.kvs.injEq, Ch.kvr.injEq, Ch.qs.injEq, Ch.qr.injEq, Ch.cs.injEq, Ch.cr.injEq, Fin.ext_iff, reduceCtorEq] at * <;> omega

/-- Device `c`'s cell of a kind. -/
abbrev cell (c : Dev nD) (k : Ch) : GSem nD τ sig := ((c : Thread nD τ), semOf k)

theorem cell_inj : Function.Injective fun p : Dev nD × Ch => cell p.1 p.2 := fun a b h => by
  obtain ⟨h1, h2⟩ := Prod.mk.inj h
  exact Prod.ext (Prod.mk.inj h1).1 (semOf_inj h2)

/-- The kind of a semaphore that has one. -/
def kindOf : SemLoc sig → Option Ch := Function.partialInv semOf
theorem kindOf_semOf (k : Ch) : kindOf (semOf k) = some k := Function.partialInv_left semOf_inj k

/-- The level of a cell of a kind: a device waits on a cell only while it owes at higher levels. -/
def chLev : Ch → ℕ
  | .bar => 1 | .kvr _ => 2 | .qr _ => 2 | .cr _ => 3 | _ => 0
def lv (g : GSem nD τ sig) (_ : Unit) : ℕ := match kindOf g.2 with | some k => chLev k | none => 0

/-! ## What the buffers hold -/

/-- What the eight input windows of one device hold. -/
structure Ins (F : FTy → Type) where
  x : Vec F S512x768 .bf16
  wq : Vec F S768x256 .bf16
  wk : Vec F S768x256 .bf16
  wv : Vec F S768x256 .bf16
  wo : Vec F S256x768 .bf16
  cos : Vec F S512x256 .f32
  sin : Vec F S512x256 .f32
  rot : Vec F S256x256 .bf16

variable (ins : Dev nD → Ins F)

/-- The rotated queries and keys and the values of one device's rows. -/
def q2 (i : Ins F) : FVec F S512x256 .bf16 := k0_pay2 i.x i.rot i.wq i.cos i.sin
def k2 (i : Ins F) : FVec F S512x256 .bf16 := k0_pay3 i.x i.rot i.wk i.cos i.sin
def v2 (i : Ins F) : FVec F S512x256 .bf16 := k0_pay4 (k0_pay1 i.x) i.wv

/-- The pieces a device stages: keys, values, queries of (batch, head) `n`. -/
def kP (i : Ins F) : Fin 8 → FVec F S1x1x256x64 .bf16
  | 0 => k0_pay5 (k2 i) | 1 => k0_pay8 (k2 i) | 2 => k0_pay12 (k0_pay11 (k2 i)) | 3 => k0_pay15 (k2 i)
  | 4 => k0_pay18 (k2 i) | 5 => k0_pay22 (k2 i) | 6 => k0_pay25 (k2 i) | 7 => k0_pay28 (k2 i)
def vP (i : Ins F) : Fin 8 → FVec F S1x1x256x64 .bf16
  | 0 => k0_pay6 (k0_pay1 i.x) i.wv | 1 => k0_pay9 (k0_pay1 i.x) i.wv | 2 => k0_pay13 (v2 i) | 3 => k0_pay16 (v2 i)
  | 4 => k0_pay20 (k0_pay19 (v2 i)) | 5 => k0_pay23 (v2 i) | 6 => k0_pay26 (v2 i) | 7 => k0_pay29 (v2 i)
def qP (i : Ins F) : Fin 8 → FVec F S1x256x64 .bf16
  | 0 => k0_pay7 (q2 i) | 1 => k0_pay10 (q2 i) | 2 => k0_pay14 (q2 i) | 3 => k0_pay17 (q2 i)
  | 4 => k0_pay21 (q2 i) | 5 => k0_pay24 (q2 i) | 6 => k0_pay27 (q2 i) | 7 => k0_pay30 (q2 i)

/-- Keys over values: what a slot of two pieces holds. -/
def pair (k v : FVec F S1x1x256x64 .bf16) : Vec F S1x2x256x64 .bf16 :=
  fun y => if (y 1).val = 0 then k (ValueIdx.ix4 0 0 (y 2) (y 3)) else v (ValueIdx.ix4 0 0 (y 2) (y 3))

/-- The queries device `d` receives, all of its half's rows. -/
def qf (d : Dev nD) : FVec F S2048x64 .bf16 :=
  let Q := fun j : Fin 8 => qP (ins (mate d j)) (lo d)
  k0_pay33 (k0_pay31 (Q 0)) (k0_pay32 (Q 1)) (Q 2) (Q 3) (Q 4) (Q 5) (Q 6) (Q 7)
/-- The keys and the values device `d` receives from device `s`. -/
def kR (d s : Dev nD) : FVec F S1x1x256x64 .bf16 := kP (ins s) (lo d)
def vR (d s : Dev nD) : FVec F S1x1x256x64 .bf16 := vP (ins s) (lo d)

def z512 : FVec F S2048x512 .f32 := constant S2048x512 .f32 0x00000000#32

/-- The running sum of the weights (`l`) and of the weighted values (`a`) on device `d` after each pair of sources. -/
def l1 (d : Dev nD) := k0_pay35 (qf ins d) (kR ins d 0) (kR ins d 1)
def a1 (d : Dev nD) := k0_pay36 (qf ins d) (kR ins d 0) (kR ins d 1) (vR ins d 0) (vR ins d 1)
def l2 (d : Dev nD) := k0_pay40 (qf ins d) (l1 ins d) (k0_pay37 (kR ins d 2) (kR ins d 3)) z512
def a2 (d : Dev nD) := k0_pay41 (qf ins d) (a1 ins d) (k0_pay37 (kR ins d 2) (kR ins d 3)) (k0_pay38 (vR ins d 2) (vR ins d 3)) z512
def l3 (d : Dev nD) := k0_pay43 (qf ins d) (l2 ins d) (kR ins d 4) (kR ins d 5)
def a3 (d : Dev nD) := k0_pay44 (qf ins d) (a2 ins d) (kR ins d 4) (kR ins d 5) (vR ins d 4) (vR ins d 5)
def l4 (d : Dev nD) := k0_pay46 (qf ins d) (l3 ins d) (kR ins d 6) (kR ins d 7)
def d4 (d : Dev nD) := k0_pay47 (qf ins d) (kR ins d 6) (kR ins d 7) (vR ins d 6) (vR ins d 7)
def a4 (d : Dev nD) := k0_pay48 (a3 ins d) (d4 ins d)
def l5 (d : Dev nD) := k0_pay51 (qf ins d) (l4 ins d) (k0_pay49 (kR ins d 8) (kR ins d 9))
def a5 (d : Dev nD) := k0_pay52 (qf ins d) (a4 ins d) (k0_pay49 (kR ins d 8) (kR ins d 9)) (vR ins d 8) (vR ins d 9)
def l6 (d : Dev nD) := k0_pay54 (qf ins d) (l5 ins d) (kR ins d 10) (kR ins d 11)
def a6 (d : Dev nD) := k0_pay55 (qf ins d) (a5 ins d) (kR ins d 10) (kR ins d 11) (vR ins d 10) (vR ins d 11)
def l7 (d : Dev nD) := k0_pay59 (qf ins d) (l6 ins d) (k0_pay56 (kR ins d 12) (kR ins d 13)) z512
def a7 (d : Dev nD) := k0_pay60 (qf ins d) (a6 ins d) (k0_pay56 (kR ins d 12) (kR ins d 13)) (k0_pay57 (vR ins d 12) (vR ins d 13)) z512
/-- The context rows device `d` computes. -/
def cx (d : Dev nD) : FVec F S2048x64 .bf16 :=
  k0_pay61 (qf ins d) (l7 ins d) (a7 ins d) (kR ins d 14) (kR ins d 15) (vR ins d 14) (vR ins d 15)
/-- The context piece device `d` sends to the device at place `j` of its half. -/
def cP (d : Dev nD) : Fin 8 → FVec F S1x256x64 .bf16
  | 0 => k0_pay62 (qf ins d) (l7 ins d) (a7 ins d) (kR ins d 14) (kR ins d 15) (vR ins d 14) (vR ins d 15)
  | 1 => k0_pay63 (cx ins d) | 2 => k0_pay64 (cx ins d) | 3 => k0_pay65 (cx ins d) | 4 => k0_pay66 (cx ins d)
  | 5 => k0_pay67 (cx ins d) | 6 => k0_pay68 (cx ins d) | 7 => k0_pay69 (cx ins d)
/-- The context pieces device `c` receives, and what it stores to the result. -/
def cR (c : Dev nD) (j : Fin 8) : FVec F S1x256x64 .bf16 := cP ins (mate c j) (lo c)
def outC (c : Dev nD) : FVec F S512x768 .f32 :=
  k0_pay74 (k0_pay70 (cR ins c 0) (cR ins c 1) (cR ins c 2) (cR ins c 3)) (k0_pay71 (cR ins c 4)) (k0_pay72 (cR ins c 5)) (k0_pay73 (cR ins c 6))
    (cR ins c 7) (ins c).wo

/-- Slot contents as the transfers read them. -/
def kvC (c : Dev nD) (n : Fin 8) : Vec F S2x256x64 .bf16 := shapeCast S2x256x64 (pair (kP (ins c) n) (vP (ins c) n)) squeezes_S1x2x256x64_S2x256x64.numel_eq.symm
def qC (c : Dev nD) (n : Fin 8) : Vec F S256x64 .bf16 := shapeCast S256x64 (qP (ins c) n) squeezes_S1x256x64_S256x64.numel_eq.symm
def cC (c : Dev nD) (n : Fin 8) : Vec F S256x64 .bf16 := shapeCast S256x64 (cP ins c n) squeezes_S1x256x64_S256x64.numel_eq.symm

/-! ## The resource algebra and the schedule -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-- A memref's elements on device `c` at contents not chosen. -/
def anyOf (c : Dev nD) {s : Shape} {e : EltTy} (M : Memref sig .tc .vmem s e) : sProp 𝕄 :=
  iprop(∃ f, (M.view.loc (c : Thread nD τ) ↦[M.view.set]{fullShare} f))

instance anyOf_storable (c : Dev nD) {s : Shape} {e : EltTy} (M : Memref sig .tc .vmem s e) :
    BI.Storable (upEmb : UEmb _ 𝕄) (anyOf (F := F) c M) := by unfold anyOf; infer_instance

/-- What `p` hands `c` in signalling it: the slots `c` writes on `p`, and that their cells are open. -/
def barPay (p c : Dev nD) : sProp 𝕄 :=
  iprop((anyOf p (kvM c) ∗ reached ER (cell p (.kvr c)) 0)
    ∗ if p.val / 8 = c.val / 8 then iprop((anyOf p (qbM (lo c)) ∗ reached ER (cell p (.qr (lo c))) 0)
        ∗ (anyOf p (cbM (lo c)) ∗ reached ER (cell p (.cr (lo c))) 0)) else iprop(emp))

instance barPay_storable (p c : Dev nD) : BI.Storable (upEmb : UEmb _ 𝕄) (barPay (F := F) p c) := by
  unfold barPay; split <;> infer_instance

/-- The share of a staged slot that each of its two copies reads. -/
def hs : Fin 2 → PosShare TreeShare | 0 => fullShare.left | 1 => fullShare.right

/-- What the transfer (or the signal of `d`) that pays a cell of device `c` leaves there. -/
def pay (c d : Dev nD) : Ch → sProp 𝕄
  | .bar => barPay d c
  | .kvs n h => owns (c : Thread nD τ) (stM n) (hs h) (kvC ins c n)
  | .kvr s => owns (c : Thread nD τ) (kvM s) fullShare (kvC ins s (lo c))
  | .qs n => owns (c : Thread nD τ) (qsM n) fullShare (qC ins c n)
  | .qr j => owns (c : Thread nD τ) (qbM j) fullShare (qC ins (mate c j) (lo c))
  | .cs n => owns (c : Thread nD τ) (csM n) fullShare (cC ins c n)
  | .cr j => owns (c : Thread nD τ) (cbM j) fullShare (cC ins (mate c j) (lo c))

instance pay_storable (c d : Dev nD) (k : Ch) : BI.Storable (upEmb : UEmb _ 𝕄) (pay ins c d k) := by
  cases k <;> unfold pay <;> infer_instance

def amt : Ch → ℕ | .bar => 1 | .kvs _ _ => NK | .kvr _ => NK | _ => NQ
theorem amt_pos (k : Ch) : 0 < amt k := by cases k <;> first | exact Nat.one_pos | exact NK_pos | exact NQ_pos

def dut : Ch → Finset (Dev nD) | .bar => Finset.univ | _ => {0}

/-- One round on every cell. -/
def Rd : Rounds.Schedule (GSem nD τ sig) (Dev nD) 𝕄 where
  duties g r := if r = 0 ∧ g.1.2 = .tc then (match kindOf g.2 with | some k => dut k | none => ∅) else ∅
  unitless _ := False
  amount g _ _ := match kindOf g.2 with | some k => amt k | none => 1
  payload g _ d := match kindOf g.2 with | some k => pay ins g.1.1 d k | none => iprop(emp)
  amount_pos g _ _ _ := by split; exacts [amt_pos _, Nat.one_pos]

instance Rd_storable (g : GSem nD τ sig) (r : ℕ) (d : Dev nD) : BI.Storable (upEmb : UEmb _ 𝕄) ((Rd ins).payload g r d) := by
  show BI.Storable upEmb (match kindOf g.2 with | some k => pay ins g.1.1 d k | none => iprop(emp))
  split <;> infer_instance

theorem Rd_duties (c : Dev nD) (k : Ch) : (Rd ins).duties (cell c k) 0 = dut k := by
  show (if (0 : ℕ) = 0 ∧ (c : Thread nD τ).2 = .tc then (match kindOf (semOf k) with | some k => dut k | none => ∅) else ∅) = _
  rw [if_pos ⟨rfl, rfl⟩, kindOf_semOf]
theorem Rd_duties_later (g : GSem nD τ sig) : ∀ r, 1 ≤ r → (Rd ins).duties g r = ∅ := fun r hr =>
  if_neg (fun h => by omega)
theorem Rd_amount (c : Dev nD) (k : Ch) (r : ℕ) (d : Dev nD) : (Rd ins).amount (cell c k) r d = amt k := by
  show (match kindOf (semOf k) with | some k => amt k | none => 1) = _; rw [kindOf_semOf]
theorem Rd_payload (c : Dev nD) (k : Ch) (r : ℕ) (d : Dev nD) : (Rd ins).payload (cell c k) r d = pay ins c d k := by
  show (match kindOf (semOf k) with | some k => pay ins c d k | none => iprop(emp)) = _; rw [kindOf_semOf]
theorem Rd_expect (c : Dev nD) (k : Ch) : (Rd ins).expect (cell c k) 0 = ∑ _d ∈ dut k, amt k := by
  unfold Schedule.expect Schedule.amountOf; rw [Rd_duties]; exact Finset.sum_congr rfl fun d _ => Rd_amount ins c k 0 d
theorem Rd_rest (c : Dev nD) (k : Ch) :
    bigSep ((Rd ins).duties (cell c k) 0 \ ∅) (fun u => (Rd ins).payload (cell c k) 0 u) = bigSep (dut k) (fun d => pay ins c d k) := by
  rw [Finset.sdiff_empty, Rd_duties]; exact bigSep_congr fun d _ => Rd_payload ins c k 0 d

end Cert.KernelIdeal.Attn
-- ==== Proof.Steps.lean ====
/-
  One channel of the protocol at a time: the state a device holds of it while
  it sends, receives and waits, and the step each of those operations takes.
-/
module

public import proofs.«01_k».proof.Proof.Proto

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Families taken and returned in order -/

section Seg

variable {n : ℕ}

/-- The members whose place in the order `o` lies from `a` up to `b`. -/
def span (o : Fin n → ℕ) (a b : ℕ) : Finset (Fin n) := Finset.univ.filter fun i => a ≤ o i ∧ o i < b

theorem span_pop {o : Fin n → ℕ} (ho : Function.Injective o) {b : ℕ} (i : Fin n) (hb : o i < b) :
    i ∉ span o (o i + 1) b ∧ span o (o i) b = insert i (span o (o i + 1) b) := by
  refine ⟨by simp [span], Finset.ext fun j => ?_⟩
  simp only [span, Finset.mem_filter, Finset.mem_univ, true_and, Finset.mem_insert]
  refine ⟨fun h => ?_, fun h => ?_⟩
  · by_cases hji : j = i
    · exact Or.inl hji
    · have : o j ≠ o i := fun e => hji (ho e)
      exact Or.inr ⟨by omega, h.2⟩
  · rcases h with rfl | h
    · exact ⟨le_refl _, hb⟩
    · exact ⟨by omega, h.2⟩

theorem span_push {o : Fin n → ℕ} (ho : Function.Injective o) {a : ℕ} (i : Fin n) (ha : a ≤ o i) :
    i ∉ span o a (o i) ∧ span o a (o i + 1) = insert i (span o a (o i)) := by
  refine ⟨by simp [span], Finset.ext fun j => ?_⟩
  simp only [span, Finset.mem_filter, Finset.mem_univ, true_and, Finset.mem_insert]
  refine ⟨fun h => ?_, fun h => ?_⟩
  · by_cases hji : j = i
    · exact Or.inl hji
    · have : o j ≠ o i := fun e => hji (ho e)
      exact Or.inr ⟨h.1, by omega⟩
  · rcases h with rfl | h
    · exact ⟨ha, by omega⟩
    · exact ⟨h.1, by omega⟩

theorem span_all {o : Fin n → ℕ} {b : ℕ} (hb : ∀ i, o i < b) : span o 0 b = Finset.univ := by
  ext i; simp [span, hb i]
theorem span_none {o : Fin n → ℕ} {a b : ℕ} (h : b ≤ a) : span o a b = ∅ := by
  ext i; simp [span]; omega

variable {M : Type} [URA M]

theorem seg_pop {o : Fin n → ℕ} (ho : Function.Injective o) {b : ℕ} (i : Fin n) (hb : o i < b) (Φ : Fin n → sProp M) :
    bigSep (span o (o i) b) Φ = iprop(Φ i ∗ bigSep (span o (o i + 1) b) Φ) := by
  obtain ⟨h1, h2⟩ := span_pop ho i hb; rw [h2, bigSep_insert h1]; rfl
theorem seg_push {o : Fin n → ℕ} (ho : Function.Injective o) {a : ℕ} (i : Fin n) (ha : a ≤ o i) (Φ : Fin n → sProp M) :
    bigSep (span o a (o i + 1)) Φ = iprop(Φ i ∗ bigSep (span o a (o i)) Φ) := by
  obtain ⟨h1, h2⟩ := span_push ho i ha; rw [h2, bigSep_insert h1]; rfl
theorem seg_pick {o : Fin n → ℕ} {a b : ℕ} (i : Fin n) (ha : a ≤ o i) (hb : o i < b) (Φ : Fin n → sProp M) :
    bigSep (span o a b) Φ = iprop(Φ i ∗ bigSep ((span o a b).erase i) Φ) :=
  bigSep_erase (by simp [span, ha, hb])

end Seg

/-! ## What is owed -/

/-- The levels are of the TensorCore's cells. -/
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Ch) (u : Unit) : lv (cell c k) u = chLev k := by
  unfold lv; rw [kindOf_semOf]

/-- Everything owed lies above the level `b`. -/
def Above (b : ℕ) (O : CellTallies nD τ sig Unit) : Prop := ∀ (g : GSem nD τ sig) (u : Unit), 0 < O g u → g.1.2 = .tc ∧ b < lv g u

theorem Above.zero (b : ℕ) : Above b 0 := fun _ _ h => absurd h (Nat.lt_irrefl 0)
theorem Above.add {b : ℕ} {O P : CellTallies nD τ sig Unit} (hO : Above b O) (hP : Above b P) : Above b (O + P) := fun g u h => by
  have h' : 0 < O g u + P g u := h
  rcases (by omega : 0 < O g u ∨ 0 < P g u) with h | h
  · exact hO g u h
  · exact hP g u h
theorem Above.tally {b : ℕ} (c : Dev nD) (k : Ch) (n : ℕ) (h : b < chLev k) : Above b (tallyAt (cell c k) () n) := fun g u hg => by
  rw [tallyAt_apply] at hg
  by_cases hc : g = cell c k ∧ u = ()
  · rw [hc.1, lv_cell]; exact ⟨rfl, h⟩
  · rw [if_neg hc] at hg; exact absurd hg (Nat.lt_irrefl 0)
theorem Above.sum {b : ℕ} {I : Type} (s : Finset I) (f : I → CellTallies nD τ sig Unit) (h : ∀ i ∈ s, Above b (f i)) : Above b (∑ i ∈ s, f i) :=
  Finset.sum_induction f (Above b) (fun _ _ => Above.add) (Above.zero b) h

theorem Above.mayWait {k : Ch} {O : CellTallies nD τ sig Unit} (c : Dev nD) (h : Above (chLev k) O) :
    (levAts L lv : sProp 𝕄) ⊢ MayWait (c : Thread nD τ) (semOf k) () O :=
  MayOwe.of_cut (L := L) (lev := lv) (chLev k) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact (lv_cell c k ()).le)
    (fun g u hg => (h g u hg).2)

abbrev 𝒱₀ : Variants := Variants.none

variable (ins : Dev nD → Ins F) (κ : GSem nD τ sig → ℕ)

/-- What every device knows throughout: the cells' invariants, that the barrier cells and its own are open, the levels. -/
def Ctx (c : Dev nD) : sProp 𝕄 :=
  iprop(bigSep Finset.univ (fun p : Dev nD × Ch => cellInv ER (Rd ins) (κ (cell p.1 p.2)) (cell p.1 p.2))
    ∗ bigSep Finset.univ (fun p : Dev nD => reached ER (cell p .bar) 0)
    ∗ bigSep Finset.univ (fun k : Ch => reached ER (cell c k) 0)
    ∗ levAts L lv)

instance Ctx_persistent (c : Dev nD) : BI.Persistent (Ctx ins κ c) := by unfold Ctx; infer_instance

theorem Ctx_inv (c p : Dev nD) (k : Ch) : Ctx ins κ c ⊢ cellInv ER (Rd ins) (κ (cell p k)) (cell p k) := by
  unfold Ctx
  iintro ⟨H, -⟩
  iapply (show (bigSep Finset.univ (fun p : Dev nD × Ch => cellInv ER (Rd ins) (κ (cell p.1 p.2)) (cell p.1 p.2)) : sProp 𝕄)
    ⊢ cellInv ER (Rd ins) (κ (cell p k)) (cell p k) from bigSep_elim (i := (p, k)) (Finset.mem_univ _)) $$ H
theorem Ctx_bar (c p : Dev nD) : Ctx ins κ c ⊢ reached ER (cell p .bar) 0 := by
  unfold Ctx
  iintro ⟨-, H, -⟩
  iapply (show (bigSep Finset.univ (fun p : Dev nD => reached ER (cell p .bar) 0) : sProp 𝕄) ⊢ reached ER (cell p .bar) 0
    from bigSep_elim (i := p) (Finset.mem_univ _)) $$ H
theorem Ctx_own (c : Dev nD) (k : Ch) : Ctx ins κ c ⊢ reached ER (cell c k) 0 := by
  unfold Ctx
  iintro ⟨-, -, H, -⟩
  iapply (show (bigSep Finset.univ (fun k : Ch => reached ER (cell c k) 0) : sProp 𝕄) ⊢ reached ER (cell c k) 0
    from bigSep_elim (i := k) (Finset.mem_univ _)) $$ H
theorem Ctx_lev (c : Dev nD) : Ctx ins κ c ⊢ levAts L lv := by
  unfold Ctx
  iintro ⟨-, -, -, H⟩
  iexact H

/-! ## A channel -/

/-- One of the three exchanges (keys and values, queries, contexts), as device `c` sees it: `n` messages out in
    the order `o`, `n` messages in. -/
structure Chan (c : Dev nD) where
  n : ℕ
  s : Shape
  o : Fin n → ℕ
  o_inj : Function.Injective o
  /-- the device message `i` goes to, the cell it credits there, the cell it credits here, the cell message `i` in credits -/
  tgt : Fin n → Dev nD
  rK : Ch
  sK : Fin n → Ch
  gK : Fin n → Ch
  /-- the slot message `i` leaves, the slot it lands in, the slot message `i` in lands in -/
  sM : Fin n → Memref sig .tc .vmem s .bf16
  dM : Memref sig .tc .vmem s .bf16
  gM : Fin n → Memref sig .tc .vmem s .bf16
  sh : Fin n → PosShare TreeShare
  X : Fin n → Vec F s .bf16
  Y : Fin n → Vec F s .bf16
  N : ℕ
  hs : ∀ i, pay ins c 0 (sK i) = owns (c : Thread nD τ) (sM i) (sh i) (X i)
  hr : ∀ i, pay ins (tgt i) 0 rK = owns (tgt i : Thread nD τ) dM fullShare (X i)
  hg : ∀ i, pay ins c 0 (gK i) = owns (c : Thread nD τ) (gM i) fullShare (Y i)
  ds : ∀ i, dut (sK i) = {0}
  dr : dut rK = {0}
  dg : ∀ i, dut (gK i) = {0}
  aS : ∀ i, amt (sK i) = N
  aR : amt rK = N
  aG : ∀ i, amt (gK i) = N
  hN : dM.view.amount (semOf rK) = N

variable {ins} {c : Dev nD} (C : Chan ins c)

/-- What the channel's messages from place `a` on still owe their targets. -/
def Chan.owed (a : ℕ) : CellTallies nD τ sig Unit := ∑ i ∈ span C.o a C.n, tallyAt (cell (C.tgt i) C.rK) () C.N

theorem Chan.owed_pop (i : Fin C.n) (hi : C.o i < C.n) :
    C.owed (C.o i) = C.owed (C.o i + 1) + tallyAt (cell (C.tgt i) C.rK) () C.N := by
  obtain ⟨h1, h2⟩ := span_pop C.o_inj i hi
  unfold Chan.owed; rw [h2, Finset.sum_insert h1, add_comm]

theorem Chan.owed_above {b : ℕ} (a : ℕ) (h : b < chLev C.rK) : Above b (C.owed a) :=
  Above.sum _ _ fun _ _ => Above.tally _ _ _ h

/-- The channel with `a` messages sent, `a'` prepared, `g` received and `w` sends waited for. -/
def ChSt (a a' g w : ℕ) : sProp 𝕄 :=
  iprop(bigSep (span C.o a C.n) (fun i => iprop(dutyTok ER (cell (C.tgt i) C.rK) 0 (0 : Dev nD) ∗ dutyTok ER (cell c (C.sK i)) 0 (0 : Dev nD)))
    ∗ bigSep (span C.o a C.n) (fun i => iprop(anyOf (F := F) (C.tgt i) C.dM ∗ reached ER (cell (C.tgt i) C.rK) 0))
    ∗ bigSep (span C.o a a') (fun i => owns (c : Thread nD τ) (C.sM i) (C.sh i) (C.X i))
    ∗ bigSep (span C.o w a) (fun i => cred (tallyAt (cell c (C.sK i)) () C.N))
    ∗ bigSep (span C.o w C.n) (fun i => atPos ER (cell c (C.sK i)) 0 (∅ : Finset (Dev nD)) 0)
    ∗ bigSep (span C.o 0 w) (fun i => iprop(atPos ER (cell c (C.sK i)) 1 (∅ : Finset (Dev nD)) 0 ∗ owns (c : Thread nD τ) (C.sM i) (C.sh i) (C.X i)))
    ∗ bigSep (span Fin.val g C.n) (fun i => iprop(atPos ER (cell c (C.gK i)) 0 (∅ : Finset (Dev nD)) 0 ∗ cred (tallyAt (cell c (C.gK i)) () C.N)))
    ∗ bigSep (span Fin.val 0 g) (fun i => iprop(atPos ER (cell c (C.gK i)) 1 (∅ : Finset (Dev nD)) 0 ∗ owns (c : Thread nD τ) (C.gM i) fullShare (C.Y i))))

variable {Λ : Labels} {defs : Defs nD τ sig (Elt F) Λ} {α : Type}

/-- SEND message `i`. -/
theorem Chan.send (i : Fin C.n) {a a' g w : ℕ} (ha : C.o i = a) (hb : a < C.n) (hb' : a < a') (hw : w ≤ a) {D : Dev nD}
    {src dst : Memref sig .tc .vmem C.s .bf16} {sS sem : SemLoc sig}
    {hsc : dst.view.ref.isScScratch = false} {h₁ : src.view.WordExact} {h₂ : dst.view.WordExact}
    {h₃ : DmaTarget.Typed .vmem sem (.remote (Dev.tc D : Thread nD τ) dst sS hsc)}
    (hD : D = C.tgt i) (hs : src = C.sM i) (hd : dst = C.dM) (hsS : sS = semOf (C.sK i)) (hsem : sem = semOf C.rK)
    (O : CellTallies nD τ sig Unit) (W : Waits sig Unit) {k : PUnit → Prog (TpuEff nD τ sig (Elt F) Λ .tc) α} {Q : α → sProp 𝕄} :
    iprop(Ctx ins κ c ∗ owes (c : Thread nD τ) (C.owed a + O) W ∗ ChSt C a a' g w
        ∗ ((owes (c : Thread nD τ) (C.owed (a + 1) + O) W ∗ ChSt C (a + 1) a' g w) -∗ wp frame (wpE defs 𝒱₀ c none) Set.univ (k ⟨⟩) Q))
      ⊢ wp frame (wpE defs 𝒱₀ (c : Thread nD τ) none) Set.univ
          (.op (.enqueueDma src (.remote (Dev.tc D : Thread nD τ) dst sS hsc) sem h₁ h₂ h₃) k) Q := by
  subst ha hD hs hd hsS hsem
  unfold ChSt
  rw [seg_pop C.o_inj i hb, seg_pop C.o_inj i hb, seg_pop C.o_inj i hb', seg_push C.o_inj i hw]
  iintro ⟨#HC, HO, ⟨⟨⟨Ht1, Ht2⟩, T1⟩, ⟨⟨Hd, #Hr⟩, T2⟩, ⟨Hs, T3⟩, T4, T5⟩, Hk⟩
  unfold anyOf owns
  icases Hd with ⟨%fd, Hd⟩
  icases Hs with ⟨%fs, %hfs, Hs⟩
  iapply (Rounds.wp_send_pointsTo 𝒱₀ ER (Rd ins) (c : Thread nD τ) none (c' := (C.tgt i : Thread nD τ)) (src := C.sM i) (dst := C.dM)
      (sS := semOf (C.sK i)) (sem := semOf C.rK) (q := C.sh i) (fs := fs) (κ₁ := κ (cell c (C.sK i))) (κ₂ := κ (cell (C.tgt i) C.rK))
      (r₁ := 0) (r₂ := 0) (d₁ := 0) (d₂ := 0) (fd := fd)
      (by rw [Rd_duties, C.ds]; exact Finset.mem_singleton_self _) (by rw [Rd_duties, C.dr]; exact Finset.mem_singleton_self _)
      () () C.N C.hN ((Rd_amount ins c _ 0 0).trans (C.aS i)) ((Rd_amount ins _ _ 0 0).trans C.aR)
      (O₀ := C.owed (C.o i) + O) (C.owed (C.o i + 1) + O) (by rw [C.owed_pop i hb]; abel) (W := W)
      (by rw [Rd_payload, C.hs i]; unfold owns; iintro H; iexists fs; isplitr; · ipureintro; exact hfs
          iexact H)
      (by rw [Rd_payload, C.hr i]; unfold owns; iintro H; iexists (C.dM.view.write (Elt F) fd ((C.sM i).view.read (Elt F) fs) Finset.univ); isplitr
          · ipureintro; exact (View.read_write_univ ..).trans hfs
          iexact H)) $$ [Hs Hd HO Ht1 Ht2]
  · isplitr; · iapply (Ctx_inv ins κ c c (C.sK i)); iexact HC
    isplitr; · iapply (Ctx_inv ins κ c (C.tgt i) C.rK); iexact HC
    isplitl [Hs]; · iexact Hs
    isplitl [Hd]; · iexact Hd
    isplitl [HO]; · iexact HO
    isplitl [Ht2]; · iexact Ht2
    isplitr; · iapply (Ctx_own ins κ c (C.sK i)); iexact HC
    isplitl [Ht1]; · iexact Ht1
    iexact Hr
  iintro ⟨Hc, HO⟩
  iapply Hk
  isplitl [HO]; · iexact HO
  isplitl [T1]; · iexact T1
  isplitl [T2]; · iexact T2
  isplitl [T3]; · iexact T3
  isplitl [Hc T4]; · isplitl [Hc] <;> iassumption
  iexact T5

set_option maxRecDepth 100000 in
/-- WAIT for message `i` in. -/
theorem Chan.recv (i : Fin C.n) {a a' g w : ℕ} (ha : i.val = g) {sem : DmaSem sig}
    {src dst : Memref sig .tc .vmem C.s .bf16} {h₁ : src.view.WordExact} {h₂ : dst.view.WordExact}
    (hsem : .dma sem = semOf (C.gK i)) (hN : dst.view.dmaCredit = C.N)
    {O : CellTallies nD τ sig Unit} (hO : Above (chLev (C.gK i)) O)
    (W : Waits sig Unit) {k : PUnit → Prog (TpuEff nD τ sig (Elt F) Λ .tc) α} {Q : α → sProp 𝕄} :
    iprop(Ctx ins κ c ∗ owes (c : Thread nD τ) O W ∗ ChSt C a a' g w
        ∗ (((∃ W, owes (c : Thread nD τ) O W) ∗ ChSt C a a' (g + 1) w) -∗ wp frame (wpE defs 𝒱₀ c none) Set.univ (k ⟨⟩) Q))
      ⊢ wp frame (wpE defs 𝒱₀ (c : Thread nD τ) none) Set.univ (.op (.waitDma2 sem src dst h₁ h₂) k) Q := by
  subst ha
  unfold ChSt
  rw [seg_pop Fin.val_injective i i.isLt, seg_push Fin.val_injective i (Nat.zero_le _)]
  iintro ⟨#HC, HO, ⟨T1, T2, T3, T4, T5, T6, ⟨⟨Hat, Hcr⟩, T7⟩, T8⟩, Hk⟩
  have hx : C.N = (Rd ins).expect (cell c (C.gK i)) 0 := by rw [Rd_expect, C.dg, Finset.sum_singleton, C.aG]
  iapply (Rounds.wp_wait_rest_token 𝒱₀ ER (Rd ins) (c : Thread nD τ) none (sm := semOf (C.gK i)) (k' := C.N) (κ := κ (cell c (C.gK i)))
      (fun K => (wpE_waitDma2_eq (src := src) (dst := dst) 𝒱₀ (c : Thread nD τ) none Set.univ K).trans (by rw [hsem, hN]))
      (Set.mem_univ _) () (O := O) (W := W) (R := 0) (m := 0) (T := ∅)
      ((Nat.zero_add _).trans hx)) $$ [Hcr HO Hat]
  · isplitr; · iapply (Ctx_inv ins κ c c (C.gK i)); iexact HC
    isplitl [Hcr]; · iexact Hcr
    isplitl [HO]; · iexact HO
    isplitr
    · iapply ((Ctx_lev ins κ c).trans (Above.mayWait (F := F) (k := C.gK i) c hO)); iexact HC
    iexact Hat
  iintro ⟨HO, Hat, -, Hp⟩
  ihave Hp := (Entails.of_eq ((Rd_rest ins c (C.gK i)).trans (by rw [C.dg, bigSep_singleton, C.hg]))) $$ Hp
  iapply Hk
  isplitl [HO]; · iexists _; iexact HO
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [Hat Hp]; · isplitl [Hat] <;> iassumption
  iexact T8

/-- WAIT for the send of message `i`, owing nothing. -/
theorem Chan.sent (i : Fin C.n) {a a' g w : ℕ} (ha : C.o i = w) (hb : w < a) (hn : a ≤ C.n) {sem : DmaSem sig}
    {s₁ s₂ : Shape} {src : Memref sig .tc .vmem s₁ .bf16} {dst : Memref sig .tc .vmem s₂ .bf16} {h₁ : src.view.WordExact} {h₂ : dst.view.WordExact}
    (hsem : .dma sem = semOf (C.sK i)) (hN : dst.view.dmaCredit = C.N)
    (W : Waits sig Unit) {k : PUnit → Prog (TpuEff nD τ sig (Elt F) Λ .tc) α} {Q : α → sProp 𝕄} :
    iprop(Ctx ins κ c ∗ owes (c : Thread nD τ) 0 W ∗ ChSt C a a' g w
        ∗ (((∃ W, owes (c : Thread nD τ) 0 W) ∗ ChSt C a a' g (w + 1)) -∗ wp frame (wpE defs 𝒱₀ c none) Set.univ (k ⟨⟩) Q))
      ⊢ wp frame (wpE defs 𝒱₀ (c : Thread nD τ) none) Set.univ (.op (.waitDma2 sem src dst h₁ h₂) k) Q := by
  subst ha
  unfold ChSt
  rw [seg_pop C.o_inj i hb, seg_pop C.o_inj i (lt_of_lt_of_le hb hn), seg_push C.o_inj i (Nat.zero_le _)]
  iintro ⟨#HC, HO, ⟨T1, T2, T3, ⟨Hcr, T4⟩, ⟨Hat, T5⟩, T6⟩, Hk⟩
  have hx : C.N = (Rd ins).expect (cell c (C.sK i)) 0 := by rw [Rd_expect, C.ds, Finset.sum_singleton, C.aS]
  iapply (Rounds.wp_wait_rest_token 𝒱₀ ER (Rd ins) (c : Thread nD τ) none (sm := semOf (C.sK i)) (k' := C.N) (κ := κ (cell c (C.sK i)))
      (fun K => (wpE_waitDma2_eq (src := src) (dst := dst) 𝒱₀ (c : Thread nD τ) none Set.univ K).trans (by rw [hsem, hN]))
      (Set.mem_univ _) () (O := 0) (W := W) (R := 0) (m := 0) (T := ∅)
      ((Nat.zero_add _).trans hx)) $$ [Hcr HO Hat]
  · isplitr; · iapply (Ctx_inv ins κ c c (C.sK i)); iexact HC
    isplitl [Hcr]; · iexact Hcr
    isplitl [HO]; · iexact HO
    isplitr; · rw [MayWait_zero]; iempintro
    iexact Hat
  iintro ⟨HO, Hat, -, Hp⟩
  ihave Hp := (Entails.of_eq ((Rd_rest ins c (C.sK i)).trans (by rw [C.ds, bigSep_singleton, C.hs]))) $$ Hp
  iapply Hk
  icases T6 with ⟨T6, T7⟩
  isplitl [HO]; · iexists _; iexact HO
  isplitl [T1]; · iexact T1
  isplitl [T2]; · iexact T2
  isplitl [T3]; · iexact T3
  isplitl [T4]; · iexact T4
  isplitl [T5]; · iexact T5
  isplitl [Hat Hp T6]
  · isplitl [Hat Hp]; · isplitl [Hat] <;> iassumption
    iexact T6
  iexact T7

end Cert.KernelIdeal.Attn
-- ==== Proof.Walk.lean ====
/-
  The kernel's three channels, its state on one device, and one step for each kind of operation it performs.
-/
module

public import proofs.«01_k».proof.Proof.Steps
public import Idealize.ShloMosaic.Lib.Pipeline.Value
public import Idealize.ShloMosaic.Lib.VecWindow

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable {Λ : Labels} {defs : Defs nD τ sig (Elt F) Λ} {α : Type}

/-! ## Loads and stores through a slot -/

section Access
variable {s s' : Shape} {e : EltTy}

/-- LOAD all of a memref. -/
theorem load_full (c : Dev nD) {m : Memref sig .tc .vmem s e} {q : PosShare TreeShare} {X : s.Idx → Elt F e} {off : Fin s.rank → ℕ}
    {inb : ∀ a, off a + s.size a ≤ s.size a} {hl : m.view.LoadsAt (Rect.unit off s.size inb).toLoadRect}
    {k : (s.Idx → Elt F e) → Prog (TpuEff nD τ sig (Elt F) Λ .tc) α} {Q : α → sProp 𝕄} :
    iprop(owns (c : Thread nD τ) m q X ∗ (owns (c : Thread nD τ) m q X -∗ wp frame (wpE defs 𝒱₀ c none) Set.univ (k X) Q))
      ⊢ wp frame (wpE defs 𝒱₀ (c : Thread nD τ) none) Set.univ (.op (.load m (Rect.unit off s.size inb).toLoadRect hl) k) Q := by
  unfold owns
  iintro ⟨⟨%f, %hf, H⟩, Hk⟩
  have hX : m.view.readAt (Elt F) (Rect.unit off s.size inb).toLoadRect f = X := (View.readAt_full ..).trans hf
  iapply (wp_load 𝒱₀ (c : Thread nD τ) none Set.univ (m := m) (hl := hl) (k := k) (View.setOn_subset_set _ _)) $$ H
  iintro H
  rw [hX]
  iapply Hk
  iexists f
  isplitr; · ipureintro; exact hf
  iexact H

theorem slot_set (M : Memref sig .tc .vmem s e) (r₀ : Rect s) {h₀} {hq : Shape.Squeezes r₀.shape s'} :
    ((M.slice r₀ h₀).squeeze s' hq).view.set = (M.access r₀).set := View.set_reshape ..

/-- LOAD part of a slot that holds `P`. -/
theorem load_sub (c : Dev nD) {M : Memref sig .tc .vmem s e} {r₀ r : Rect s} {h₀} {hq : Shape.Squeezes r₀.shape s'} {hl : M.view.LoadsAt r.toLoadRect}
    {q : PosShare TreeShare} {X : s'.Idx → Elt F e} (P : r₀.shape.Idx → Elt F e) (hX : X = shapeCast s' P hq.numel_eq)
    (φ : r.shape.Idx → r₀.shape.Idx) (hφ : ∀ y, r.emb y = r₀.emb (φ y))
    {k : (r.shape.Idx → Elt F e) → Prog (TpuEff nD τ sig (Elt F) Λ .tc) α} {Q : α → sProp 𝕄} :
    iprop(owns (c : Thread nD τ) ((M.slice r₀ h₀).squeeze s' hq) q X
        ∗ (owns (c : Thread nD τ) ((M.slice r₀ h₀).squeeze s' hq) q X -∗ wp frame (wpE defs 𝒱₀ c none) Set.univ (k fun y => P (φ y)) Q))
      ⊢ wp frame (wpE defs 𝒱₀ (c : Thread nD τ) none) Set.univ (.op (.load M r.toLoadRect hl) k) Q := by
  unfold owns
  iintro ⟨⟨%f, %hf, H⟩, Hk⟩
  have hP : (fun y => P (φ y)) = (M.access r).read (Elt F) f := by
    have h1 : M.view.readAt (Elt F) r₀.toLoadRect f = P := by
      have h2 : shapeCast s' (M.view.readAt (Elt F) r₀.toLoadRect f) hq.numel_eq = shapeCast s' P hq.numel_eq :=
        (Memref.read_squeeze_slice M r₀ h₀ hq hq.numel_eq f).symm.trans (hf.trans hX)
      funext x
      have := congrFun h2 ((Shape.reshapeEquiv hq.numel_eq).symm x)
      simpa [shapeCast] using this
    funext y
    rw [← h1]
    show M.view.read (Elt F) f (r₀.emb (φ y)) = M.view.read (Elt F) f (r.emb y)
    rw [hφ]
  iapply (wp_load_rect 𝒱₀ (c : Thread nD τ) none Set.univ (m := M) (r := r) (hl := hl) (k := k)
    (S := ((M.slice r₀ h₀).squeeze s' hq).view.set) (f := f) (q := q) (by
      rw [slot_set]
      intro i hi
      obtain ⟨y, -, rfl⟩ := Finset.mem_map.mp hi
      refine Finset.mem_map.mpr ⟨φ y, Finset.mem_univ _, ?_⟩
      show M.view.emb (r₀.emb (φ y)) = M.view.emb (r.emb y)
      rw [hφ])) $$ H
  iintro H
  rw [← hP]
  iapply Hk
  iexists f
  isplitr; · ipureintro; exact hf
  iexact H

/-- A LOAD of a slot whose value is not used. -/
theorem load_any (c : Dev nD) {M : Memref sig .tc .vmem s e} {r₀ r : Rect s} {h₀} {hq : Shape.Squeezes r₀.shape s'} {hl : M.view.LoadsAt r.toLoadRect}
    (φ : r.shape.Idx → r₀.shape.Idx) (hφ : ∀ y, r.emb y = r₀.emb (φ y)) {Φ : sProp 𝕄} {f : Buf (Elt F) (M.view.loc (c : Thread nD τ))}
    {k : (r.shape.Idx → Elt F e) → Prog (TpuEff nD τ sig (Elt F) Λ .tc) α} {Q : α → sProp 𝕄}
    (hk : ∀ v, iprop((M.view.loc (c : Thread nD τ) ↦[((M.slice r₀ h₀).squeeze s' hq).view.set]{fullShare} f) ∗ Φ)
      ⊢ wp frame (wpE defs 𝒱₀ c none) Set.univ (k v) Q) :
    iprop((M.view.loc (c : Thread nD τ) ↦[((M.slice r₀ h₀).squeeze s' hq).view.set]{fullShare} f) ∗ Φ)
      ⊢ wp frame (wpE defs 𝒱₀ (c : Thread nD τ) none) Set.univ (.op (.load M r.toLoadRect hl) k) Q := by
  iintro ⟨H, HΦ⟩
  iapply (wp_load_rect 𝒱₀ (c : Thread nD τ) none Set.univ (m := M) (r := r) (hl := hl) (k := k)
    (S := ((M.slice r₀ h₀).squeeze s' hq).view.set) (f := f) (q := fullShare) (by
      rw [slot_set]
      intro i hi
      obtain ⟨y, -, rfl⟩ := Finset.mem_map.mp hi
      refine Finset.mem_map.mpr ⟨φ y, Finset.mem_univ _, ?_⟩
      show M.view.emb (r₀.emb (φ y)) = M.view.emb (r.emb y)
      rw [hφ])) $$ H
  iintro H
  iapply (hk _)
  isplitl [H]; · iexact H
  iexact HΦ

/-- A LOAD of a slot at contents not chosen. -/
theorem load_anyOf (c : Dev nD) {M : Memref sig .tc .vmem s e} {r₀ r : Rect s} {h₀} {hq : Shape.Squeezes r₀.shape s'} {hl : M.view.LoadsAt r.toLoadRect}
    (φ : r.shape.Idx → r₀.shape.Idx) (hφ : ∀ y, r.emb y = r₀.emb (φ y)) {Φ : sProp 𝕄}
    {k : (r.shape.Idx → Elt F e) → Prog (TpuEff nD τ sig (Elt F) Λ .tc) α} {Q : α → sProp 𝕄}
    (hk : ∀ v, iprop(anyOf c ((M.slice r₀ h₀).squeeze s' hq) ∗ Φ) ⊢ wp frame (wpE defs 𝒱₀ c none) Set.univ (k v) Q) :
    iprop(anyOf c ((M.slice r₀ h₀).squeeze s' hq) ∗ Φ)
      ⊢ wp frame (wpE defs 𝒱₀ (c : Thread nD τ) none) Set.univ (.op (.load M r.toLoadRect hl) k) Q := by
  iintro ⟨H, HΦ⟩
  unfold anyOf at hk ⊢
  icases H with ⟨%f, H⟩
  iapply (load_any c (h₀ := h₀) φ hφ (f := f) (Φ := Φ) fun v => BIBase.Entails.trans (sep_mono_l (exists_intro (Φ := fun f => iprop(M.view.loc (c : Thread nD τ) ↦[((M.slice r₀ h₀).squeeze s' hq).view.set]{fullShare} f)) f)) (hk v))
  isplitl [H]; · iexact H
  iexact HΦ

/-- STORE into part of a slot. -/
theorem store_sub (c : Dev nD) {M : Memref sig .tc .vmem s e} {r₀ r : Rect s} {h₀} {hq : Shape.Squeezes r₀.shape s'} {w : r.shape.Idx → Elt F e}
    {hx : (M.access r).Stores Finset.univ} {hm : Finset.univ = Finset.univ ∨ ∀ a, r.stride a = 1}
    (φ : r.shape.Idx → r₀.shape.Idx) (hφ : ∀ y, r.emb y = r₀.emb (φ y)) {f : Buf (Elt F) (M.view.loc (c : Thread nD τ))}
    {k : PUnit → Prog (TpuEff nD τ sig (Elt F) Λ .tc) α} {Q : α → sProp 𝕄} :
    iprop((M.view.loc (c : Thread nD τ) ↦[((M.slice r₀ h₀).squeeze s' hq).view.set]{fullShare} f)
        ∗ ((M.view.loc (c : Thread nD τ) ↦[((M.slice r₀ h₀).squeeze s' hq).view.set]{fullShare} ((M.access r).write (Elt F) f w Finset.univ))
            -∗ wp frame (wpE defs 𝒱₀ c none) Set.univ (k ⟨⟩) Q))
      ⊢ wp frame (wpE defs 𝒱₀ (c : Thread nD τ) none) Set.univ (.op (.store M r w Finset.univ hx hm) k) Q := by
  iintro ⟨H, Hk⟩
  iapply (wp_store 𝒱₀ (c : Thread nD τ) none Set.univ (m := M) (r := r) (w := w) (hx := hx) (hm := hm) (k := k)
    (S := ((M.slice r₀ h₀).squeeze s' hq).view.set) (f := f) (by
      rw [slot_set]
      intro i hi
      obtain ⟨y, -, rfl⟩ := Finset.mem_map.mp hi
      refine Finset.mem_map.mpr ⟨φ y, Finset.mem_univ _, ?_⟩
      show M.view.emb (r₀.emb (φ y)) = M.view.emb (r.emb y)
      rw [hφ])) $$ H
  iexact Hk

/-- STORE a whole slot. -/
theorem store_slot (c : Dev nD) {M : Memref sig .tc .vmem s e} {r : Rect s} {h₀} {hq : Shape.Squeezes r.shape s'} {w : r.shape.Idx → Elt F e}
    {hx : (M.access r).Stores Finset.univ} {hm : Finset.univ = Finset.univ ∨ ∀ a, r.stride a = 1}
    {k : PUnit → Prog (TpuEff nD τ sig (Elt F) Λ .tc) α} {Q : α → sProp 𝕄} :
    iprop(anyOf c ((M.slice r h₀).squeeze s' hq)
        ∗ (owns (c : Thread nD τ) ((M.slice r h₀).squeeze s' hq) fullShare (shapeCast s' w hq.numel_eq)
            -∗ wp frame (wpE defs 𝒱₀ c none) Set.univ (k ⟨⟩) Q))
      ⊢ wp frame (wpE defs 𝒱₀ (c : Thread nD τ) none) Set.univ (.op (.store M r w Finset.univ hx hm) k) Q := by
  unfold anyOf owns
  iintro ⟨⟨%f, H⟩, Hk⟩
  iapply (store_sub c (M := M) (r₀ := r) (r := r) (h₀ := h₀) (hq := hq) (hx := hx) (hm := hm) (f := f) id (fun _ => rfl))
  isplitl [H]; · iexact H
  iintro H
  iapply Hk
  iexists ((M.access r).write (Elt F) f w Finset.univ)
  isplitr
  · ipureintro
    exact (Memref.read_squeeze_slice M r h₀ hq hq.numel_eq _).trans
      (congrArg (fun v => shapeCast s' v hq.numel_eq) (View.read_write_univ (v := M.access r) f w))
  iexact H

end Access

/-! ## The three channels -/

variable (ins : Dev nD → Ins F)

/-- Which half a device is in. -/
def hi (p : Dev nD) : Fin 2 := ⟨p.val / 8, Nat.div_lt_of_lt_mul p.isLt⟩
/-- The place of the copy to device `p` among the copies of keys and values. -/
def ordK (p : Fin 16) : ℕ := 2 * (p.val % 8) + p.val / 8
theorem ordK_inj : Function.Injective ordK := by decide
theorem ordK_lt : ∀ p : Fin 16, ordK p < 16 := by decide

/-- Keys and values, to every device. -/
def chK (c : Dev nD) : Chan ins c where
  n := 16
  s := S2x256x64
  o := ordK
  o_inj := ordK_inj
  tgt p := p
  rK := .kvr c
  sK p := .kvs (lo p) (hi p)
  gK s := .kvr s
  sM p := stM (lo p)
  dM := kvM c
  gM s := kvM s
  sh p := hs (hi p)
  X p := kvC ins c (lo p)
  Y s := kvC ins s (lo c)
  N := NK
  hs _ := rfl
  hr _ := rfl
  hg _ := rfl
  ds _ := rfl
  dr := rfl
  dg _ := rfl
  aS _ := rfl
  aR := rfl
  aG _ := rfl
  hN := rfl

/-- Queries, to the eight devices of the half. -/
def chQ (c : Dev nD) : Chan ins c where
  n := 8
  s := S256x64
  o := Fin.val
  o_inj := Fin.val_injective
  tgt j := mate c j
  rK := .qr (lo c)
  sK j := .qs j
  gK j := .qr j
  sM j := qsM j
  dM := qbM (lo c)
  gM j := qbM j
  sh _ := fullShare
  X j := qC ins c j
  Y j := qC ins (mate c j) (lo c)
  N := NQ
  hs _ := rfl
  hr j := by
    show owns _ _ _ (qC ins (mate (mate c j) (lo c)) (lo (mate c j))) = _
    rw [mate_mate, lo_mate]
  hg _ := rfl
  ds _ := rfl
  dr := rfl
  dg _ := rfl
  aS _ := rfl
  aR := rfl
  aG _ := rfl
  hN := rfl

/-- Contexts, to the eight devices of the half. -/
def chC (c : Dev nD) : Chan ins c where
  n := 8
  s := S256x64
  o := Fin.val
  o_inj := Fin.val_injective
  tgt j := mate c j
  rK := .cr (lo c)
  sK j := .cs j
  gK j := .cr j
  sM j := csM j
  dM := cbM (lo c)
  gM j := cbM j
  sh _ := fullShare
  X j := cC ins c j
  Y j := cC ins (mate c j) (lo c)
  N := NQ
  hs _ := rfl
  hr j := by
    show owns _ _ _ (cC ins (mate (mate c j) (lo c)) (lo (mate c j))) = _
    rw [mate_mate, lo_mate]
  hg _ := rfl
  ds _ := rfl
  dr := rfl
  dg _ := rfl
  aS _ := rfl
  aR := rfl
  aG _ := rfl
  hN := rfl

/-! ## The state after the barrier -/

variable (κ : GSem nD τ sig → ℕ)

/-- What the copies still to be made owe. -/
def owed (c : Dev nD) (nk nq nc : ℕ) : CellTallies nD τ sig Unit := (chK ins c).owed nk + ((chQ ins c).owed nq + (chC ins c).owed nc)

/-- Device `c` with `nk` copies of keys and values made, `rk` received, `sk` waited for; the queries and the contexts likewise;
    `wc` context pieces staged; `R` beside it. -/
def St (c : Dev nD) (nk rk sk nq rq sq nc wc rc sc : ℕ) (R : sProp 𝕄) : sProp 𝕄 :=
  iprop(Ctx ins κ c ∗ (∃ W, owes (c : Thread nD τ) (owed ins c nk nq nc) W)
    ∗ ChSt (chK ins c) nk 16 rk sk ∗ ChSt (chQ ins c) nq 8 rq sq ∗ ChSt (chC ins c) nc wc rc sc
    ∗ bigSep (span (Fin.val (n := 8)) wc 8) (fun j => anyOf c (csM j)) ∗ R)

variable {ins κ} {c : Dev nD} {R : sProp (MT nD τ sig Unit (Elt F) ℕ UU ℕ)} {Q : α → sProp (MT nD τ sig Unit (Elt F) ℕ UU ℕ)}
variable {nk rk sk nq rq sq nc wc rc sc : ℕ}

theorem owed_zero (C : Chan ins c) (h : ∀ i, C.o i < C.n) (a : ℕ) (ha : C.n ≤ a) : C.owed a = 0 := by
  unfold Chan.owed; rw [span_none ha, Finset.sum_empty]

theorem owedK_all (c : Dev nD) : (chK ins c).owed 16 = 0 := owed_zero _ ordK_lt 16 (le_refl 16)
theorem owedQ_all (c : Dev nD) : (chQ ins c).owed 8 = 0 := owed_zero _ (fun i => i.isLt) 8 (le_refl 8)
theorem owedC_all (c : Dev nD) : (chC ins c).owed 8 = 0 := owed_zero _ (fun i => i.isLt) 8 (le_refl 8)
theorem owed_nil (c : Dev nD) : owed ins c 16 8 8 = 0 := by
  unfold owed; rw [owedK_all, owedQ_all, owedC_all, add_zero, add_zero]
theorem owed_two (c : Dev nD) (nc : ℕ) : Above 2 (owed ins c 16 8 nc) := by
  unfold owed; rw [owedK_all, owedQ_all, zero_add, zero_add]
  exact (chC ins c).owed_above nc (by show 2 < 3; omega)

section Sends
variable {D : Dev nD} {sS sem : SemLoc sig} {k : PUnit → Prog (TpuEff nD τ sig (Elt F) Λ .tc) α}

theorem owed_q (c : Dev nD) (nk nq nc : ℕ) : owed ins c nk nq nc = (chQ ins c).owed nq + ((chK ins c).owed nk + (chC ins c).owed nc) := add_left_comm _ _ _
theorem owed_c (c : Dev nD) (nk nq nc : ℕ) : owed ins c nk nq nc = (chC ins c).owed nc + ((chK ins c).owed nk + (chQ ins c).owed nq) := by
  unfold owed; rw [← add_assoc, add_comm]

/-- SEND the keys and values to device `p`. -/
theorem sendK (p : Fin 16) {src dst : Memref sig .tc .vmem S2x256x64 .bf16}
    {hsc : dst.view.ref.isScScratch = false} {h₁ : src.view.WordExact} {h₂ : dst.view.WordExact}
    {h₃ : DmaTarget.Typed .vmem sem (.remote (Dev.tc D : Thread nD τ) dst sS hsc)}
    (hn : ordK p = nk) (hD : D = p) (hs : src = stM (lo p)) (hd : dst = kvM c) (hsS : sS = semOf (.kvs (lo p) (hi p))) (hsem : sem = semOf (.kvr c))
    (h : St ins κ c (ordK p + 1) rk 0 nq rq sq nc wc rc sc R ⊢ wp frame (wpE defs 𝒱₀ c none) Set.univ (k ⟨⟩) Q) :
    St ins κ c nk rk 0 nq rq sq nc wc rc sc R ⊢ wp frame (wpE defs 𝒱₀ (c : Thread nD τ) none) Set.univ
      (.op (.enqueueDma src (.remote (Dev.tc D : Thread nD τ) dst sS hsc) sem h₁ h₂ h₃) k) Q := by
  subst hn
  unfold St at h ⊢
  iintro ⟨#HC, ⟨%W, HO⟩, HK, HQ, HT, Hs, HR⟩
  unfold owed
  iapply ((chK ins c).send (κ := κ) p (a := ordK p) (a' := 16) (g := rk) (w := 0) rfl (ordK_lt p) (ordK_lt p) (Nat.zero_le _) hD hs hd hsS hsem _ W)
  isplitl []; · iexact HC
  isplitl [HO]; · iexact HO
  isplitl [HK]; · iexact HK
  iintro ⟨HO, HK⟩
  iapply h
  isplitl []; · iexact HC
  isplitl [HO]; · iexists W; iexact HO
  isplitl [HK]; · iexact HK
  isplitl [HQ]; · iexact HQ
  isplitl [HT]; · iexact HT
  isplitl [Hs]; · iexact Hs
  iexact HR

/-- SEND the queries to the device at place `p` of the half. -/
theorem sendQ (p : Fin 8) {src dst : Memref sig .tc .vmem S256x64 .bf16}
    {hsc : dst.view.ref.isScScratch = false} {h₁ : src.view.WordExact} {h₂ : dst.view.WordExact}
    {h₃ : DmaTarget.Typed .vmem sem (.remote (Dev.tc D : Thread nD τ) dst sS hsc)}
    (hn : Fin.val p = nq) (hD : D = mate c p) (hs : src = qsM p) (hd : dst = qbM (lo c)) (hsS : sS = semOf (.qs p)) (hsem : sem = semOf (.qr (lo c)))
    (h : St ins κ c nk rk sk (Fin.val p + 1) rq 0 nc wc rc sc R ⊢ wp frame (wpE defs 𝒱₀ c none) Set.univ (k ⟨⟩) Q) :
    St ins κ c nk rk sk nq rq 0 nc wc rc sc R ⊢ wp frame (wpE defs 𝒱₀ (c : Thread nD τ) none) Set.univ
      (.op (.enqueueDma src (.remote (Dev.tc D : Thread nD τ) dst sS hsc) sem h₁ h₂ h₃) k) Q := by
  subst hn
  unfold St at h ⊢
  iintro ⟨#HC, ⟨%W, HO⟩, HK, HQ, HT, Hs, HR⟩
  rw [owed_q]
  iapply ((chQ ins c).send (κ := κ) p (a := Fin.val p) (a' := 8) (g := rq) (w := 0) rfl p.isLt p.isLt (Nat.zero_le _) hD hs hd hsS hsem _ W)
  isplitl []; · iexact HC
  isplitl [HO]; · iexact HO
  isplitl [HQ]; · iexact HQ
  iintro ⟨HO, HQ⟩
  iapply h
  isplitl []; · iexact HC
  isplitl [HO]; · iexists W; rw [owed_q]; iexact HO
  isplitl [HK]; · iexact HK
  isplitl [HQ]; · iexact HQ
  isplitl [HT]; · iexact HT
  isplitl [Hs]; · iexact Hs
  iexact HR

/-- SEND the contexts to the device at place `p` of the half. -/
theorem sendC (p : Fin 8) {src dst : Memref sig .tc .vmem S256x64 .bf16}
    {hsc : dst.view.ref.isScScratch = false} {h₁ : src.view.WordExact} {h₂ : dst.view.WordExact}
    {h₃ : DmaTarget.Typed .vmem sem (.remote (Dev.tc D : Thread nD τ) dst sS hsc)}
    (hn : Fin.val p = nc) (hw : nc < wc) (hD : D = mate c p) (hs : src = csM p) (hd : dst = cbM (lo c)) (hsS : sS = semOf (.cs p)) (hsem : sem = semOf (.cr (lo c)))
    (h : St ins κ c nk rk sk nq rq sq (Fin.val p + 1) wc rc 0 R ⊢ wp frame (wpE defs 𝒱₀ c none) Set.univ (k ⟨⟩) Q) :
    St ins κ c nk rk sk nq rq sq nc wc rc 0 R ⊢ wp frame (wpE defs 𝒱₀ (c : Thread nD τ) none) Set.univ
      (.op (.enqueueDma src (.remote (Dev.tc D : Thread nD τ) dst sS hsc) sem h₁ h₂ h₃) k) Q := by
  subst hn
  unfold St at h ⊢
  iintro ⟨#HC, ⟨%W, HO⟩, HK, HQ, HT, Hs, HR⟩
  rw [owed_c]
  iapply ((chC ins c).send (κ := κ) p (a := Fin.val p) (a' := wc) (g := rc) (w := 0) rfl p.isLt hw (Nat.zero_le _) hD hs hd hsS hsem _ W)
  isplitl []; · iexact HC
  isplitl [HO]; · iexact HO
  isplitl [HT]; · iexact HT
  iintro ⟨HO, HT⟩
  iapply h
  isplitl []; · iexact HC
  isplitl [HO]; · iexists W; rw [owed_c]; iexact HO
  isplitl [HK]; · iexact HK
  isplitl [HQ]; · iexact HQ
  isplitl [HT]; · iexact HT
  isplitl [Hs]; · iexact Hs
  iexact HR

end Sends

section Recvs
variable {sem : DmaSem sig} {k : PUnit → Prog (TpuEff nD τ sig (Elt F) Λ .tc) α}

/-- WAIT for the keys and values of device `p`. -/
theorem recvK (p : Fin 16) {src dst : Memref sig .tc .vmem S2x256x64 .bf16} {h₁ : src.view.WordExact} {h₂ : dst.view.WordExact}
    (hn : p.val = rk) (hsem : .dma sem = semOf (.kvr p)) (hN : dst.view.dmaCredit = NK)
    (h : St ins κ c 16 (p.val + 1) sk 8 rq sq nc wc rc sc R ⊢ wp frame (wpE defs 𝒱₀ c none) Set.univ (k ⟨⟩) Q) :
    St ins κ c 16 rk sk 8 rq sq nc wc rc sc R ⊢ wp frame (wpE defs 𝒱₀ (c : Thread nD τ) none) Set.univ (.op (.waitDma2 sem src dst h₁ h₂) k) Q := by
  subst hn
  unfold St at h ⊢
  iintro ⟨#HC, ⟨%W, HO⟩, HK, HQ, HT, Hs, HR⟩
  iapply ((chK ins c).recv (κ := κ) p (a := 16) (a' := 16) (w := sk) (g := p.val) rfl hsem hN (owed_two c nc) W)
  isplitl []; · iexact HC
  isplitl [HO]; · iexact HO
  isplitl [HK]; · iexact HK
  iintro ⟨HO, HK⟩
  iapply h
  isplitl []; · iexact HC
  isplitl [HO]; · iexact HO
  isplitl [HK]; · iexact HK
  isplitl [HQ]; · iexact HQ
  isplitl [HT]; · iexact HT
  isplitl [Hs]; · iexact Hs
  iexact HR

/-- WAIT for the queries of the device at place `p`. -/
theorem recvQ (p : Fin 8) {src dst : Memref sig .tc .vmem S256x64 .bf16} {h₁ : src.view.WordExact} {h₂ : dst.view.WordExact}
    (hn : p.val = rq) (hsem : .dma sem = semOf (.qr p)) (hN : dst.view.dmaCredit = NQ)
    (h : St ins κ c 16 rk sk 8 (p.val + 1) sq nc wc rc sc R ⊢ wp frame (wpE defs 𝒱₀ c none) Set.univ (k ⟨⟩) Q) :
    St ins κ c 16 rk sk 8 rq sq nc wc rc sc R ⊢ wp frame (wpE defs 𝒱₀ (c : Thread nD τ) none) Set.univ (.op (.waitDma2 sem src dst h₁ h₂) k) Q := by
  subst hn
  unfold St at h ⊢
  iintro ⟨#HC, ⟨%W, HO⟩, HK, HQ, HT, Hs, HR⟩
  iapply ((chQ ins c).recv (κ := κ) p (a := 8) (a' := 8) (w := sq) (g := p.val) rfl hsem hN (owed_two c nc) W)
  isplitl []; · iexact HC
  isplitl [HO]; · iexact HO
  isplitl [HQ]; · iexact HQ
  iintro ⟨HO, HQ⟩
  iapply h
  isplitl []; · iexact HC
  isplitl [HO]; · iexact HO
  isplitl [HK]; · iexact HK
  isplitl [HQ]; · iexact HQ
  isplitl [HT]; · iexact HT
  isplitl [Hs]; · iexact Hs
  iexact HR

/-- WAIT for the contexts of the device at place `p`. -/
theorem recvC (p : Fin 8) {src dst : Memref sig .tc .vmem S256x64 .bf16} {h₁ : src.view.WordExact} {h₂ : dst.view.WordExact}
    (hn : p.val = rc) (hsem : .dma sem = semOf (.cr p)) (hN : dst.view.dmaCredit = NQ)
    (h : St ins κ c 16 rk sk 8 rq sq 8 wc (p.val + 1) sc R ⊢ wp frame (wpE defs 𝒱₀ c none) Set.univ (k ⟨⟩) Q) :
    St ins κ c 16 rk sk 8 rq sq 8 wc rc sc R ⊢ wp frame (wpE defs 𝒱₀ (c : Thread nD τ) none) Set.univ (.op (.waitDma2 sem src dst h₁ h₂) k) Q := by
  subst hn
  unfold St at h ⊢
  iintro ⟨#HC, ⟨%W, HO⟩, HK, HQ, HT, Hs, HR⟩
  iapply ((chC ins c).recv (κ := κ) p (a := 8) (a' := wc) (w := sc) (g := p.val) rfl hsem hN (owed_nil (ins := ins) c ▸ Above.zero _) W)
  isplitl []; · iexact HC
  isplitl [HO]; · iexact HO
  isplitl [HT]; · iexact HT
  iintro ⟨HO, HT⟩
  iapply h
  isplitl []; · iexact HC
  isplitl [HO]; · iexact HO
  isplitl [HK]; · iexact HK
  isplitl [HQ]; · iexact HQ
  isplitl [HT]; · iexact HT
  isplitl [Hs]; · iexact Hs
  iexact HR

/-- WAIT for the keys and values for device `p` to have left. -/
theorem sentK (p : Fin 16) {s₁ s₂ : Shape} {src : Memref sig .tc .vmem s₁ .bf16} {dst : Memref sig .tc .vmem s₂ .bf16} {h₁ : src.view.WordExact} {h₂ : dst.view.WordExact}
    (hn : ordK p = sk) (hsem : .dma sem = semOf (.kvs (lo p) (hi p))) (hN : dst.view.dmaCredit = NK)
    (h : St ins κ c 16 rk (ordK p + 1) 8 rq sq 8 8 rc sc R ⊢ wp frame (wpE defs 𝒱₀ c none) Set.univ (k ⟨⟩) Q) :
    St ins κ c 16 rk sk 8 rq sq 8 8 rc sc R ⊢ wp frame (wpE defs 𝒱₀ (c : Thread nD τ) none) Set.univ (.op (.waitDma2 sem src dst h₁ h₂) k) Q := by
  subst hn
  unfold St at h ⊢
  rw [owed_nil] at h ⊢
  iintro ⟨#HC, ⟨%W, HO⟩, HK, HQ, HT, Hs, HR⟩
  iapply ((chK ins c).sent (κ := κ) p (a := 16) (a' := 16) (g := rk) (w := ordK p) rfl (ordK_lt p) (le_refl _) hsem hN W)
  isplitl []; · iexact HC
  isplitl [HO]; · iexact HO
  isplitl [HK]; · iexact HK
  iintro ⟨HO, HK⟩
  iapply h
  isplitl []; · iexact HC
  isplitl [HO]; · iexact HO
  isplitl [HK]; · iexact HK
  isplitl [HQ]; · iexact HQ
  isplitl [HT]; · iexact HT
  isplitl [Hs]; · iexact Hs
  iexact HR

/-- WAIT for the queries for place `p` to have left. -/
theorem sentQ (p : Fin 8) {s₁ s₂ : Shape} {src : Memref sig .tc .vmem s₁ .bf16} {dst : Memref sig .tc .vmem s₂ .bf16} {h₁ : src.view.WordExact} {h₂ : dst.view.WordExact}
    (hn : Fin.val p = sq) (hsem : .dma sem = semOf (.qs p)) (hN : dst.view.dmaCredit = NQ)
    (h : St ins κ c 16 rk sk 8 rq (Fin.val p + 1) 8 8 rc sc R ⊢ wp frame (wpE defs 𝒱₀ c none) Set.univ (k ⟨⟩) Q) :
    St ins κ c 16 rk sk 8 rq sq 8 8 rc sc R ⊢ wp frame (wpE defs 𝒱₀ (c : Thread nD τ) none) Set.univ (.op (.waitDma2 sem src dst h₁ h₂) k) Q := by
  subst hn
  unfold St at h ⊢
  rw [owed_nil] at h ⊢
  iintro ⟨#HC, ⟨%W, HO⟩, HK, HQ, HT, Hs, HR⟩
  iapply ((chQ ins c).sent (κ := κ) p (a := 8) (a' := 8) (g := rq) (w := Fin.val p) rfl p.isLt (le_refl _) hsem hN W)
  isplitl []; · iexact HC
  isplitl [HO]; · iexact HO
  isplitl [HQ]; · iexact HQ
  iintro ⟨HO, HQ⟩
  iapply h
  isplitl []; · iexact HC
  isplitl [HO]; · iexact HO
  isplitl [HK]; · iexact HK
  isplitl [HQ]; · iexact HQ
  isplitl [HT]; · iexact HT
  isplitl [Hs]; · iexact Hs
  iexact HR

/-- WAIT for the contexts for place `p` to have left. -/
theorem sentC (p : Fin 8) {s₁ s₂ : Shape} {src : Memref sig .tc .vmem s₁ .bf16} {dst : Memref sig .tc .vmem s₂ .bf16} {h₁ : src.view.WordExact} {h₂ : dst.view.WordExact}
    (hn : Fin.val p = sc) (hsem : .dma sem = semOf (.cs p)) (hN : dst.view.dmaCredit = NQ)
    (h : St ins κ c 16 rk sk 8 rq sq 8 8 rc (Fin.val p + 1) R ⊢ wp frame (wpE defs 𝒱₀ c none) Set.univ (k ⟨⟩) Q) :
    St ins κ c 16 rk sk 8 rq sq 8 8 rc sc R ⊢ wp frame (wpE defs 𝒱₀ (c : Thread nD τ) none) Set.univ (.op (.waitDma2 sem src dst h₁ h₂) k) Q := by
  subst hn
  unfold St at h ⊢
  rw [owed_nil] at h ⊢
  iintro ⟨#HC, ⟨%W, HO⟩, HK, HQ, HT, Hs, HR⟩
  iapply ((chC ins c).sent (κ := κ) p (a := 8) (a' := 8) (g := rc) (w := Fin.val p) rfl p.isLt (le_refl _) hsem hN W)
  isplitl []; · iexact HC
  isplitl [HO]; · iexact HO
  isplitl [HT]; · iexact HT
  iintro ⟨HO, HT⟩
  iapply h
  isplitl []; · iexact HC
  isplitl [HO]; · iexact HO
  isplitl [HK]; · iexact HK
  isplitl [HQ]; · iexact HQ
  isplitl [HT]; · iexact HT
  isplitl [Hs]; · iexact Hs
  iexact HR

end Recvs

/-! ## Loads of what came, and the staging of the contexts -/

theorem Chan.borrow (C : Chan ins c) (i : Fin C.n) {a a' g w : ℕ} (hg : i.val < g) :
    ChSt C a a' g w ⊢ iprop(owns (c : Thread nD τ) (C.gM i) fullShare (C.Y i) ∗ (owns (c : Thread nD τ) (C.gM i) fullShare (C.Y i) -∗ ChSt C a a' g w)) := by
  have hp := seg_pick (o := Fin.val) (a := 0) (b := g) i (Nat.zero_le _) hg
    (fun i => (iprop(atPos ER (cell c (C.gK i)) 1 (∅ : Finset (Dev nD)) 0 ∗ owns (c : Thread nD τ) (C.gM i) fullShare (C.Y i)) : sProp (MT nD τ sig Unit (Elt F) ℕ UU ℕ)))
  unfold ChSt
  rw [hp]
  iintro ⟨H1, H2, H3, H4, H5, H6, H7, ⟨Ha, Ho⟩, H8⟩
  isplitl [Ho]; · iexact Ho
  iintro Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha Ho]
  · isplitl [Ha]; · iexact Ha
    iexact Ho
  iexact H8

section Loads

/-- Where a row of one piece lies in a slot of two. -/
def rowIn (h : Fin 2) (y : S1x1x256x64.Idx) : S1x2x256x64.Idx := ValueIdx.ix4 (y 0) h (y 2) (y 3)

theorem rowIn_emb {n : ℕ} (p : Fin n) (h : Fin 2) {inb} {inb'} (y : S1x1x256x64.Idx) :
    (Rect.unit (s := (⟨4, ![n, 2, 256, 64]⟩ : Shape)) ![p.val, h.val, 0, 0] S1x1x256x64.size inb).emb y
      = (Rect.unit (s := (⟨4, ![n, 2, 256, 64]⟩ : Shape)) ![p.val, 0, 0, 0] S1x2x256x64.size inb').emb (rowIn h y) := by
  funext a
  have h1 : (y 1).val < 1 := (y 1).isLt
  match a with
  | 0 => rfl
  | 1 => exact Fin.ext (by show h.val + 1 * (y 1).val = 0 + 1 * h.val; omega)
  | 2 => rfl
  | 3 => rfl

/-- The two pieces of a slot. -/
def kvP (i : Ins F) (n : Fin 8) : Fin 2 → FVec F S1x1x256x64 .bf16 | 0 => kP i n | 1 => vP i n

theorem pair_row (i : Ins F) (n : Fin 8) (h : Fin 2) : (fun y => pair (kP i n) (vP i n) (rowIn h y)) = kvP i n h := by
  funext y
  have hy : (ValueIdx.ix4 0 0 (y 2) (y 3) : S1x1x256x64.Idx) = y := by
    funext a
    match a with
    | 0 => exact Fin.ext (by have := (y 0).isLt; show 0 = (y 0).val; change (y 0).val < 1 at this; omega)
    | 1 => exact Fin.ext (by have := (y 1).isLt; show 0 = (y 1).val; change (y 1).val < 1 at this; omega)
    | 2 => rfl
    | 3 => rfl
  match h with
  | 0 => exact congrArg (kP i n) hy
  | 1 => exact congrArg (vP i n) hy

/-- LOAD the keys (`h = 0`) or the values (`h = 1`) that came from device `p`. -/
theorem loadK (p : Fin 16) (h : Fin 2) {off : Fin 4 → ℕ} {inb} {hl : (Memref.whole cc0_scratch3).view.LoadsAt (Rect.unit (s := S16x2x256x64) off S1x1x256x64.size inb).toLoadRect}
    {k : (S1x1x256x64.Idx → Elt F .bf16) → Prog (TpuEff nD τ sig (Elt F) Λ .tc) α}
    (hp : p.val < rk) (ho : off = ![p.val, h.val, 0, 0])
    (H : St ins κ c nk rk sk nq rq sq nc wc rc sc R ⊢ wp frame (wpE defs 𝒱₀ c none) Set.univ (k (kvP (ins p) (lo c) h)) Q) :
    St ins κ c nk rk sk nq rq sq nc wc rc sc R ⊢ wp frame (wpE defs 𝒱₀ (c : Thread nD τ) none) Set.univ
      (.op (.load (Memref.whole cc0_scratch3) (Rect.unit (s := S16x2x256x64) off S1x1x256x64.size inb).toLoadRect hl) k) Q := by
  subst ho
  rw [← pair_row (ins p) (lo c) h] at H
  unfold St at H ⊢
  iintro ⟨#HC, HO, HK, HQ, HT, Hs, HR⟩
  ihave HK := ((chK ins c).borrow p (a := nk) (a' := 16) (w := sk) hp) $$ HK
  icases HK with ⟨Ho, HK⟩
  iapply (load_sub c (M := Memref.whole cc0_scratch3) (r := Rect.unit (s := S16x2x256x64) ![p.val, h.val, 0, 0] S1x1x256x64.size inb) (hl := hl)
    (r₀ := Rect.unit (s := S16x2x256x64) ![p.val, 0, 0, 0] S1x2x256x64.size (inb4 p)) (h₀ := fun _ => rfl) (hq := squeezes_S1x2x256x64_S2x256x64)
    (pair (kP (ins p) (lo c)) (vP (ins p) (lo c))) rfl (rowIn h) (rowIn_emb p h))

  isplitl [Ho]; · iexact Ho
  iintro Ho
  iapply H
  isplitl []; · iexact HC
  isplitl [HO]; · iexact HO
  isplitl [HK Ho]; · iapply HK; iexact Ho
  isplitl [HQ]; · iexact HQ
  isplitl [HT]; · iexact HT
  isplitl [Hs]; · iexact Hs
  iexact HR

/-- LOAD the queries that came from place `p`. -/
theorem loadQ (p : Fin 8) {off : Fin 3 → ℕ} {inb} {hl : (Memref.whole cc0_scratch4).view.LoadsAt (Rect.unit (s := S8x256x64) off S1x256x64.size inb).toLoadRect}
    {k : (S1x256x64.Idx → Elt F .bf16) → Prog (TpuEff nD τ sig (Elt F) Λ .tc) α}
    (hp : p.val < rq) (ho : off = ![p.val, 0, 0])
    (H : St ins κ c nk rk sk nq rq sq nc wc rc sc R ⊢ wp frame (wpE defs 𝒱₀ c none) Set.univ (k (qP (ins (mate c p)) (lo c))) Q) :
    St ins κ c nk rk sk nq rq sq nc wc rc sc R ⊢ wp frame (wpE defs 𝒱₀ (c : Thread nD τ) none) Set.univ
      (.op (.load (Memref.whole cc0_scratch4) (Rect.unit (s := S8x256x64) off S1x256x64.size inb).toLoadRect hl) k) Q := by
  subst ho
  unfold St at H ⊢
  iintro ⟨#HC, HO, HK, HQ, HT, Hs, HR⟩
  ihave HQ := ((chQ ins c).borrow p (a := nq) (a' := 8) (w := sq) hp) $$ HQ
  icases HQ with ⟨Ho, HQ⟩
  iapply (load_sub c (M := Memref.whole cc0_scratch4) (r := Rect.unit (s := S8x256x64) ![p.val, 0, 0] S1x256x64.size inb) (hl := hl)
    (r₀ := Rect.unit (s := S8x256x64) ![p.val, 0, 0] S1x256x64.size (inb3 p)) (h₀ := fun _ => rfl) (hq := squeezes_S1x256x64_S256x64)
    (qP (ins (mate c p)) (lo c)) rfl id (fun _ => rfl))
  isplitl [Ho]; · iexact Ho
  iintro Ho
  iapply H
  isplitl []; · iexact HC
  isplitl [HO]; · iexact HO
  isplitl [HK]; · iexact HK
  isplitl [HQ Ho]; · iapply HQ; iexact Ho
  isplitl [HT]; · iexact HT
  isplitl [Hs]; · iexact Hs
  iexact HR

/-- LOAD the contexts that came from place `p`. -/
theorem loadC (p : Fin 8) {off : Fin 3 → ℕ} {inb} {hl : (Memref.whole cc0_scratch5).view.LoadsAt (Rect.unit (s := S8x256x64) off S1x256x64.size inb).toLoadRect}
    {k : (S1x256x64.Idx → Elt F .bf16) → Prog (TpuEff nD τ sig (Elt F) Λ .tc) α}
    (hp : p.val < rc) (ho : off = ![p.val, 0, 0])
    (H : St ins κ c nk rk sk nq rq sq nc wc rc sc R ⊢ wp frame (wpE defs 𝒱₀ c none) Set.univ (k (cR ins c p)) Q) :
    St ins κ c nk rk sk nq rq sq nc wc rc sc R ⊢ wp frame (wpE defs 𝒱₀ (c : Thread nD τ) none) Set.univ
      (.op (.load (Memref.whole cc0_scratch5) (Rect.unit (s := S8x256x64) off S1x256x64.size inb).toLoadRect hl) k) Q := by
  subst ho
  unfold St at H ⊢
  iintro ⟨#HC, HO, HK, HQ, HT, Hs, HR⟩
  ihave HT := ((chC ins c).borrow p (a := nc) (a' := wc) (w := sc) hp) $$ HT
  icases HT with ⟨Ho, HT⟩
  iapply (load_sub c (M := Memref.whole cc0_scratch5) (r := Rect.unit (s := S8x256x64) ![p.val, 0, 0] S1x256x64.size inb) (hl := hl)
    (r₀ := Rect.unit (s := S8x256x64) ![p.val, 0, 0] S1x256x64.size (inb3 p)) (h₀ := fun _ => rfl) (hq := squeezes_S1x256x64_S256x64)
    (cR ins c p) rfl id (fun _ => rfl))
  isplitl [Ho]; · iexact Ho
  iintro Ho
  iapply H
  isplitl []; · iexact HC
  isplitl [HO]; · iexact HO
  isplitl [HK]; · iexact HK
  isplitl [HQ]; · iexact HQ
  isplitl [HT Ho]; · iapply HT; iexact Ho
  isplitl [Hs]; · iexact Hs
  iexact HR

end Loads

section StageC

/-- A LOAD of a context slot not yet staged. -/
theorem deadC (p : Fin 8) {off : Fin 3 → ℕ} {inb} {hl : (Memref.whole cc0_scratch2).view.LoadsAt (Rect.unit (s := S8x256x64) off S1x256x64.size inb).toLoadRect}
    {k : (S1x256x64.Idx → Elt F .bf16) → Prog (TpuEff nD τ sig (Elt F) Λ .tc) α}
    (hp : p.val = wc) (ho : off = ![p.val, 0, 0])
    (H : ∀ v, St ins κ c nk rk sk nq rq sq nc wc rc sc R ⊢ wp frame (wpE defs 𝒱₀ c none) Set.univ (k v) Q) :
    St ins κ c nk rk sk nq rq sq nc wc rc sc R ⊢ wp frame (wpE defs 𝒱₀ (c : Thread nD τ) none) Set.univ
      (.op (.load (Memref.whole cc0_scratch2) (Rect.unit (s := S8x256x64) off S1x256x64.size inb).toLoadRect hl) k) Q := by
  subst ho hp
  unfold St at H ⊢
  rw [seg_pop Fin.val_injective p p.isLt] at H ⊢
  iintro ⟨HC, HO, HK, HQ, HT, ⟨Ho, Hs⟩, HR⟩
  iapply (load_anyOf c (M := Memref.whole cc0_scratch2) (r := Rect.unit (s := S8x256x64) ![p.val, 0, 0] S1x256x64.size inb) (hl := hl)
    (r₀ := Rect.unit (s := S8x256x64) ![p.val, 0, 0] S1x256x64.size (inb3 p)) (h₀ := fun _ => rfl) (hq := squeezes_S1x256x64_S256x64)
    id (fun _ => rfl) (Φ := iprop(Ctx ins κ c ∗ (∃ W, owes (c : Thread nD τ) (owed ins c nk nq nc) W)
      ∗ ChSt (chK ins c) nk 16 rk sk ∗ ChSt (chQ ins c) nq 8 rq sq ∗ ChSt (chC ins c) nc p.val rc sc
      ∗ bigSep (span (Fin.val (n := 8)) (p.val + 1) 8) (fun j => anyOf c (csM j)) ∗ R)) (fun v => BIBase.Entails.trans ?_ (H v)))
  · iintro ⟨Ho, HC, HO, HK, HQ, HT, Hs, HR⟩
    isplitl [HC]; · iexact HC
    isplitl [HO]; · iexact HO
    isplitl [HK]; · iexact HK
    isplitl [HQ]; · iexact HQ
    isplitl [HT]; · iexact HT
    isplitl [Ho Hs]; · isplitl [Ho] <;> iassumption
    iexact HR
  · isplitl [Ho]; · iexact Ho
    isplitl [HC]; · iexact HC
    isplitl [HO]; · iexact HO
    isplitl [HK]; · iexact HK
    isplitl [HQ]; · iexact HQ
    isplitl [HT]; · iexact HT
    isplitl [Hs]; · iexact Hs
    iexact HR

theorem Chan.prepare (C : Chan ins c) (i : Fin C.n) {a g w : ℕ} (ha : a ≤ C.o i) :
    iprop(owns (c : Thread nD τ) (C.sM i) (C.sh i) (C.X i) ∗ ChSt C a (C.o i) g w) ⊢ ChSt C a (C.o i + 1) g w := by
  unfold ChSt
  rw [seg_push C.o_inj i ha]
  iintro ⟨Ho, H1, H2, H3, H⟩
  isplitl [H1]; · iexact H1
  isplitl [H2]; · iexact H2
  isplitl [Ho H3]; · isplitl [Ho] <;> iassumption
  iexact H

/-- STORE the contexts for the device at place `p` into their slot. -/
theorem storeC (p : Fin 8) {off : Fin 3 → ℕ} {inb} {w : S1x256x64.Idx → Elt F .bf16}
    {hx : ((Memref.whole cc0_scratch2).access (Rect.unit (s := S8x256x64) off S1x256x64.size inb)).Stores Finset.univ}
    {hm : Finset.univ = Finset.univ ∨ ∀ a, (Rect.unit (s := S8x256x64) off S1x256x64.size inb).stride a = 1}
    {k : PUnit → Prog (TpuEff nD τ sig (Elt F) Λ .tc) α}
    (hp : p.val = wc) (hnc : nc ≤ p.val) (ho : off = ![p.val, 0, 0]) (hw : w = cP ins c p)
    (H : St ins κ c nk rk sk nq rq sq nc (p.val + 1) rc sc R ⊢ wp frame (wpE defs 𝒱₀ c none) Set.univ (k ⟨⟩) Q) :
    St ins κ c nk rk sk nq rq sq nc wc rc sc R ⊢ wp frame (wpE defs 𝒱₀ (c : Thread nD τ) none) Set.univ
      (.op (.store (Memref.whole cc0_scratch2) (Rect.unit (s := S8x256x64) off S1x256x64.size inb) w Finset.univ hx hm) k) Q := by
  subst ho hp hw
  unfold St at H ⊢
  rw [seg_pop Fin.val_injective p p.isLt]
  iintro ⟨HC, HO, HK, HQ, HT, ⟨Ho, Hs⟩, HR⟩
  iapply (store_slot c (M := Memref.whole cc0_scratch2) (r := Rect.unit (s := S8x256x64) ![p.val, 0, 0] S1x256x64.size inb)
    (h₀ := fun _ => rfl) (hq := squeezes_S1x256x64_S256x64) (w := cP ins c p) (hx := hx) (hm := hm))
  isplitl [Ho]; · iexact Ho
  iintro Ho
  iapply H
  isplitl [HC]; · iexact HC
  isplitl [HO]; · iexact HO
  isplitl [HK]; · iexact HK
  isplitl [HQ]; · iexact HQ
  isplitl [HT Ho]
  · iapply ((chC ins c).prepare p (a := nc) (g := rc) (w := sc) hnc)
    isplitl [Ho]; · iexact Ho
    iexact HT
  isplitl [Hs]; · iexact Hs
  iexact HR

end StageC

end Cert.KernelIdeal.Attn
-- ==== Proof.Start.lean ====
/-
  The first two stretches of the run on one device: the staging of the pieces, and the signals and the wait of the barrier.
-/
module

public import proofs.«01_k».proof.Proof.Walk

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable {Λ : Labels} {defs : Defs nD τ sig (Elt F) Λ} {α : Type}

section Stage

variable (ins : Dev nD → Ins F)

/-- The staged slot `n` with its keys written. -/
def half (c : Dev nD) (n : Fin 8) : sProp 𝕄 :=
  iprop(∃ f, ⌜∀ y, (Memref.whole cc0_scratch0).view.read (Elt F) f
      ((Rect.unit (s := S8x2x256x64) ![n.val, 0, 0, 0] S1x2x256x64.size (inb4 n)).emb (rowIn 0 y)) = kP (ins c) n y⌝
    ∗ ((stM n).view.loc (c : Thread nD τ) ↦[(stM n).view.set]{fullShare} f))

/-- Device `c` with the keys of `a` pieces, the values of `b` and the queries of `q` staged; `R` beside it. -/
def StA (c : Dev nD) (a b q : ℕ) (R : sProp 𝕄) : sProp 𝕄 :=
  iprop(bigSep (span (Fin.val (n := 8)) 0 b) (fun n => owns (c : Thread nD τ) (stM n) fullShare (kvC ins c n))
    ∗ bigSep (span (Fin.val (n := 8)) b a) (fun n => half ins c n)
    ∗ bigSep (span (Fin.val (n := 8)) a 8) (fun n => anyOf c (stM n))
    ∗ bigSep (span (Fin.val (n := 8)) 0 q) (fun n => owns (c : Thread nD τ) (qsM n) fullShare (qC ins c n))
    ∗ bigSep (span (Fin.val (n := 8)) q 8) (fun n => anyOf c (qsM n)) ∗ R)

variable {ins} {c : Dev nD} {a b q : ℕ}

/-- A LOAD of a query slot not yet staged. -/
theorem deadQ {R : sProp 𝕄} {Q : α → sProp 𝕄} (p : Fin 8) {off : Fin 3 → ℕ} {inb} {hl : (Memref.whole cc0_scratch1).view.LoadsAt (Rect.unit (s := S8x256x64) off S1x256x64.size inb).toLoadRect}
    {k : (S1x256x64.Idx → Elt F .bf16) → Prog (TpuEff nD τ sig (Elt F) Λ .tc) α}
    (hp : p.val = q) (ho : off = ![p.val, 0, 0])
    (H : ∀ v, StA ins c a b q R ⊢ wp frame (wpE defs 𝒱₀ c none) Set.univ (k v) Q) :
    StA ins c a b q R ⊢ wp frame (wpE defs 𝒱₀ (c : Thread nD τ) none) Set.univ
      (.op (.load (Memref.whole cc0_scratch1) (Rect.unit (s := S8x256x64) off S1x256x64.size inb).toLoadRect hl) k) Q := by
  subst ho hp
  unfold StA at H ⊢
  rw [seg_pop Fin.val_injective p p.isLt] at H ⊢
  iintro ⟨H1, H2, H3, H4, ⟨Ho, H5⟩, HR⟩
  iapply (load_anyOf c (M := Memref.whole cc0_scratch1) (r := Rect.unit (s := S8x256x64) ![p.val, 0, 0] S1x256x64.size inb) (hl := hl)
    (r₀ := Rect.unit (s := S8x256x64) ![p.val, 0, 0] S1x256x64.size (inb3 p)) (h₀ := fun _ => rfl) (hq := squeezes_S1x256x64_S256x64)
    id (fun _ => rfl) (Φ := iprop(bigSep (span (Fin.val (n := 8)) 0 b) (fun n => owns (c : Thread nD τ) (stM n) fullShare (kvC ins c n))
      ∗ bigSep (span (Fin.val (n := 8)) b a) (fun n => half ins c n)
      ∗ bigSep (span (Fin.val (n := 8)) a 8) (fun n => anyOf c (stM n))
      ∗ bigSep (span (Fin.val (n := 8)) 0 p.val) (fun n => owns (c : Thread nD τ) (qsM n) fullShare (qC ins c n))
      ∗ bigSep (span (Fin.val (n := 8)) (p.val + 1) 8) (fun n => anyOf c (qsM n)) ∗ R)) (fun v => BIBase.Entails.trans ?_ (H v)))
  · iintro ⟨Ho, H1, H2, H3, H4, H5, HR⟩
    isplitl [H1]; · iexact H1
    isplitl [H2]; · iexact H2
    isplitl [H3]; · iexact H3
    isplitl [H4]; · iexact H4
    isplitl [Ho H5]; · isplitl [Ho] <;> iassumption
    iexact HR
  · isplitl [Ho]; · iexact Ho
    isplitl [H1]; · iexact H1
    isplitl [H2]; · iexact H2
    isplitl [H3]; · iexact H3
    isplitl [H4]; · iexact H4
    isplitl [H5]; · iexact H5
    iexact HR

/-- STORE the queries of piece `p`. -/
theorem storeQ {R : sProp 𝕄} {Q : α → sProp 𝕄} (p : Fin 8) {off : Fin 3 → ℕ} {inb} {w : S1x256x64.Idx → Elt F .bf16}
    {hx : ((Memref.whole cc0_scratch1).access (Rect.unit (s := S8x256x64) off S1x256x64.size inb)).Stores Finset.univ}
    {hm : Finset.univ = Finset.univ ∨ ∀ a, (Rect.unit (s := S8x256x64) off S1x256x64.size inb).stride a = 1}
    {k : PUnit → Prog (TpuEff nD τ sig (Elt F) Λ .tc) α}
    (hp : p.val = q) (ho : off = ![p.val, 0, 0]) (hw : w = qP (ins c) p)
    (H : StA ins c a b (p.val + 1) R ⊢ wp frame (wpE defs 𝒱₀ c none) Set.univ (k ⟨⟩) Q) :
    StA ins c a b q R ⊢ wp frame (wpE defs 𝒱₀ (c : Thread nD τ) none) Set.univ
      (.op (.store (Memref.whole cc0_scratch1) (Rect.unit (s := S8x256x64) off S1x256x64.size inb) w Finset.univ hx hm) k) Q := by
  subst ho hp hw
  unfold StA at H ⊢
  rw [seg_pop Fin.val_injective p p.isLt]
  rw [seg_push Fin.val_injective p (Nat.zero_le _)] at H
  iintro ⟨H1, H2, H3, H4, ⟨Ho, H5⟩, HR⟩
  iapply (store_slot c (M := Memref.whole cc0_scratch1) (r := Rect.unit (s := S8x256x64) ![p.val, 0, 0] S1x256x64.size inb)
    (h₀ := fun _ => rfl) (hq := squeezes_S1x256x64_S256x64) (w := qP (ins c) p) (hx := hx) (hm := hm))
  isplitl [Ho]; · iexact Ho
  iintro Ho
  iapply H
  isplitl [H1]; · iexact H1
  isplitl [H2]; · iexact H2
  isplitl [H3]; · iexact H3
  isplitl [Ho H4]
  · isplitl [Ho]; · iexact Ho
    iexact H4
  isplitl [H5]; · iexact H5
  iexact HR

/-- A LOAD of a keys slot not yet staged. -/
theorem deadK {R : sProp 𝕄} {Q : α → sProp 𝕄} (p : Fin 8) {off : Fin 4 → ℕ} {inb} {hl : (Memref.whole cc0_scratch0).view.LoadsAt (Rect.unit (s := S8x2x256x64) off S1x1x256x64.size inb).toLoadRect}
    {k : (S1x1x256x64.Idx → Elt F .bf16) → Prog (TpuEff nD τ sig (Elt F) Λ .tc) α}
    (hp : p.val = a) (ho : off = ![p.val, 0, 0, 0])
    (H : ∀ v, StA ins c a b q R ⊢ wp frame (wpE defs 𝒱₀ c none) Set.univ (k v) Q) :
    StA ins c a b q R ⊢ wp frame (wpE defs 𝒱₀ (c : Thread nD τ) none) Set.univ
      (.op (.load (Memref.whole cc0_scratch0) (Rect.unit (s := S8x2x256x64) off S1x1x256x64.size inb).toLoadRect hl) k) Q := by
  subst ho hp
  unfold StA at H ⊢
  rw [seg_pop Fin.val_injective p p.isLt] at H ⊢
  iintro ⟨H1, H2, ⟨Ho, H3⟩, HR⟩
  iapply (load_anyOf c (M := Memref.whole cc0_scratch0) (r := Rect.unit (s := S8x2x256x64) ![p.val, 0, 0, 0] S1x1x256x64.size inb) (hl := hl)
    (r₀ := Rect.unit (s := S8x2x256x64) ![p.val, 0, 0, 0] S1x2x256x64.size (inb4 p)) (h₀ := fun _ => rfl) (hq := squeezes_S1x2x256x64_S2x256x64)
    (rowIn 0) (rowIn_emb p 0) (Φ := iprop(bigSep (span (Fin.val (n := 8)) 0 b) (fun n => owns (c : Thread nD τ) (stM n) fullShare (kvC ins c n))
      ∗ bigSep (span (Fin.val (n := 8)) b p.val) (fun n => half ins c n)
      ∗ bigSep (span (Fin.val (n := 8)) (p.val + 1) 8) (fun n => anyOf c (stM n))
      ∗ bigSep (span (Fin.val (n := 8)) 0 q) (fun n => owns (c : Thread nD τ) (qsM n) fullShare (qC ins c n))
      ∗ bigSep (span (Fin.val (n := 8)) q 8) (fun n => anyOf c (qsM n)) ∗ R)) (fun v => BIBase.Entails.trans ?_ (H v)))
  · iintro ⟨Ho, H1, H2, H3, HR⟩
    isplitl [H1]; · iexact H1
    isplitl [H2]; · iexact H2
    isplitl [Ho H3]; · isplitl [Ho] <;> iassumption
    iexact HR
  · isplitl [Ho]; · iexact Ho
    isplitl [H1]; · iexact H1
    isplitl [H2]; · iexact H2
    isplitl [H3]; · iexact H3
    iexact HR

/-- STORE the keys of piece `p`. -/
theorem storeK {R : sProp 𝕄} {Q : α → sProp 𝕄} (p : Fin 8) {off : Fin 4 → ℕ} {inb} {w : S1x1x256x64.Idx → Elt F .bf16}
    {hx : ((Memref.whole cc0_scratch0).access (Rect.unit (s := S8x2x256x64) off S1x1x256x64.size inb)).Stores Finset.univ}
    {hm : Finset.univ = Finset.univ ∨ ∀ a, (Rect.unit (s := S8x2x256x64) off S1x1x256x64.size inb).stride a = 1}
    {k : PUnit → Prog (TpuEff nD τ sig (Elt F) Λ .tc) α}
    (hp : p.val = a) (hb : b ≤ p.val) (ho : off = ![p.val, 0, 0, 0]) (hw : w = kP (ins c) p)
    (H : StA ins c (p.val + 1) b q R ⊢ wp frame (wpE defs 𝒱₀ c none) Set.univ (k ⟨⟩) Q) :
    StA ins c a b q R ⊢ wp frame (wpE defs 𝒱₀ (c : Thread nD τ) none) Set.univ
      (.op (.store (Memref.whole cc0_scratch0) (Rect.unit (s := S8x2x256x64) off S1x1x256x64.size inb) w Finset.univ hx hm) k) Q := by
  subst ho hp hw
  unfold StA at H ⊢
  rw [seg_pop Fin.val_injective p p.isLt]
  rw [seg_push Fin.val_injective p hb] at H
  iintro ⟨H1, H2, ⟨Ho, H3⟩, HR⟩
  ihave Ho := (show (anyOf c (stM p) : sProp 𝕄) ⊢ iprop(∃ f, ((stM p).view.loc (c : Thread nD τ) ↦[(stM p).view.set]{fullShare} f)) from .rfl) $$ Ho
  icases Ho with ⟨%f, Ho⟩
  iapply (store_sub c (M := Memref.whole cc0_scratch0) (r := Rect.unit (s := S8x2x256x64) ![p.val, 0, 0, 0] S1x1x256x64.size inb)
    (r₀ := Rect.unit (s := S8x2x256x64) ![p.val, 0, 0, 0] S1x2x256x64.size (inb4 p)) (h₀ := fun _ => rfl) (hq := squeezes_S1x2x256x64_S2x256x64) (w := kP (ins c) p) (hx := hx) (hm := hm)
    (f := f) (rowIn 0) (rowIn_emb p 0))
  isplitl [Ho]; · iexact Ho
  iintro Ho
  iapply H
  isplitl [H1]; · iexact H1
  isplitl [Ho H2]
  · isplitl [Ho]
    · unfold half
      iexists ((Memref.whole cc0_scratch0).access (Rect.unit (s := S8x2x256x64) ![p.val, 0, 0, 0] S1x1x256x64.size inb)).write (Elt F) f (kP (ins c) p) Finset.univ
      isplitr
      · ipureintro
        intro y
        rw [← rowIn_emb p 0 (inb := inb)]
        exact congrFun (View.read_write_univ (v := (Memref.whole cc0_scratch0).access (Rect.unit (s := S8x2x256x64) ![p.val, 0, 0, 0] S1x1x256x64.size inb)) f (kP (ins c) p)) y
      iexact Ho
    iexact H2
  isplitl [H3]; · iexact H3
  iexact HR

/-- A LOAD of a values slot not yet staged. -/
theorem deadV {R : sProp 𝕄} {Q : α → sProp 𝕄} (p : Fin 8) {off : Fin 4 → ℕ} {inb} {hl : (Memref.whole cc0_scratch0).view.LoadsAt (Rect.unit (s := S8x2x256x64) off S1x1x256x64.size inb).toLoadRect}
    {k : (S1x1x256x64.Idx → Elt F .bf16) → Prog (TpuEff nD τ sig (Elt F) Λ .tc) α}
    (hp : p.val = b) (ha : b < a) (ho : off = ![p.val, 1, 0, 0])
    (H : ∀ v, StA ins c a b q R ⊢ wp frame (wpE defs 𝒱₀ c none) Set.univ (k v) Q) :
    StA ins c a b q R ⊢ wp frame (wpE defs 𝒱₀ (c : Thread nD τ) none) Set.univ
      (.op (.load (Memref.whole cc0_scratch0) (Rect.unit (s := S8x2x256x64) off S1x1x256x64.size inb).toLoadRect hl) k) Q := by
  subst ho hp
  unfold StA at H ⊢
  rw [seg_pop Fin.val_injective p ha] at H ⊢
  iintro ⟨H1, ⟨Ho, H2⟩, H3, HR⟩
  unfold half at H ⊢
  icases Ho with ⟨%f, %hf, Ho⟩
  iapply (load_any c (M := Memref.whole cc0_scratch0) (r := Rect.unit (s := S8x2x256x64) ![p.val, 1, 0, 0] S1x1x256x64.size inb) (hl := hl)
    (r₀ := Rect.unit (s := S8x2x256x64) ![p.val, 0, 0, 0] S1x2x256x64.size (inb4 p)) (h₀ := fun _ => rfl) (hq := squeezes_S1x2x256x64_S2x256x64)
    (rowIn 1) (rowIn_emb p 1) (f := f) (Φ := iprop(bigSep (span (Fin.val (n := 8)) 0 p.val) (fun n => owns (c : Thread nD τ) (stM n) fullShare (kvC ins c n))
      ∗ bigSep (span (Fin.val (n := 8)) (p.val + 1) a) (fun n => half ins c n)
      ∗ bigSep (span (Fin.val (n := 8)) a 8) (fun n => anyOf c (stM n))
      ∗ bigSep (span (Fin.val (n := 8)) 0 q) (fun n => owns (c : Thread nD τ) (qsM n) fullShare (qC ins c n))
      ∗ bigSep (span (Fin.val (n := 8)) q 8) (fun n => anyOf c (qsM n)) ∗ R)) (fun v => BIBase.Entails.trans ?_ (H v)))
  · iintro ⟨Ho, H1, H2, H3, HR⟩
    isplitl [H1]; · iexact H1
    isplitl [Ho H2]
    · isplitl [Ho]
      · iexists f
        isplitr; · ipureintro; exact hf
        iexact Ho
      iexact H2
    isplitl [H3]; · iexact H3
    iexact HR
  · isplitl [Ho]; · iexact Ho
    isplitl [H1]; · iexact H1
    isplitl [H2]; · iexact H2
    isplitl [H3]; · iexact H3
    iexact HR

/-- STORE the values of piece `p`. -/
theorem storeV {R : sProp 𝕄} {Q : α → sProp 𝕄} (p : Fin 8) {off : Fin 4 → ℕ} {inb} {w : S1x1x256x64.Idx → Elt F .bf16}
    {hx : ((Memref.whole cc0_scratch0).access (Rect.unit (s := S8x2x256x64) off S1x1x256x64.size inb)).Stores Finset.univ}
    {hm : Finset.univ = Finset.univ ∨ ∀ a, (Rect.unit (s := S8x2x256x64) off S1x1x256x64.size inb).stride a = 1}
    {k : PUnit → Prog (TpuEff nD τ sig (Elt F) Λ .tc) α}
    (hp : p.val = b) (ha : b < a) (ho : off = ![p.val, 1, 0, 0]) (hw : w = vP (ins c) p)
    (H : StA ins c a (p.val + 1) q R ⊢ wp frame (wpE defs 𝒱₀ c none) Set.univ (k ⟨⟩) Q) :
    StA ins c a b q R ⊢ wp frame (wpE defs 𝒱₀ (c : Thread nD τ) none) Set.univ
      (.op (.store (Memref.whole cc0_scratch0) (Rect.unit (s := S8x2x256x64) off S1x1x256x64.size inb) w Finset.univ hx hm) k) Q := by
  subst ho hp hw
  unfold StA at H ⊢
  rw [seg_pop Fin.val_injective p ha]
  rw [seg_push Fin.val_injective p (Nat.zero_le _)] at H
  iintro ⟨H1, ⟨Ho, H2⟩, H3, HR⟩
  ihave Ho := (show (half ins c p : sProp 𝕄) ⊢ iprop(∃ f, ⌜∀ y, (Memref.whole cc0_scratch0).view.read (Elt F) f
      ((Rect.unit (s := S8x2x256x64) ![p.val, 0, 0, 0] S1x2x256x64.size (inb4 p)).emb (rowIn 0 y)) = kP (ins c) p y⌝
    ∗ ((stM p).view.loc (c : Thread nD τ) ↦[(stM p).view.set]{fullShare} f)) from .rfl) $$ Ho
  icases Ho with ⟨%f, %hf, Ho⟩
  iapply (store_sub c (M := Memref.whole cc0_scratch0) (r := Rect.unit (s := S8x2x256x64) ![p.val, 1, 0, 0] S1x1x256x64.size inb)
    (r₀ := Rect.unit (s := S8x2x256x64) ![p.val, 0, 0, 0] S1x2x256x64.size (inb4 p)) (h₀ := fun _ => rfl) (hq := squeezes_S1x2x256x64_S2x256x64) (w := vP (ins c) p) (hx := hx) (hm := hm)
    (f := f) (rowIn 1) (rowIn_emb p 1))
  isplitl [Ho]; · iexact Ho
  iintro Ho
  iapply H
  isplitl [Ho H1]
  · isplitl [Ho]
    · unfold owns
      iexists ((Memref.whole cc0_scratch0).access (Rect.unit (s := S8x2x256x64) ![p.val, 1, 0, 0] S1x1x256x64.size inb)).write (Elt F) f (vP (ins c) p) Finset.univ
      isplitr
      · ipureintro
        refine (Memref.read_squeeze_slice (Memref.whole cc0_scratch0) _ _ _ squeezes_S1x2x256x64_S2x256x64.numel_eq _).trans (congrArg (fun v => shapeCast S2x256x64 v _) ?_)
        funext x
        have h1 : (x 1).val < 2 := (x 1).isLt
        have h0 : (x 0).val < 1 := (x 0).isLt
        have hx (h : Fin 2) (hh : (x 1).val = h.val) : x = rowIn h (ValueIdx.ix4 0 0 (x 2) (x 3)) := by
          funext a
          match a with
          | 0 => exact Fin.ext (by show (x 0).val = 0; omega)
          | 1 => exact Fin.ext hh
          | 2 => rfl
          | 3 => rfl
        obtain h | h : (x 1).val = 0 ∨ (x 1).val = 1 := by omega
        · refine Eq.trans ?_ (if_pos h).symm
          have hx' := hx 0 h
          generalize (ValueIdx.ix4 0 0 (x 2) (x 3) : S1x1x256x64.Idx) = y at hx' ⊢
          subst hx'
          refine Eq.trans ?_ (hf y)
          rw [View.readAt_apply, View.read_apply, View.read_apply, View.write_of_not_mem]
          · rfl
          · intro hm
            obtain ⟨z, -, hz⟩ := Finset.mem_map.mp hm
            have hz' := (Memref.whole cc0_scratch0).view.emb.injective (show (Memref.whole cc0_scratch0).view.emb ((Rect.unit (s := S8x2x256x64) ![p.val, 1, 0, 0] S1x1x256x64.size inb).emb z)
              = (Memref.whole cc0_scratch0).view.emb ((Rect.unit (s := S8x2x256x64) ![p.val, 0, 0, 0] S1x2x256x64.size (inb4 p)).emb (rowIn 0 y)) from hz)
            have h2 : 1 + 1 * (z 1).val = 0 + 1 * 0 := congrArg Fin.val (congrFun hz' 1)
            omega
        · refine Eq.trans ?_ (if_neg (by omega)).symm
          have hx' := hx 1 h
          generalize (ValueIdx.ix4 0 0 (x 2) (x 3) : S1x1x256x64.Idx) = y at hx' ⊢
          subst hx'
          refine Eq.trans ?_ (congrFun (View.read_write_univ (v := (Memref.whole cc0_scratch0).access (Rect.unit (s := S8x2x256x64) ![p.val, 1, 0, 0] S1x1x256x64.size inb)) f (vP (ins c) p)) y)
          show (Memref.whole cc0_scratch0).view.read (Elt F) _ ((Rect.unit (s := S8x2x256x64) ![p.val, 0, 0, 0] S1x2x256x64.size (inb4 p)).emb (rowIn 1 y)) = _
          rw [← rowIn_emb p 1 (inb := inb)]
          rfl
      iexact Ho
    iexact H1
  isplitl [H2]; · iexact H2
  isplitl [H3]; · iexact H3
  iexact HR

end Stage

/-! ## The barrier -/

section Barrier

variable (ins : Dev nD → Ins F) (κ : GSem nD τ sig → ℕ)

/-- What the signals still to be made owe. -/
def owedBar (b : ℕ) : CellTallies nD τ sig Unit := ∑ p ∈ span (Fin.val (n := 16)) b 16, tallyAt (cell (p : Dev nD) .bar) () 1

/-- Device `c` with `b` signals made; `R` beside it. -/
def StB (c : Dev nD) (b : ℕ) (R : sProp 𝕄) : sProp 𝕄 :=
  iprop(Ctx ins κ c ∗ (∃ W, owes (c : Thread nD τ) (owedBar b + owed ins c 0 0 0) W)
    ∗ bigSep (span (Fin.val (n := 16)) b 16) (fun p => iprop(dutyTok ER (cell (p : Dev nD) .bar) 0 c ∗ barPay c p)) ∗ R)

variable {ins κ} {c : Dev nD} {b : ℕ}

/-- SIGNAL device `p`. -/
theorem signal {R : sProp 𝕄} {Q : α → sProp 𝕄} (p : Fin 16) {D : Dev nD} {sem : Sem sig} {n : Int}
    {k : PUnit → Prog (TpuEff nD τ sig (Elt F) Λ .tc) α}
    (hp : p.val = b) (hD : D = p) (hs : (.reg sem : SemLoc sig) = semOf .bar) (hn : n = ((1 : ℕ) : Int))
    (H : StB ins κ c (p.val + 1) R ⊢ wp frame (wpE defs 𝒱₀ c none) Set.univ (k ⟨⟩) Q) :
    StB ins κ c b R ⊢ wp frame (wpE defs 𝒱₀ (c : Thread nD τ) none) Set.univ (.op (.semSignal (Dev.tc D : Thread nD τ) sem n) k) Q := by
  subst hp hD hn
  have hs' : sem = sig.barrier 0 rfl := SemLoc.reg.inj (hs.trans rfl)
  subst hs'
  unfold StB at H ⊢
  obtain ⟨h1, h2⟩ := span_pop (o := Fin.val (n := 16)) Fin.val_injective D D.isLt
  rw [seg_pop Fin.val_injective D D.isLt]
  iintro ⟨#HC, ⟨%W, HO⟩, ⟨⟨Ht, Hp⟩, Hs⟩, HR⟩
  iapply (Rounds.wp_signal 𝒱₀ ER (Rd ins) (c : Thread nD τ) none (dst := (D : Thread nD τ)) (sem := sig.barrier 0 rfl) (r := 0) (d := c) (k' := 1) (κ := κ (cell D .bar))
    (show c ∈ (Rd ins).duties (cell D .bar) 0 from by rw [Rd_duties]; exact Finset.mem_univ _)
    (show (Rd ins).amount (cell D .bar) 0 c = 1 from Rd_amount ins D .bar 0 c) ()
    (owedBar (D.val + 1) + owed ins c 0 0 0)
    (show owedBar D.val + owed ins c 0 0 0 = _ from by
      unfold owedBar
      rw [h2, Finset.sum_insert h1, add_comm (tallyAt _ _ _), add_right_comm]; rfl) (W := W)) $$ [HO Ht Hp]
  · isplitl []; · iapply (Ctx_inv ins κ c D .bar); iexact HC
    isplitl [HO]; · iexact HO
    isplitl [Ht]; · iexact Ht
    isplitl [Hp]
    · iapply (show (barPay c D : sProp 𝕄) ⊢ (Rd ins).payload (D.tc, SemLoc.reg (sig.barrier 0 rfl)) 0 c from Entails.of_eq (Rd_payload ins D .bar 0 c).symm); iexact Hp
    iapply (Ctx_bar ins κ c D); iexact HC
  iintro HO
  iapply H
  isplitl []; · iexact HC
  isplitl [HO]; · iexists W; iexact HO
  isplitl [Hs]; · iexact Hs
  iexact HR

set_option maxRecDepth 100000 in
/-- WAIT for the sixteen signals. -/
theorem waitBar {R : sProp 𝕄} {Q : α → sProp 𝕄} {sem : Sem sig} {n : Int}
    {k : PUnit → Prog (TpuEff nD τ sig (Elt F) Λ .tc) α}
    (hs : (.reg sem : SemLoc sig) = semOf .bar) (hn : n = ((16 : ℕ) : Int))
    (H : iprop(Ctx ins κ c ∗ (∃ W, owes (c : Thread nD τ) (owed ins c 0 0 0) W) ∗ atPos ER (cell c .bar) 1 (∅ : Finset (Dev nD)) 0
        ∗ bigSep Finset.univ (fun p => barPay p c) ∗ R) ⊢ wp frame (wpE defs 𝒱₀ c none) Set.univ (k ⟨⟩) Q) :
    StB ins κ c 16 iprop((atPos ER (cell c .bar) 0 (∅ : Finset (Dev nD)) 0 ∗ cred (tallyAt (cell c .bar) () 16)) ∗ R)
      ⊢ wp frame (wpE defs 𝒱₀ (c : Thread nD τ) none) Set.univ (.op (.semWait sem n) k) Q := by
  subst hn
  have hs' : sem = sig.barrier 0 rfl := SemLoc.reg.inj (hs.trans rfl)
  subst hs'
  unfold StB
  have h0 : owedBar 16 = 0 := by unfold owedBar; rw [span_none (le_refl 16), Finset.sum_empty]
  rw [h0, zero_add]
  have hx : 16 = (Rd ins).expect (cell c .bar) 0 := by rw [Rd_expect]; rfl
  have hO : Above (chLev .bar) (owed ins c 0 0 0) := by
    unfold owed
    exact ((chK ins c).owed_above 0 (by show 1 < 2; omega)).add
      (((chQ ins c).owed_above 0 (by show 1 < 2; omega)).add ((chC ins c).owed_above 0 (by show 1 < 3; omega)))
  iintro ⟨#HC, ⟨%W, HO⟩, -, ⟨Hat, Hcr⟩, HR⟩
  iapply (Rounds.wp_wait_rest_token 𝒱₀ ER (Rd ins) (c : Thread nD τ) none (sm := semOf .bar) (k' := 16) (κ := κ (cell c .bar))
      (fun K => wpE_semWait_eq 𝒱₀ (c : Thread nD τ) none Set.univ K)
      (Set.mem_univ _) () (O := owed ins c 0 0 0) (W := W) (R := 0) (m := 0) (T := ∅)
      ((Nat.zero_add _).trans hx)) $$ [Hcr HO Hat]
  · isplitr; · iapply (Ctx_inv ins κ c c .bar); iexact HC
    isplitl [Hcr]; · iexact Hcr
    isplitl [HO]; · iexact HO
    isplitr
    · iapply ((Ctx_lev ins κ c).trans (Above.mayWait (F := F) (k := .bar) c hO)); iexact HC
    iexact Hat
  iintro ⟨HO, Hat, -, Hp⟩
  ihave Hp := (Entails.of_eq (Rd_rest ins c .bar)) $$ Hp
  iapply H
  isplitl []; · iexact HC
  isplitl [HO]; · iexists _; iexact HO
  isplitl [Hat]; · iexact Hat
  isplitl [Hp]; · iexact Hp
  iexact HR

end Barrier

end Cert.KernelIdeal.Attn
-- ==== Proof.Parts.lean ====
/-
  The parts of the kernel between the barrier and the last load, each as a step of the state after the barrier.
-/
module

public import proofs.«01_k».proof.Proof.Start

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- The nine windows of one device. -/
structure Wins where
  a0 : Memref sig .tc .vmem S512x768 .bf16
  h0 : a0.IsWhole
  a1 : Memref sig .tc .vmem S768x256 .bf16
  h1 : a1.IsWhole
  a2 : Memref sig .tc .vmem S768x256 .bf16
  h2 : a2.IsWhole
  a3 : Memref sig .tc .vmem S768x256 .bf16
  h3 : a3.IsWhole
  a4 : Memref sig .tc .vmem S256x768 .bf16
  h4 : a4.IsWhole
  a5 : Memref sig .tc .vmem S512x256 .f32
  h5 : a5.IsWhole
  a6 : Memref sig .tc .vmem S512x256 .f32
  h6 : a6.IsWhole
  a7 : Memref sig .tc .vmem S256x256 .bf16
  h7 : a7.IsWhole
  a8 : Memref sig .tc .vmem S512x768 .f32
  h8 : a8.IsWhole

/-- A part of the kernel at its windows, its buffers and its semaphores. -/
abbrev Wins.run {β : Type 1} (W : Wins) (f : (a0 : Memref sig .tc .vmem S512x768 .bf16) → a0.IsWhole → (a1 : Memref sig .tc .vmem S768x256 .bf16) → a1.IsWhole → (a2 : Memref sig .tc .vmem S768x256 .bf16) → a2.IsWhole → (a3 : Memref sig .tc .vmem S768x256 .bf16) → a3.IsWhole → (a4 : Memref sig .tc .vmem S256x768 .bf16) → a4.IsWhole → (a5 : Memref sig .tc .vmem S512x256 .f32) → a5.IsWhole → (a6 : Memref sig .tc .vmem S512x256 .f32) → a6.IsWhole → (a7 : Memref sig .tc .vmem S256x256 .bf16) → a7.IsWhole → (a8 : Memref sig .tc .vmem S512x768 .f32) → a8.IsWhole → (a9 : Memref sig .tc .vmem S8x2x256x64 .bf16) → a9.IsWhole → (a10 : Memref sig .tc .vmem S8x256x64 .bf16) → a10.IsWhole → (a11 : Memref sig .tc .vmem S8x256x64 .bf16) → a11.IsWhole → (a12 : Memref sig .tc .vmem S16x2x256x64 .bf16) → a12.IsWhole → (a13 : Memref sig .tc .vmem S8x256x64 .bf16) → a13.IsWhole → (a14 : Memref sig .tc .vmem S8x256x64 .bf16) → a14.IsWhole → DmaSems sig S8x2 → DmaSems sig S16 → DmaSems sig S8 → DmaSems sig S8 → DmaSems sig S8 → DmaSems sig S8 → β) : β :=
  f W.a0 W.h0 W.a1 W.h1 W.a2 W.h2 W.a3 W.h3 W.a4 W.h4 W.a5 W.h5 W.a6 W.h6 W.a7 W.h7 W.a8 W.h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11

section At

variable (c : Dev nD)

theorem kvM_at : ((Memref.whole cc0_scratch3).slice (Rect.unit (s := S16x2x256x64) (k0_off2 c) S1x2x256x64.size (k0_off2_inb c)) (fun _ => rfl)).squeeze S2x256x64 squeezes_S1x2x256x64_S2x256x64
    = kvM c := by
  have h : ∀ (off : Fin 4 → ℕ) (inb), off = ![c.val, 0, 0, 0] →
      ((Memref.whole cc0_scratch3).slice (Rect.unit (s := S16x2x256x64) off S1x2x256x64.size inb) (fun _ => rfl)).squeeze S2x256x64 squeezes_S1x2x256x64_S2x256x64 = kvM c := by
    intro off inb ho; subst ho; rfl
  exact h _ _ (k0_off2_eq c)

theorem kvr_at : (.dma ((cc0_scratch7.slice (Rect.unit (s := S16) (k0_off1 c) S1.size (k0_off1_inb c))).squeeze S_ squeezes_S1_S_).sem : SemLoc sig) = semOf (.kvr c) := by
  have h : ∀ (off : Fin 1 → ℕ) (inb), off = ![c.val] →
      (.dma ((cc0_scratch7.slice (Rect.unit (s := S16) off S1.size inb)).squeeze S_ squeezes_S1_S_).sem : SemLoc sig) = semOf (.kvr c) := by
    intro off inb ho; subst ho; revert c; decide +kernel
  exact h _ _ (k0_off1_eq c)

theorem qbM_at (h) : ((Memref.whole cc0_scratch4).slice (Rect.unit (s := S8x256x64) (k0_off4 c) S1x256x64.size h) (fun _ => rfl)).squeeze S256x64 squeezes_S1x256x64_S256x64
    = qbM (lo c) := by
  have h' : ∀ (off : Fin 3 → ℕ) (inb), off = ![c.val % 8, 0, 0] →
      ((Memref.whole cc0_scratch4).slice (Rect.unit (s := S8x256x64) off S1x256x64.size inb) (fun _ => rfl)).squeeze S256x64 squeezes_S1x256x64_S256x64 = qbM (lo c) := by
    intro off inb ho; subst ho; rfl
  exact h' _ _ (k0_off4_eq c)

theorem cbM_at (h) : ((Memref.whole cc0_scratch5).slice (Rect.unit (s := S8x256x64) (k0_off4 c) S1x256x64.size h) (fun _ => rfl)).squeeze S256x64 squeezes_S1x256x64_S256x64
    = cbM (lo c) := by
  have h' : ∀ (off : Fin 3 → ℕ) (inb), off = ![c.val % 8, 0, 0] →
      ((Memref.whole cc0_scratch5).slice (Rect.unit (s := S8x256x64) off S1x256x64.size inb) (fun _ => rfl)).squeeze S256x64 squeezes_S1x256x64_S256x64 = cbM (lo c) := by
    intro off inb ho; subst ho; rfl
  exact h' _ _ (k0_off4_eq c)

theorem qr_at (h) : (.dma ((cc0_scratch9.slice (Rect.unit (s := S8) (k0_off3 c) S1.size h)).squeeze S_ squeezes_S1_S_).sem : SemLoc sig) = semOf (.qr (lo c)) := by
  have h' : ∀ (off : Fin 1 → ℕ) (inb), off = ![c.val % 8] →
      (.dma ((cc0_scratch9.slice (Rect.unit (s := S8) off S1.size inb)).squeeze S_ squeezes_S1_S_).sem : SemLoc sig) = semOf (.qr (lo c)) := by
    intro off inb ho; subst ho; revert c; decide +kernel
  exact h' _ _ (k0_off3_eq c)

theorem cr_at (h) : (.dma ((cc0_scratch11.slice (Rect.unit (s := S8) (k0_off3 c) S1.size h)).squeeze S_ squeezes_S1_S_).sem : SemLoc sig) = semOf (.cr (lo c)) := by
  have h' : ∀ (off : Fin 1 → ℕ) (inb), off = ![c.val % 8] →
      (.dma ((cc0_scratch11.slice (Rect.unit (s := S8) off S1.size inb)).squeeze S_ squeezes_S1_S_).sem : SemLoc sig) = semOf (.cr (lo c)) := by
    intro off inb ho; subst ho; revert c; decide +kernel
  exact h' _ _ (k0_off3_eq c)

end At

variable {ins : Dev nD → Ins F} {κ : GSem nD τ sig → ℕ} {c : Dev nD} {W : Wins}

local notation "PP" => sProp 𝕄

variable (ins c W) in
/-- The windows of device `c` at their contents, the result's at `out`. -/
def Wn (out : Vec F S512x768 .f32) : sProp 𝕄 :=
  iprop(owns (c : Thread nD τ) W.a0 fullShare (ins c).x ∗ owns (c : Thread nD τ) W.a1 fullShare (ins c).wq ∗ owns (c : Thread nD τ) W.a2 fullShare (ins c).wk
    ∗ owns (c : Thread nD τ) W.a3 fullShare (ins c).wv ∗ owns (c : Thread nD τ) W.a4 fullShare (ins c).wo ∗ owns (c : Thread nD τ) W.a5 fullShare (ins c).cos
    ∗ owns (c : Thread nD τ) W.a6 fullShare (ins c).sin ∗ owns (c : Thread nD τ) W.a7 fullShare (ins c).rot ∗ owns (c : Thread nD τ) W.a8 fullShare out)

/-- A state that can lend `A`. -/
abbrev Got (P A : sProp 𝕄) : Prop := P ⊢ iprop(A ∗ (A -∗ P))

section Got

variable {out : Vec F S512x768 .f32} {R A : sProp (MT nD τ sig Unit (Elt F) ℕ UU ℕ)}

theorem got_left {P : sProp 𝕄} (h : Got P A) : Got iprop(P ∗ R) A := by
  iintro ⟨HP, HR⟩
  ihave HP := (show P ⊢ iprop(A ∗ (A -∗ P)) from h) $$ HP
  icases HP with ⟨HA, HP⟩
  isplitl [HA]; · iexact HA
  iintro HA
  isplitl [HP HA]; · iapply HP; iexact HA
  iexact HR

theorem got_right {P : sProp 𝕄} (h : Got R A) : Got iprop(P ∗ R) A := by
  iintro ⟨HP, HR⟩
  ihave HR := (show R ⊢ iprop(A ∗ (A -∗ R)) from h) $$ HR
  icases HR with ⟨HA, HR⟩
  isplitl [HA]; · iexact HA
  iintro HA
  isplitl [HP]; · iexact HP
  iapply HR; iexact HA

theorem got_self {P : sProp 𝕄} : Got P P := by
  iintro H
  isplitl [H]; · iexact H
  iintro H; iexact H

theorem Wn_0 : Got iprop(Wn ins c W out ∗ R) (owns (c : Thread nD τ) W.a0 fullShare (ins c).x) := got_left (got_left got_self)
theorem Wn_1 : Got iprop(Wn ins c W out ∗ R) (owns (c : Thread nD τ) W.a1 fullShare (ins c).wq) := got_left (got_right (got_left got_self))
theorem Wn_2 : Got iprop(Wn ins c W out ∗ R) (owns (c : Thread nD τ) W.a2 fullShare (ins c).wk) := got_left (got_right (got_right (got_left got_self)))
theorem Wn_3 : Got iprop(Wn ins c W out ∗ R) (owns (c : Thread nD τ) W.a3 fullShare (ins c).wv) := got_left (got_right (got_right (got_right (got_left got_self))))
theorem Wn_4 : Got iprop(Wn ins c W out ∗ R) (owns (c : Thread nD τ) W.a4 fullShare (ins c).wo) :=
  got_left (got_right (got_right (got_right (got_right (got_left got_self)))))
theorem Wn_5 : Got iprop(Wn ins c W out ∗ R) (owns (c : Thread nD τ) W.a5 fullShare (ins c).cos) :=
  got_left (got_right (got_right (got_right (got_right (got_right (got_left got_self))))))
theorem Wn_6 : Got iprop(Wn ins c W out ∗ R) (owns (c : Thread nD τ) W.a6 fullShare (ins c).sin) :=
  got_left (got_right (got_right (got_right (got_right (got_right (got_right (got_left got_self)))))))
theorem Wn_7 : Got iprop(Wn ins c W out ∗ R) (owns (c : Thread nD τ) W.a7 fullShare (ins c).rot) :=
  got_left (got_right (got_right (got_right (got_right (got_right (got_right (got_right (got_left got_self))))))))
theorem Wn_8 : Got iprop(Wn ins c W out ∗ R) (owns (c : Thread nD τ) W.a8 fullShare out) :=
  got_left (got_right (got_right (got_right (got_right (got_right (got_right (got_right (got_right got_self))))))))

theorem St_got {nk rk sk nq rq sq nc wc rc sc : ℕ} (h : Got R A) : Got (St ins κ c nk rk sk nq rq sq nc wc rc sc R) A :=
  got_right (got_right (got_right (got_right (got_right (got_right h)))))
theorem StA_got {a b q : ℕ} (h : Got R A) : Got (StA ins c a b q R) A :=
  got_right (got_right (got_right (got_right (got_right h))))

/-- LOAD a memref the state lends. -/
theorem load_got {Λ : Labels} {defs : Defs nD τ sig (Elt F) Λ} {α : Type} {s : Shape} {e : EltTy} {P : sProp 𝕄}
    {m : Memref sig .tc .vmem s e} {q : PosShare TreeShare} {X : s.Idx → Elt F e} (hP : Got P (owns (c : Thread nD τ) m q X))
    {off : Fin s.rank → ℕ} {inb : ∀ a, off a + s.size a ≤ s.size a} {hl : m.view.LoadsAt (Rect.unit off s.size inb).toLoadRect}
    {k : (s.Idx → Elt F e) → Prog (TpuEff nD τ sig (Elt F) Λ .tc) α} {Q : α → sProp 𝕄}
    (H : P ⊢ wp frame (wpE defs 𝒱₀ c none) Set.univ (k X) Q) :
    P ⊢ wp frame (wpE defs 𝒱₀ (c : Thread nD τ) none) Set.univ (.op (.load m (Rect.unit off s.size inb).toLoadRect hl) k) Q := by
  refine BIBase.Entails.trans hP ?_
  iintro ⟨HA, HP⟩
  iapply (load_full c)
  isplitl [HA]; · iexact HA
  iintro HA
  iapply H
  iapply HP
  iexact HA

end Got

/-- The queries that come from place `j`. -/
abbrev qR (ins : Dev nD → Ins F) (c : Dev nD) (j : Fin 8) : FVec F S1x256x64 .bf16 := qP (ins (mate c j)) (lo c)

theorem part8 {R : PP} {Q : _ → PP} (v3 : BitVec 32) (v177 : BitVec 32) (c0_i32_171 : BitVec 32)
    (H : St ins κ c 2 0 0 1 0 0 0 0 0 0 R ⊢ Q ⟨⟩) :
    St ins κ c 1 0 0 0 0 0 0 0 0 0 R ⊢ wp frame (wpE (defs₀ (F := F)) 𝒱₀ (c : Thread nD τ) none) Set.univ (W.run k0_part8 c v3 v177 c0_i32_171) Q := by
  rw [show (k0_part8 (F := F)) = _ from k0_part8_eq_skeleton]
  refine sendK 8 rfl (Fin.ext k0_dev18_eq) rfl (kvM_at c) rfl (kvr_at c) ?_
  refine sendQ 0 rfl (Fin.ext (k0_dev19_eq c)) rfl (qbM_at c _) rfl (qr_at c _) ?_
  exact H.trans fupd_intro

theorem part9 {R : PP} {Q : _ → PP} (v3 : BitVec 32)
    (H : St ins κ c 4 0 0 2 0 0 0 0 0 0 R ⊢ Q ⟨⟩) :
    St ins κ c 2 0 0 1 0 0 0 0 0 0 R ⊢ wp frame (wpE (defs₀ (F := F)) 𝒱₀ (c : Thread nD τ) none) Set.univ (W.run k0_part9 c v3) Q := by
  rw [show (k0_part9 (F := F)) = _ from k0_part9_eq_skeleton]
  refine sendK 1 rfl (Fin.ext k0_dev20_eq) rfl (kvM_at c) rfl (kvr_at c) ?_
  refine sendK 9 rfl (Fin.ext k0_dev21_eq) rfl (kvM_at c) rfl (kvr_at c) ?_
  refine sendQ 1 rfl (Fin.ext (k0_dev22_eq c)) rfl (qbM_at c _) rfl (qr_at c _) ?_
  exact H.trans fupd_intro

theorem part10 {R : PP} {Q : _ → PP} (v3 : BitVec 32)
    (H : St ins κ c 6 0 0 3 0 0 0 0 0 0 R ⊢ Q ⟨⟩) :
    St ins κ c 4 0 0 2 0 0 0 0 0 0 R ⊢ wp frame (wpE (defs₀ (F := F)) 𝒱₀ (c : Thread nD τ) none) Set.univ (W.run k0_part10 c v3) Q := by
  rw [show (k0_part10 (F := F)) = _ from k0_part10_eq_skeleton]
  refine sendK 2 rfl (Fin.ext k0_dev23_eq) rfl (kvM_at c) rfl (kvr_at c) ?_
  refine sendK 10 rfl (Fin.ext k0_dev24_eq) rfl (kvM_at c) rfl (kvr_at c) ?_
  refine sendQ 2 rfl (Fin.ext (k0_dev25_eq c)) rfl (qbM_at c _) rfl (qr_at c _) ?_
  exact H.trans fupd_intro

theorem part11 {R : PP} {Q : _ → PP} (v3 : BitVec 32)
    (H : St ins κ c 8 0 0 3 0 0 0 0 0 0 R ⊢ Q ⟨⟩) :
    St ins κ c 6 0 0 3 0 0 0 0 0 0 R ⊢ wp frame (wpE (defs₀ (F := F)) 𝒱₀ (c : Thread nD τ) none) Set.univ (W.run k0_part11 c v3) Q := by
  rw [show (k0_part11 (F := F)) = _ from k0_part11_eq_skeleton]
  refine sendK 3 rfl (Fin.ext k0_dev26_eq) rfl (kvM_at c) rfl (kvr_at c) ?_
  refine sendK 11 rfl (Fin.ext k0_dev27_eq) rfl (kvM_at c) rfl (kvr_at c) ?_
  exact H.trans fupd_intro

theorem part12 {R : PP} {Q : _ → PP} (v3 : BitVec 32)
    (H : ∀ w0, St ins κ c 10 0 0 4 0 0 0 0 0 0 R ⊢ Q w0) :
    St ins κ c 8 0 0 3 0 0 0 0 0 0 R ⊢ wp frame (wpE (defs₀ (F := F)) 𝒱₀ (c : Thread nD τ) none) Set.univ (W.run k0_part12 c v3) Q := by
  rw [show (k0_part12 (F := F)) = _ from k0_part12_eq_skeleton]
  refine sendQ 3 rfl (Fin.ext (k0_dev28_eq c)) rfl (qbM_at c _) rfl (qr_at c _) ?_
  refine sendK 4 rfl (Fin.ext k0_dev29_eq) rfl (kvM_at c) rfl (kvr_at c) ?_
  refine sendK 12 rfl (Fin.ext k0_dev30_eq) rfl (kvM_at c) rfl (kvr_at c) ?_
  exact (H _).trans fupd_intro

theorem part13 {R : PP} {Q : _ → PP} (v317 : BitVec 32)
    (H : St ins κ c 11 0 0 5 0 0 0 0 0 0 R ⊢ Q ⟨⟩) :
    St ins κ c 10 0 0 4 0 0 0 0 0 0 R ⊢ wp frame (wpE (defs₀ (F := F)) 𝒱₀ (c : Thread nD τ) none) Set.univ (W.run k0_part13 c v317) Q := by
  rw [show (k0_part13 (F := F)) = _ from k0_part13_eq_skeleton]
  refine sendQ 4 rfl (Fin.ext (k0_dev31_eq c)) rfl (qbM_at c _) rfl (qr_at c _) ?_
  refine sendK 5 rfl (Fin.ext k0_dev32_eq) rfl (kvM_at c) rfl (kvr_at c) ?_
  exact H.trans fupd_intro

theorem part14 {R : PP} {Q : _ → PP} (v3 : BitVec 32)
    (H : St ins κ c 13 0 0 6 0 0 0 0 0 0 R ⊢ Q ⟨⟩) :
    St ins κ c 11 0 0 5 0 0 0 0 0 0 R ⊢ wp frame (wpE (defs₀ (F := F)) 𝒱₀ (c : Thread nD τ) none) Set.univ (W.run k0_part14 c v3) Q := by
  rw [show (k0_part14 (F := F)) = _ from k0_part14_eq_skeleton]
  refine sendK 13 rfl (Fin.ext k0_dev33_eq) rfl (kvM_at c) rfl (kvr_at c) ?_
  refine sendQ 5 rfl (Fin.ext (k0_dev34_eq c)) rfl (qbM_at c _) rfl (qr_at c _) ?_
  refine sendK 6 rfl (Fin.ext k0_dev35_eq) rfl (kvM_at c) rfl (kvr_at c) ?_
  exact H.trans fupd_intro

theorem part15 {R : PP} {Q : _ → PP} (v3 : BitVec 32)
    (H : ∀ w0, St ins κ c 15 0 0 7 0 0 0 0 0 0 R ⊢ Q w0) :
    St ins κ c 13 0 0 6 0 0 0 0 0 0 R ⊢ wp frame (wpE (defs₀ (F := F)) 𝒱₀ (c : Thread nD τ) none) Set.univ (W.run k0_part15 c v3) Q := by
  rw [show (k0_part15 (F := F)) = _ from k0_part15_eq_skeleton]
  refine sendK 14 rfl (Fin.ext k0_dev36_eq) rfl (kvM_at c) rfl (kvr_at c) ?_
  refine sendQ 6 rfl (Fin.ext (k0_dev37_eq c)) rfl (qbM_at c _) rfl (qr_at c _) ?_
  refine sendK 7 rfl (Fin.ext k0_dev38_eq) rfl (kvM_at c) rfl (kvr_at c) ?_
  exact (H _).trans fupd_intro

theorem part16 {R : PP} {Q : _ → PP} (v3 : BitVec 32) (c15_i32_407 : BitVec 32)
    (H : St ins κ c 16 0 0 8 0 0 0 0 0 0 R ⊢ Q ⟨⟩) :
    St ins κ c 15 0 0 7 0 0 0 0 0 0 R ⊢ wp frame (wpE (defs₀ (F := F)) 𝒱₀ (c : Thread nD τ) none) Set.univ (W.run k0_part16 c v3 c15_i32_407) Q := by
  rw [show (k0_part16 (F := F)) = _ from k0_part16_eq_skeleton]
  refine sendK 15 rfl (Fin.ext k0_dev39_eq) rfl (kvM_at c) rfl (kvr_at c) ?_
  refine sendQ 7 rfl (Fin.ext (k0_dev40_eq c)) rfl (qbM_at c _) rfl (qr_at c _) ?_
  exact H.trans fupd_intro

theorem part17 {R : PP} {Q : _ → PP} (v3 : BitVec 32)
    (H : ∀ w0 w1, St ins κ c 16 0 0 8 3 0 0 0 0 0 R ⊢ Q ⟨w0, w1⟩) :
    St ins κ c 16 0 0 8 0 0 0 0 0 0 R ⊢ wp frame (wpE (defs₀ (F := F)) 𝒱₀ (c : Thread nD τ) none) Set.univ (W.run k0_part17 v3) Q := by
  rw [show (k0_part17 (F := F)) = _ from k0_part17_eq_skeleton]
  refine recvQ 0 rfl rfl rfl ?_
  refine recvQ 1 rfl rfl rfl ?_
  refine recvQ 2 rfl rfl rfl ?_
  exact (H _ _).trans fupd_intro

theorem part18 {R : PP} {Q : _ → PP} (v3 : BitVec 32) (v454 : BitVec 32) (c1_i32_468 : BitVec 32)
    (H : St ins κ c 16 0 0 8 6 0 0 0 0 0 R ⊢ Q ⟨⟩) :
    St ins κ c 16 0 0 8 3 0 0 0 0 0 R ⊢ wp frame (wpE (defs₀ (F := F)) 𝒱₀ (c : Thread nD τ) none) Set.univ (W.run k0_part18 v3 v454 c1_i32_468) Q := by
  rw [show (k0_part18 (F := F)) = _ from k0_part18_eq_skeleton]
  refine recvQ 3 rfl rfl rfl ?_
  refine recvQ 4 rfl rfl rfl ?_
  refine recvQ 5 rfl rfl rfl ?_
  exact H.trans fupd_intro

theorem part19 {R : PP} {Q : _ → PP} (v3 : BitVec 32)
    (H : St ins κ c 16 0 0 8 8 0 0 0 0 0 R ⊢ Q ⟨k0_pay31 (qR ins c 0), k0_pay32 (qR ins c 1), (qR ins c 2)⟩) :
    St ins κ c 16 0 0 8 6 0 0 0 0 0 R ⊢ wp frame (wpE (defs₀ (F := F)) 𝒱₀ (c : Thread nD τ) none) Set.univ (W.run k0_part19 v3) Q := by
  rw [show (k0_part19 (F := F)) = _ from k0_part19_eq_skeleton]
  refine recvQ 6 rfl rfl rfl ?_
  refine recvQ 7 rfl rfl rfl ?_
  refine loadQ 0 (by decide) rfl ?_
  refine loadQ 1 (by decide) rfl ?_
  refine loadQ 2 (by decide) rfl ?_
  exact H.trans fupd_intro

theorem part20 {R : PP} {Q : _ → PP}
    (H : St ins κ c 16 1 0 8 8 0 0 0 0 0 R ⊢ Q (qf ins c)) :
    St ins κ c 16 0 0 8 8 0 0 0 0 0 R ⊢ wp frame (wpE (defs₀ (F := F)) 𝒱₀ (c : Thread nD τ) none) Set.univ (W.run k0_part20 (k0_pay31 (qR ins c 0)) (k0_pay32 (qR ins c 1)) (qR ins c 2)) Q := by
  rw [show (k0_part20 (F := F)) = _ from k0_part20_eq_skeleton]
  refine loadQ 3 (by decide) rfl ?_
  refine loadQ 4 (by decide) rfl ?_
  refine loadQ 5 (by decide) rfl ?_
  refine loadQ 6 (by decide) rfl ?_
  refine loadQ 7 (by decide) rfl ?_
  refine recvK 0 rfl rfl rfl ?_
  exact H.trans fupd_intro

theorem part21 {R : PP} {Q : _ → PP}
    (H : St ins κ c 16 2 0 8 8 0 0 0 0 0 R ⊢ Q ⟨l1 ins c, a1 ins c⟩) :
    St ins κ c 16 1 0 8 8 0 0 0 0 0 R ⊢ wp frame (wpE (defs₀ (F := F)) 𝒱₀ (c : Thread nD τ) none) Set.univ (W.run k0_part21 (qf ins c)) Q := by
  rw [show (k0_part21 (F := F)) = _ from k0_part21_eq_skeleton]
  refine recvK 1 rfl rfl rfl ?_
  refine loadK 0 0 (by decide) rfl ?_
  refine loadK 1 0 (by decide) rfl ?_
  refine loadK 0 1 (by decide) rfl ?_
  refine loadK 1 1 (by decide) rfl ?_
  exact H.trans fupd_intro

theorem part22 {R : PP} {Q : _ → PP}
    (H : St ins κ c 16 4 0 8 8 0 0 0 0 0 R ⊢ Q ⟨k0_pay37 (kR ins c 2) (kR ins c 3), k0_pay38 (vR ins c 2) (vR ins c 3), z512⟩) :
    St ins κ c 16 2 0 8 8 0 0 0 0 0 R ⊢ wp frame (wpE (defs₀ (F := F)) 𝒱₀ (c : Thread nD τ) none) Set.univ (W.run k0_part22 ) Q := by
  rw [show (k0_part22 (F := F)) = _ from k0_part22_eq_skeleton]
  refine recvK 2 rfl rfl rfl ?_
  refine recvK 3 rfl rfl rfl ?_
  refine loadK 2 0 (by decide) rfl ?_
  refine loadK 3 0 (by decide) rfl ?_
  refine loadK 2 1 (by decide) rfl ?_
  refine loadK 3 1 (by decide) rfl ?_
  exact H.trans fupd_intro

theorem part23 {R : PP} {Q : _ → PP}
    (H : St ins κ c 16 6 0 8 8 0 0 0 0 0 R ⊢ Q ⟨l2 ins c, a2 ins c⟩) :
    St ins κ c 16 4 0 8 8 0 0 0 0 0 R ⊢ wp frame (wpE (defs₀ (F := F)) 𝒱₀ (c : Thread nD τ) none) Set.univ (W.run k0_part23 (qf ins c) (l1 ins c) (a1 ins c) (k0_pay37 (kR ins c 2) (kR ins c 3)) (k0_pay38 (vR ins c 2) (vR ins c 3)) z512) Q := by
  rw [show (k0_part23 (F := F)) = _ from k0_part23_eq_skeleton]
  refine recvK 4 rfl rfl rfl ?_
  refine recvK 5 rfl rfl rfl ?_
  exact H.trans fupd_intro

theorem part24 {R : PP} {Q : _ → PP}
    (H : St ins κ c 16 7 0 8 8 0 0 0 0 0 R ⊢ Q ⟨l3 ins c, a3 ins c⟩) :
    St ins κ c 16 6 0 8 8 0 0 0 0 0 R ⊢ wp frame (wpE (defs₀ (F := F)) 𝒱₀ (c : Thread nD τ) none) Set.univ (W.run k0_part24 (qf ins c) (l2 ins c) (a2 ins c)) Q := by
  rw [show (k0_part24 (F := F)) = _ from k0_part24_eq_skeleton]
  refine loadK 4 0 (by decide) rfl ?_
  refine loadK 5 0 (by decide) rfl ?_
  refine loadK 4 1 (by decide) rfl ?_
  refine loadK 5 1 (by decide) rfl ?_
  refine recvK 6 rfl rfl rfl ?_
  exact H.trans fupd_intro

theorem part25 {R : PP} {Q : _ → PP}
    (H : St ins κ c 16 8 0 8 8 0 0 0 0 0 R ⊢ Q ⟨l4 ins c, d4 ins c⟩) :
    St ins κ c 16 7 0 8 8 0 0 0 0 0 R ⊢ wp frame (wpE (defs₀ (F := F)) 𝒱₀ (c : Thread nD τ) none) Set.univ (W.run k0_part25 (qf ins c) (l3 ins c)) Q := by
  rw [show (k0_part25 (F := F)) = _ from k0_part25_eq_skeleton]
  refine recvK 7 rfl rfl rfl ?_
  refine loadK 6 0 (by decide) rfl ?_
  refine loadK 7 0 (by decide) rfl ?_
  refine loadK 6 1 (by decide) rfl ?_
  refine loadK 7 1 (by decide) rfl ?_
  exact H.trans fupd_intro

theorem part26 {R : PP} {Q : _ → PP}
    (H : St ins κ c 16 10 0 8 8 0 0 0 0 0 R ⊢ Q ⟨a4 ins c, k0_pay49 (kR ins c 8) (kR ins c 9)⟩) :
    St ins κ c 16 8 0 8 8 0 0 0 0 0 R ⊢ wp frame (wpE (defs₀ (F := F)) 𝒱₀ (c : Thread nD τ) none) Set.univ (W.run k0_part26 (a3 ins c) (d4 ins c)) Q := by
  rw [show (k0_part26 (F := F)) = _ from k0_part26_eq_skeleton]
  refine recvK 8 rfl rfl rfl ?_
  refine recvK 9 rfl rfl rfl ?_
  refine loadK 8 0 (by decide) rfl ?_
  refine loadK 9 0 (by decide) rfl ?_
  exact H.trans fupd_intro

theorem part27 {R : PP} {Q : _ → PP}
    (H : St ins κ c 16 11 0 8 8 0 0 0 0 0 R ⊢ Q ⟨l5 ins c, a5 ins c⟩) :
    St ins κ c 16 10 0 8 8 0 0 0 0 0 R ⊢ wp frame (wpE (defs₀ (F := F)) 𝒱₀ (c : Thread nD τ) none) Set.univ (W.run k0_part27 (qf ins c) (l4 ins c) (a4 ins c) (k0_pay49 (kR ins c 8) (kR ins c 9))) Q := by
  rw [show (k0_part27 (F := F)) = _ from k0_part27_eq_skeleton]
  refine loadK 8 1 (by decide) rfl ?_
  refine loadK 9 1 (by decide) rfl ?_
  refine recvK 10 rfl rfl rfl ?_
  exact H.trans fupd_intro

theorem part28 {R : PP} {Q : _ → PP}
    (H : St ins κ c 16 12 0 8 8 0 0 0 0 0 R ⊢ Q ⟨l6 ins c, a6 ins c⟩) :
    St ins κ c 16 11 0 8 8 0 0 0 0 0 R ⊢ wp frame (wpE (defs₀ (F := F)) 𝒱₀ (c : Thread nD τ) none) Set.univ (W.run k0_part28 (qf ins c) (l5 ins c) (a5 ins c)) Q := by
  rw [show (k0_part28 (F := F)) = _ from k0_part28_eq_skeleton]
  refine recvK 11 rfl rfl rfl ?_
  refine loadK 10 0 (by decide) rfl ?_
  refine loadK 11 0 (by decide) rfl ?_
  refine loadK 10 1 (by decide) rfl ?_
  refine loadK 11 1 (by decide) rfl ?_
  exact H.trans fupd_intro

theorem part29 {R : PP} {Q : _ → PP}
    (H : St ins κ c 16 14 0 8 8 0 0 0 0 0 R ⊢ Q ⟨k0_pay56 (kR ins c 12) (kR ins c 13), k0_pay57 (vR ins c 12) (vR ins c 13), z512⟩) :
    St ins κ c 16 12 0 8 8 0 0 0 0 0 R ⊢ wp frame (wpE (defs₀ (F := F)) 𝒱₀ (c : Thread nD τ) none) Set.univ (W.run k0_part29 ) Q := by
  rw [show (k0_part29 (F := F)) = _ from k0_part29_eq_skeleton]
  refine recvK 12 rfl rfl rfl ?_
  refine recvK 13 rfl rfl rfl ?_
  refine loadK 12 0 (by decide) rfl ?_
  refine loadK 13 0 (by decide) rfl ?_
  refine loadK 12 1 (by decide) rfl ?_
  refine loadK 13 1 (by decide) rfl ?_
  exact H.trans fupd_intro

theorem part30 {R : PP} {Q : _ → PP}
    (H : St ins κ c 16 16 0 8 8 0 0 0 0 0 R ⊢ Q ⟨l7 ins c, a7 ins c⟩) :
    St ins κ c 16 14 0 8 8 0 0 0 0 0 R ⊢ wp frame (wpE (defs₀ (F := F)) 𝒱₀ (c : Thread nD τ) none) Set.univ (W.run k0_part30 (qf ins c) (l6 ins c) (a6 ins c) (k0_pay56 (kR ins c 12) (kR ins c 13)) (k0_pay57 (vR ins c 12) (vR ins c 13)) z512) Q := by
  rw [show (k0_part30 (F := F)) = _ from k0_part30_eq_skeleton]
  refine recvK 14 rfl rfl rfl ?_
  refine recvK 15 rfl rfl rfl ?_
  exact H.trans fupd_intro

theorem part31 {R : PP} {Q : _ → PP} (v3 : BitVec 32)
    (H : St ins κ c 16 16 0 8 8 0 0 1 0 0 R ⊢ Q (cx ins c)) :
    St ins κ c 16 16 0 8 8 0 0 0 0 0 R ⊢ wp frame (wpE (defs₀ (F := F)) 𝒱₀ (c : Thread nD τ) none) Set.univ (W.run k0_part31 v3 (qf ins c) (l7 ins c) (a7 ins c)) Q := by
  rw [show (k0_part31 (F := F)) = _ from k0_part31_eq_skeleton]
  refine loadK 14 0 (by decide) rfl ?_
  refine loadK 15 0 (by decide) rfl ?_
  refine loadK 14 1 (by decide) rfl ?_
  refine loadK 15 1 (by decide) rfl ?_
  refine deadC 0 rfl rfl fun _ => ?_
  refine storeC 0 rfl (by decide) rfl rfl ?_
  exact H.trans fupd_intro

theorem part32 {R : PP} {Q : _ → PP} (v3 : BitVec 32)
    (H : St ins κ c 16 16 0 8 8 0 2 3 0 0 R ⊢ Q ⟨⟩) :
    St ins κ c 16 16 0 8 8 0 0 1 0 0 R ⊢ wp frame (wpE (defs₀ (F := F)) 𝒱₀ (c : Thread nD τ) none) Set.univ (W.run k0_part32 c v3 (cx ins c)) Q := by
  rw [show (k0_part32 (F := F)) = _ from k0_part32_eq_skeleton]
  refine sendC 0 rfl (by decide) (Fin.ext (k0_dev41_eq c)) rfl (cbM_at c _) rfl (cr_at c _) ?_
  refine deadC 1 rfl rfl fun _ => ?_
  refine storeC 1 rfl (by decide) rfl rfl ?_
  refine sendC 1 rfl (by decide) (Fin.ext (k0_dev42_eq c)) rfl (cbM_at c _) rfl (cr_at c _) ?_
  refine deadC 2 rfl rfl fun _ => ?_
  refine storeC 2 rfl (by decide) rfl rfl ?_
  exact H.trans fupd_intro

theorem part33 {R : PP} {Q : _ → PP} (v3 : BitVec 32)
    (H : ∀ w0, St ins κ c 16 16 0 8 8 0 4 5 0 0 R ⊢ Q w0) :
    St ins κ c 16 16 0 8 8 0 2 3 0 0 R ⊢ wp frame (wpE (defs₀ (F := F)) 𝒱₀ (c : Thread nD τ) none) Set.univ (W.run k0_part33 c v3 (cx ins c)) Q := by
  rw [show (k0_part33 (F := F)) = _ from k0_part33_eq_skeleton]
  refine sendC 2 rfl (by decide) (Fin.ext (k0_dev43_eq c)) rfl (cbM_at c _) rfl (cr_at c _) ?_
  refine deadC 3 rfl rfl fun _ => ?_
  refine storeC 3 rfl (by decide) rfl rfl ?_
  refine sendC 3 rfl (by decide) (Fin.ext (k0_dev44_eq c)) rfl (cbM_at c _) rfl (cr_at c _) ?_
  refine deadC 4 rfl rfl fun _ => ?_
  refine storeC 4 rfl (by decide) rfl rfl ?_
  exact (H _).trans fupd_intro

theorem part34 {R : PP} {Q : _ → PP} (v3 : BitVec 32) (v879 : BitVec 32)
    (H : ∀ w0, St ins κ c 16 16 0 8 8 0 6 7 0 0 R ⊢ Q w0) :
    St ins κ c 16 16 0 8 8 0 4 5 0 0 R ⊢ wp frame (wpE (defs₀ (F := F)) 𝒱₀ (c : Thread nD τ) none) Set.univ (W.run k0_part34 c v3 (cx ins c) v879) Q := by
  rw [show (k0_part34 (F := F)) = _ from k0_part34_eq_skeleton]
  refine sendC 4 rfl (by decide) (Fin.ext (k0_dev45_eq c)) rfl (cbM_at c _) rfl (cr_at c _) ?_
  refine deadC 5 rfl rfl fun _ => ?_
  refine storeC 5 rfl (by decide) rfl rfl ?_
  refine sendC 5 rfl (by decide) (Fin.ext (k0_dev46_eq c)) rfl (cbM_at c _) rfl (cr_at c _) ?_
  refine deadC 6 rfl rfl fun _ => ?_
  refine storeC 6 rfl (by decide) rfl rfl ?_
  exact (H _).trans fupd_intro

theorem part35 {R : PP} {Q : _ → PP} (v3 : BitVec 32) (v910 : BitVec 32)
    (H : St ins κ c 16 16 0 8 8 0 8 8 0 0 R ⊢ Q ⟨⟩) :
    St ins κ c 16 16 0 8 8 0 6 7 0 0 R ⊢ wp frame (wpE (defs₀ (F := F)) 𝒱₀ (c : Thread nD τ) none) Set.univ (W.run k0_part35 c v3 (cx ins c) v910) Q := by
  rw [show (k0_part35 (F := F)) = _ from k0_part35_eq_skeleton]
  refine sendC 6 rfl (by decide) (Fin.ext (k0_dev47_eq c)) rfl (cbM_at c _) rfl (cr_at c _) ?_
  refine deadC 7 rfl rfl fun _ => ?_
  refine storeC 7 rfl (by decide) rfl rfl ?_
  refine sendC 7 rfl (by decide) (Fin.ext (k0_dev48_eq c)) rfl (cbM_at c _) rfl (cr_at c _) ?_
  exact H.trans fupd_intro

theorem part36 {R : PP} {Q : _ → PP} (v3 : BitVec 32)
    (H : ∀ w0 w1, St ins κ c 16 16 0 8 8 0 8 8 3 0 R ⊢ Q ⟨w0, w1⟩) :
    St ins κ c 16 16 0 8 8 0 8 8 0 0 R ⊢ wp frame (wpE (defs₀ (F := F)) 𝒱₀ (c : Thread nD τ) none) Set.univ (W.run k0_part36 v3) Q := by
  rw [show (k0_part36 (F := F)) = _ from k0_part36_eq_skeleton]
  refine recvC 0 rfl rfl rfl ?_
  refine recvC 1 rfl rfl rfl ?_
  refine recvC 2 rfl rfl rfl ?_
  exact (H _ _).trans fupd_intro

theorem part37 {R : PP} {Q : _ → PP} (v3 : BitVec 32) (v967 : BitVec 32) (c3_i32_1047 : BitVec 32)
    (H : St ins κ c 16 16 0 8 8 0 8 8 5 0 R ⊢ Q ⟨⟩) :
    St ins κ c 16 16 0 8 8 0 8 8 3 0 R ⊢ wp frame (wpE (defs₀ (F := F)) 𝒱₀ (c : Thread nD τ) none) Set.univ (W.run k0_part37 v3 v967 c3_i32_1047) Q := by
  rw [show (k0_part37 (F := F)) = _ from k0_part37_eq_skeleton]
  refine recvC 3 rfl rfl rfl ?_
  refine recvC 4 rfl rfl rfl ?_
  exact H.trans fupd_intro

theorem part38 {R : PP} {Q : _ → PP} (v3 : BitVec 32)
    (H : St ins κ c 16 16 0 8 8 0 8 8 8 0 R ⊢ Q ⟨⟩) :
    St ins κ c 16 16 0 8 8 0 8 8 5 0 R ⊢ wp frame (wpE (defs₀ (F := F)) 𝒱₀ (c : Thread nD τ) none) Set.univ (W.run k0_part38 v3) Q := by
  rw [show (k0_part38 (F := F)) = _ from k0_part38_eq_skeleton]
  refine recvC 5 rfl rfl rfl ?_
  refine recvC 6 rfl rfl rfl ?_
  refine recvC 7 rfl rfl rfl ?_
  exact H.trans fupd_intro

theorem part39 {R : PP} {Q : _ → PP}
    (H : St ins κ c 16 16 3 8 8 1 8 8 8 0 R ⊢ Q ⟨⟩) :
    St ins κ c 16 16 0 8 8 0 8 8 8 0 R ⊢ wp frame (wpE (defs₀ (F := F)) 𝒱₀ (c : Thread nD τ) none) Set.univ (W.run k0_part39 c) Q := by
  rw [show (k0_part39 (F := F)) = _ from k0_part39_eq_skeleton]
  refine sentK 0 rfl rfl rfl ?_
  refine sentK 8 rfl rfl rfl ?_
  refine sentQ 0 rfl rfl rfl ?_
  refine sentK 1 rfl rfl rfl ?_
  exact H.trans fupd_intro

theorem part40 {R : PP} {Q : _ → PP}
    (H : St ins κ c 16 16 5 8 8 2 8 8 8 0 R ⊢ Q ⟨⟩) :
    St ins κ c 16 16 3 8 8 1 8 8 8 0 R ⊢ wp frame (wpE (defs₀ (F := F)) 𝒱₀ (c : Thread nD τ) none) Set.univ (W.run k0_part40 c) Q := by
  rw [show (k0_part40 (F := F)) = _ from k0_part40_eq_skeleton]
  refine sentK 9 rfl rfl rfl ?_
  refine sentQ 1 rfl rfl rfl ?_
  refine sentK 2 rfl rfl rfl ?_
  exact H.trans fupd_intro

theorem part41 {R : PP} {Q : _ → PP}
    (H : St ins κ c 16 16 8 8 8 3 8 8 8 0 R ⊢ Q ⟨⟩) :
    St ins κ c 16 16 5 8 8 2 8 8 8 0 R ⊢ wp frame (wpE (defs₀ (F := F)) 𝒱₀ (c : Thread nD τ) none) Set.univ (W.run k0_part41 c) Q := by
  rw [show (k0_part41 (F := F)) = _ from k0_part41_eq_skeleton]
  refine sentK 10 rfl rfl rfl ?_
  refine sentQ 2 rfl rfl rfl ?_
  refine sentK 3 rfl rfl rfl ?_
  refine sentK 11 rfl rfl rfl ?_
  exact H.trans fupd_intro

theorem part42 {R : PP} {Q : _ → PP}
    (H : St ins κ c 16 16 10 8 8 4 8 8 8 0 R ⊢ Q ⟨⟩) :
    St ins κ c 16 16 8 8 8 3 8 8 8 0 R ⊢ wp frame (wpE (defs₀ (F := F)) 𝒱₀ (c : Thread nD τ) none) Set.univ (W.run k0_part42 c) Q := by
  rw [show (k0_part42 (F := F)) = _ from k0_part42_eq_skeleton]
  refine sentQ 3 rfl rfl rfl ?_
  refine sentK 4 rfl rfl rfl ?_
  refine sentK 12 rfl rfl rfl ?_
  exact H.trans fupd_intro

theorem part43 {R : PP} {Q : _ → PP}
    (H : St ins κ c 16 16 12 8 8 6 8 8 8 0 R ⊢ Q ⟨⟩) :
    St ins κ c 16 16 10 8 8 4 8 8 8 0 R ⊢ wp frame (wpE (defs₀ (F := F)) 𝒱₀ (c : Thread nD τ) none) Set.univ (W.run k0_part43 c) Q := by
  rw [show (k0_part43 (F := F)) = _ from k0_part43_eq_skeleton]
  refine sentQ 4 rfl rfl rfl ?_
  refine sentK 5 rfl rfl rfl ?_
  refine sentK 13 rfl rfl rfl ?_
  refine sentQ 5 rfl rfl rfl ?_
  exact H.trans fupd_intro

theorem part44 {R : PP} {Q : _ → PP}
    (H : St ins κ c 16 16 15 8 8 7 8 8 8 0 R ⊢ Q ⟨⟩) :
    St ins κ c 16 16 12 8 8 6 8 8 8 0 R ⊢ wp frame (wpE (defs₀ (F := F)) 𝒱₀ (c : Thread nD τ) none) Set.univ (W.run k0_part44 c) Q := by
  rw [show (k0_part44 (F := F)) = _ from k0_part44_eq_skeleton]
  refine sentK 6 rfl rfl rfl ?_
  refine sentK 14 rfl rfl rfl ?_
  refine sentQ 6 rfl rfl rfl ?_
  refine sentK 7 rfl rfl rfl ?_
  exact H.trans fupd_intro

theorem part45 {R : PP} {Q : _ → PP}
    (H : St ins κ c 16 16 16 8 8 8 8 8 8 2 R ⊢ Q ⟨⟩) :
    St ins κ c 16 16 15 8 8 7 8 8 8 0 R ⊢ wp frame (wpE (defs₀ (F := F)) 𝒱₀ (c : Thread nD τ) none) Set.univ (W.run k0_part45 c) Q := by
  rw [show (k0_part45 (F := F)) = _ from k0_part45_eq_skeleton]
  refine sentK 15 rfl rfl rfl ?_
  refine sentQ 7 rfl rfl rfl ?_
  refine sentC 0 rfl rfl rfl ?_
  refine sentC 1 rfl rfl rfl ?_
  exact H.trans fupd_intro

theorem part46 {R : PP} {Q : _ → PP}
    (H : St ins κ c 16 16 16 8 8 8 8 8 8 6 R ⊢ Q ⟨⟩) :
    St ins κ c 16 16 16 8 8 8 8 8 8 2 R ⊢ wp frame (wpE (defs₀ (F := F)) 𝒱₀ (c : Thread nD τ) none) Set.univ (W.run k0_part46 c) Q := by
  rw [show (k0_part46 (F := F)) = _ from k0_part46_eq_skeleton]
  refine sentC 2 rfl rfl rfl ?_
  refine sentC 3 rfl rfl rfl ?_
  refine sentC 4 rfl rfl rfl ?_
  refine sentC 5 rfl rfl rfl ?_
  exact H.trans fupd_intro

theorem part47 {R : PP} {Q : _ → PP}
    (H : St ins κ c 16 16 16 8 8 8 8 8 8 8 R ⊢ Q ⟨k0_pay70 (cR ins c 0) (cR ins c 1) (cR ins c 2) (cR ins c 3), k0_pay71 (cR ins c 4), k0_pay72 (cR ins c 5), k0_pay73 (cR ins c 6)⟩) :
    St ins κ c 16 16 16 8 8 8 8 8 8 6 R ⊢ wp frame (wpE (defs₀ (F := F)) 𝒱₀ (c : Thread nD τ) none) Set.univ (W.run k0_part47 c) Q := by
  rw [show (k0_part47 (F := F)) = _ from k0_part47_eq_skeleton]
  refine sentC 6 rfl rfl rfl ?_
  refine sentC 7 rfl rfl rfl ?_
  refine loadC 0 (by decide) rfl ?_
  refine loadC 1 (by decide) rfl ?_
  refine loadC 2 (by decide) rfl ?_
  refine loadC 3 (by decide) rfl ?_
  refine loadC 4 (by decide) rfl ?_
  refine loadC 5 (by decide) rfl ?_
  refine loadC 6 (by decide) rfl ?_
  exact H.trans fupd_intro

end Cert.KernelIdeal.Attn
-- ==== Proof.Body.lean ====
/-
  The whole body on one device: the staging, the barrier, the parts in turn, and what it leaves.
-/
module

public import proofs.«01_k».proof.Proof.Parts

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

local notation "PP" => sProp 𝕄

variable {ins : Dev nD → Ins F} {κ : GSem nD τ sig → ℕ} {c : Dev nD} {W : Wins}

/-! ## The staging -/

theorem part1 {out : Vec F S512x768 .f32} {R : PP} {Q : _ → PP}
    (H : ∀ w, StA ins c 0 0 0 iprop(Wn ins c W out ∗ R) ⊢ Q ⟨c, w, k0_pay1 (ins c).x, q2 (ins c), k2 (ins c)⟩) :
    StA ins c 0 0 0 iprop(Wn ins c W out ∗ R) ⊢ wp frame (wpE (defs₀ (F := F)) 𝒱₀ (c : Thread nD τ) none) Set.univ (W.run k0_part1) Q := by
  rw [show (k0_part1 (F := F)) = _ from k0_part1_eq_skeleton]
  refine BIBase.Entails.trans ?_ (Entails.of_eq (wp_deviceId ..).symm)
  refine load_got (StA_got Wn_0) ?_
  refine load_got (StA_got Wn_7) ?_
  refine load_got (StA_got Wn_1) ?_
  refine load_got (StA_got Wn_5) ?_
  refine load_got (StA_got Wn_6) ?_
  refine load_got (StA_got Wn_2) ?_
  refine load_got (StA_got Wn_5) ?_
  refine load_got (StA_got Wn_6) ?_
  exact (H _).trans fupd_intro

theorem part2 {out : Vec F S512x768 .f32} {R : PP} {Q : _ → PP}
    (H : StA ins c 2 2 2 iprop(Wn ins c W out ∗ R) ⊢ Q ⟨v2 (ins c), k0_pay11 (k2 (ins c))⟩) :
    StA ins c 0 0 0 iprop(Wn ins c W out ∗ R) ⊢ wp frame (wpE (defs₀ (F := F)) 𝒱₀ (c : Thread nD τ) none) Set.univ (W.run k0_part2 (k0_pay1 (ins c).x) (q2 (ins c)) (k2 (ins c))) Q := by
  rw [show (k0_part2 (F := F)) = _ from k0_part2_eq_skeleton]
  refine load_got (StA_got Wn_3) ?_
  refine deadK 0 rfl rfl fun _ => ?_
  refine storeK 0 rfl (by decide) rfl rfl ?_
  refine deadV 0 rfl (by decide) rfl fun _ => ?_
  refine storeV 0 rfl (by decide) rfl rfl ?_
  refine deadQ 0 rfl rfl fun _ => ?_
  refine storeQ 0 rfl rfl rfl ?_
  refine deadK 1 rfl rfl fun _ => ?_
  refine storeK 1 rfl (by decide) rfl rfl ?_
  refine deadV 1 rfl (by decide) rfl fun _ => ?_
  refine storeV 1 rfl (by decide) rfl rfl ?_
  refine deadQ 1 rfl rfl fun _ => ?_
  refine storeQ 1 rfl rfl rfl ?_
  exact H.trans fupd_intro

theorem part3 {R : PP} {Q : _ → PP}
    (H : StA ins c 5 4 4 R ⊢ Q (k0_pay19 (v2 (ins c)))) :
    StA ins c 2 2 2 R ⊢ wp frame (wpE (defs₀ (F := F)) 𝒱₀ (c : Thread nD τ) none) Set.univ (W.run k0_part3 (q2 (ins c)) (k2 (ins c)) (v2 (ins c)) (k0_pay11 (k2 (ins c)))) Q := by
  rw [show (k0_part3 (F := F)) = _ from k0_part3_eq_skeleton]
  refine deadK 2 rfl rfl fun _ => ?_
  refine storeK 2 rfl (by decide) rfl rfl ?_
  refine deadV 2 rfl (by decide) rfl fun _ => ?_
  refine storeV 2 rfl (by decide) rfl rfl ?_
  refine deadQ 2 rfl rfl fun _ => ?_
  refine storeQ 2 rfl rfl rfl ?_
  refine deadK 3 rfl rfl fun _ => ?_
  refine storeK 3 rfl (by decide) rfl rfl ?_
  refine deadV 3 rfl (by decide) rfl fun _ => ?_
  refine storeV 3 rfl (by decide) rfl rfl ?_
  refine deadQ 3 rfl rfl fun _ => ?_
  refine storeQ 3 rfl rfl rfl ?_
  refine deadK 4 rfl rfl fun _ => ?_
  refine storeK 4 rfl (by decide) rfl rfl ?_
  exact H.trans fupd_intro

theorem part4 {R : PP} {Q : _ → PP}
    (H : StA ins c 7 7 6 R ⊢ Q ⟨⟩) :
    StA ins c 5 4 4 R ⊢ wp frame (wpE (defs₀ (F := F)) 𝒱₀ (c : Thread nD τ) none) Set.univ (W.run k0_part4 (q2 (ins c)) (k2 (ins c)) (v2 (ins c)) (k0_pay19 (v2 (ins c)))) Q := by
  rw [show (k0_part4 (F := F)) = _ from k0_part4_eq_skeleton]
  refine deadV 4 rfl (by decide) rfl fun _ => ?_
  refine storeV 4 rfl (by decide) rfl rfl ?_
  refine deadQ 4 rfl rfl fun _ => ?_
  refine storeQ 4 rfl rfl rfl ?_
  refine deadK 5 rfl rfl fun _ => ?_
  refine storeK 5 rfl (by decide) rfl rfl ?_
  refine deadV 5 rfl (by decide) rfl fun _ => ?_
  refine storeV 5 rfl (by decide) rfl rfl ?_
  refine deadQ 5 rfl rfl fun _ => ?_
  refine storeQ 5 rfl rfl rfl ?_
  refine deadK 6 rfl rfl fun _ => ?_
  refine storeK 6 rfl (by decide) rfl rfl ?_
  refine deadV 6 rfl (by decide) rfl fun _ => ?_
  refine storeV 6 rfl (by decide) rfl rfl ?_
  exact H.trans fupd_intro

/-! ## The barrier -/

variable (ins c) in
/-- The staged pieces. -/
def Staged : sProp 𝕄 :=
  iprop(bigSep Finset.univ (fun n => owns (c : Thread nD τ) (stM n) fullShare (kvC ins c n)) ∗ bigSep Finset.univ (fun n => owns (c : Thread nD τ) (qsM n) fullShare (qC ins c n)))

variable (c) in
/-- What the wait for the barrier takes. -/
def BarW : sProp 𝕄 := iprop(atPos ER (cell c .bar) 0 (∅ : Finset (Dev nD)) 0 ∗ cred (tallyAt (cell c .bar) () 16))

theorem staged {out : Vec F S512x768 .f32} {R : PP} :
    StA ins c 8 8 8 iprop(Wn ins c W out ∗ StB ins κ c 0 iprop(BarW c ∗ R)) ⊢ StB ins κ c 0 iprop(BarW c ∗ (Staged ins c ∗ (Wn ins c W out ∗ R))) := by
  unfold StA StB Staged
  rw [span_all (o := Fin.val (n := 8)) (fun i => i.isLt)]
  iintro ⟨H1, -, -, H2, -, HW, HC, HO, Hs, HB, HR⟩
  isplitl [HC]; · iexact HC
  isplitl [HO]; · iexact HO
  isplitl [Hs]; · iexact Hs
  isplitl [HB]; · iexact HB
  isplitl [H1 H2]
  · isplitl [H1]; · iexact H1
    iexact H2
  isplitl [HW]; · iexact HW
  iexact HR

theorem part5 {out : Vec F S512x768 .f32} {R : PP} {Q : _ → PP}
    (H : ∀ w, StB ins κ c 3 iprop(BarW c ∗ (Staged ins c ∗ (Wn ins c W out ∗ R))) ⊢ Q ⟨SemArray.scalar (sig.barrier 0 rfl), w⟩) :
    StA ins c 7 7 6 iprop(Wn ins c W out ∗ StB ins κ c 0 iprop(BarW c ∗ R))
      ⊢ wp frame (wpE (defs₀ (F := F)) 𝒱₀ (c : Thread nD τ) none) Set.univ (W.run k0_part5 (q2 (ins c)) (k2 (ins c)) (v2 (ins c))) Q := by
  rw [show (k0_part5 (F := F)) = _ from k0_part5_eq_skeleton]
  refine deadQ 6 rfl rfl fun _ => ?_
  refine storeQ 6 rfl rfl rfl ?_
  refine deadK 7 rfl rfl fun _ => ?_
  refine storeK 7 rfl (by decide) rfl rfl ?_
  refine deadV 7 rfl (by decide) rfl fun _ => ?_
  refine storeV 7 rfl (by decide) rfl rfl ?_
  refine deadQ 7 rfl rfl fun _ => ?_
  refine storeQ 7 rfl rfl rfl ?_
  refine BIBase.Entails.trans staged ?_
  refine signal 0 rfl (Fin.ext k0_dev1_eq) rfl rfl ?_
  refine signal 1 rfl (Fin.ext k0_dev2_eq) rfl rfl ?_
  refine signal 2 rfl (Fin.ext k0_dev3_eq) rfl rfl ?_
  exact (H _).trans fupd_intro

theorem part6 {R : PP} {Q : _ → PP} (w : BitVec 32) (H : StB ins κ c 12 R ⊢ Q ⟨⟩) :
    StB ins κ c 3 R ⊢ wp frame (wpE (defs₀ (F := F)) 𝒱₀ (c : Thread nD τ) none) Set.univ (W.run k0_part6 (SemArray.scalar (sig.barrier 0 rfl)) w) Q := by
  rw [show (k0_part6 (F := F)) = _ from k0_part6_eq_skeleton]
  refine signal 3 rfl (Fin.ext k0_dev4_eq) rfl rfl ?_
  refine signal 4 rfl (Fin.ext k0_dev5_eq) rfl rfl ?_
  refine signal 5 rfl (Fin.ext k0_dev6_eq) rfl rfl ?_
  refine signal 6 rfl (Fin.ext k0_dev7_eq) rfl rfl ?_
  refine signal 7 rfl (Fin.ext k0_dev8_eq) rfl rfl ?_
  refine signal 8 rfl (Fin.ext k0_dev9_eq) rfl rfl ?_
  refine signal 9 rfl (Fin.ext k0_dev10_eq) rfl rfl ?_
  refine signal 10 rfl (Fin.ext k0_dev11_eq) rfl rfl ?_
  refine signal 11 rfl (Fin.ext k0_dev12_eq) rfl rfl ?_
  exact H.trans fupd_intro

/-! ## From the barrier to the copies -/

/-- The parts of a channel's state that the launch provides. -/
def Chan.rest (C : Chan ins c) : PP :=
  iprop(bigSep Finset.univ (fun i => iprop(dutyTok ER (cell (C.tgt i) C.rK) 0 (0 : Dev nD) ∗ dutyTok ER (cell c (C.sK i)) 0 (0 : Dev nD)))
    ∗ bigSep Finset.univ (fun i => atPos ER (cell c (C.sK i)) 0 (∅ : Finset (Dev nD)) 0)
    ∗ bigSep Finset.univ (fun i => iprop(atPos ER (cell c (C.gK i)) 0 (∅ : Finset (Dev nD)) 0 ∗ cred (tallyAt (cell c (C.gK i)) () C.N))))

/-- What a channel's targets hand over before the first copy. -/
def Chan.open (C : Chan ins c) : PP := bigSep Finset.univ (fun i => iprop(anyOf (F := F) (C.tgt i) C.dM ∗ reached ER (cell (C.tgt i) C.rK) 0))

theorem Chan.start (C : Chan ins c) (h : ∀ i, C.o i < C.n) (a' : ℕ) :
    iprop(C.rest ∗ C.open ∗ bigSep (span C.o 0 a') (fun i => owns (c : Thread nD τ) (C.sM i) (C.sh i) (C.X i))) ⊢ ChSt C 0 a' 0 0 := by
  unfold ChSt Chan.rest Chan.open
  rw [span_all (o := C.o) h, span_all (o := Fin.val) (fun i : Fin C.n => i.isLt), span_none (o := C.o) (le_refl 0), span_none (o := Fin.val) (le_refl 0), bigSep_empty, bigSep_empty, bigSep_empty]
  iintro ⟨⟨H1, H2, H3⟩, H4, H5⟩
  isplitl [H1]; · iexact H1
  isplitl [H4]; · iexact H4
  isplitl [H5]; · iexact H5
  isplitl []; · iempintro
  isplitl [H2]; · iexact H2
  isplitl []; · iempintro
  isplitl [H3]; · iexact H3
  iempintro

/-- The devices of `c`'s half are its mates. -/
theorem half_mates (Φ : Dev nD → PP) :
    bigSep Finset.univ (fun p : Dev nD => if p.val / 8 = c.val / 8 then Φ p else iprop(emp)) = bigSep Finset.univ (fun j : Fin 8 => Φ (mate c j)) := by
  have hj : Function.Injective (mate c) := fun a b h => by have := congrArg lo h; rwa [lo_mate, lo_mate] at this
  have hs : (Finset.univ.filter fun p : Dev nD => p.val / 8 = c.val / 8) = Finset.univ.map ⟨mate c, hj⟩ := by
    revert c; decide
  refine (bigSep_filter Finset.univ (fun p : Dev nD => p.val / 8 = c.val / 8) Φ).symm.trans ?_
  rw [hs, bigSep_map]; rfl

theorem pays_in : bigSep Finset.univ (fun p : Dev nD => barPay p c) ⊢ iprop((chK ins c).open ∗ (chQ ins c).open ∗ (chC ins c).open) := by
  unfold barPay
  refine (Entails.of_eq (bigSep_sep ..)).trans (sep_mono .rfl ?_)
  refine (Entails.of_eq (half_mates _)).trans ?_
  exact Entails.of_eq (bigSep_sep ..)

theorem halves_out : (bigSep Finset.univ (fun n => owns (c : Thread nD τ) (stM n) fullShare (kvC ins c n)) : PP)
    ⊢ bigSep (span (chK ins c).o 0 16) (fun i => owns (c : Thread nD τ) ((chK ins c).sM i) ((chK ins c).sh i) ((chK ins c).X i)) := by
  let e : Fin 16 ≃ Fin 8 × Fin 2 :=
    ⟨fun p => (lo p, hi p), fun q => ⟨8 * q.2.val + q.1.val, by omega⟩, by decide, by decide⟩
  rw [span_all (o := (chK ins c).o) ordK_lt]
  refine BIBase.Entails.trans (bigSep_mono fun n _ => (owns_halves (c : Thread nD τ) (stM n) fullShare (kvC ins c n)).1) (Entails.of_eq ?_)
  refine Eq.trans ?_ (bigSep_univ_equiv e (fun q : Fin 8 × Fin 2 => (owns (c : Thread nD τ) (stM q.1) (hs q.2) (kvC ins c q.1) : PP)))
  rw [bigSep_univ_prod]
  exact bigSep_congr fun n _ => (bigSep_fin_two (fun h => owns (c : Thread nD τ) (stM n) (hs h) (kvC ins c n))).symm

variable (ins c) in
/-- What the launch provides beside the barrier. -/
def Rest : PP :=
  iprop((chK ins c).rest ∗ (chQ ins c).rest ∗ (chC ins c).rest ∗ bigSep (span (Fin.val (n := 8)) 0 8) (fun j => anyOf c (csM j)))

theorem enter {R : PP} :
    iprop(Ctx ins κ c ∗ (∃ W, owes (c : Thread nD τ) (owed ins c 0 0 0) W) ∗ atPos ER (cell c .bar) 1 (∅ : Finset (Dev nD)) 0
        ∗ bigSep Finset.univ (fun p => barPay p c) ∗ (Staged ins c ∗ (R ∗ Rest ins c)))
      ⊢ St ins κ c 0 0 0 0 0 0 0 0 0 0 iprop(R ∗ atPos ER (cell c .bar) 1 (∅ : Finset (Dev nD)) 0) := by
  unfold Staged Rest St
  iintro ⟨HC, HO, Hat, Hp, ⟨Hk, Hq⟩, HR, R1, R2, R3, R4⟩
  ihave Hp := (pays_in (ins := ins) (c := c)) $$ Hp
  icases Hp with ⟨P1, P2, P3⟩
  ihave Hk := (halves_out (ins := ins) (c := c)) $$ Hk
  isplitl [HC]; · iexact HC
  isplitl [HO]; · iexact HO
  isplitl [R1 P1 Hk]
  · iapply ((chK ins c).start ordK_lt 16)
    isplitl [R1]; · iexact R1
    isplitl [P1]; · iexact P1
    iexact Hk
  isplitl [R2 P2 Hq]
  · iapply ((chQ ins c).start (fun i => i.isLt) 8)
    isplitl [R2]; · iexact R2
    isplitl [P2]; · iexact P2
    rw [span_all (o := (chQ ins c).o) (fun i : Fin 8 => i.isLt)]
    iexact Hq
  isplitl [R3 P3]
  · iapply ((chC ins c).start (fun i => i.isLt) 0)
    isplitl [R3]; · iexact R3
    isplitl [P3]; · iexact P3
    rw [span_none (o := (chC ins c).o) (le_refl 0), bigSep_empty]
    iempintro
  isplitl [R4]; · iexact R4
  isplitl [HR]; · iexact HR
  iexact Hat

theorem part7 {R : PP} {Q : _ → PP}
    (H : ∀ w, St ins κ c 1 0 0 0 0 0 0 0 0 0 iprop(R ∗ atPos ER (cell c .bar) 1 (∅ : Finset (Dev nD)) 0) ⊢ Q ⟨w, 0x0#32⟩) :
    StB ins κ c 12 iprop(BarW c ∗ (Staged ins c ∗ (R ∗ Rest ins c)))
      ⊢ wp frame (wpE (defs₀ (F := F)) 𝒱₀ (c : Thread nD τ) none) Set.univ (W.run k0_part7 c (SemArray.scalar (sig.barrier 0 rfl))) Q := by
  rw [show (k0_part7 (F := F)) = _ from k0_part7_eq_skeleton]
  refine signal 12 rfl (Fin.ext k0_dev13_eq) rfl rfl ?_
  refine signal 13 rfl (Fin.ext k0_dev14_eq) rfl rfl ?_
  refine signal 14 rfl (Fin.ext k0_dev15_eq) rfl rfl ?_
  refine signal 15 rfl (Fin.ext k0_dev16_eq) rfl rfl ?_
  refine waitBar rfl rfl ?_
  refine enter.trans ?_
  refine sendK 0 rfl (Fin.ext k0_dev17_eq) rfl (kvM_at c) rfl (kvr_at c) ?_
  exact (H _).trans fupd_intro

/-! ## The body -/

theorem then_run {β α : Type} {P : PP} {p : Prog (TpuEff nD τ sig (Elt F) Λ₀ .tc) β} {k : β → Prog (TpuEff nD τ sig (Elt F) Λ₀ .tc) α} {Q : α → PP}
    (h : P ⊢ wp frame (wpE (defs₀ (F := F)) 𝒱₀ (c : Thread nD τ) none) Set.univ p (fun a => wp frame (wpE (defs₀ (F := F)) 𝒱₀ (c : Thread nD τ) none) Set.univ (k a) Q)) :
    P ⊢ wp frame (wpE (defs₀ (F := F)) 𝒱₀ (c : Thread nD τ) none) Set.univ (p >>= k) Q :=
  h.trans (Entails.of_eq (wp_bind ..).symm)

variable (ins κ c W) in
/-- Where the body starts. -/
def Init (out : Vec F S512x768 .f32) : PP :=
  StA ins c 0 0 0 iprop(Wn ins c W out ∗ StB ins κ c 0 iprop(BarW c ∗ Rest ins c))

variable (ins κ c W) in
/-- Where the body ends. -/
def Final : PP := St ins κ c 16 16 16 8 8 8 8 8 8 8 iprop(Wn ins c W (outC ins c) ∗ atPos ER (cell c .bar) 1 (∅ : Finset (Dev nD)) 0)

theorem part48 {out : Vec F S512x768 .f32} {Q : _ → PP}
    (H : St ins κ c 16 16 16 8 8 8 8 8 8 8 iprop(Wn ins c W out ∗ atPos ER (cell c .bar) 1 (∅ : Finset (Dev nD)) 0) ⊢ Q (outC ins c)) :
    Init ins κ c W out ⊢ wp frame (wpE (defs₀ (F := F)) 𝒱₀ (c : Thread nD τ) none) Set.univ (W.run k0_part48) Q := by
  rw [show (k0_part48 (F := F)) = _ from k0_part48_eq_skeleton]
  refine then_run (part1 fun v3 => ?_)
  refine then_run (part2 ?_)
  refine then_run (part3 ?_)
  refine then_run (part4 ?_)
  refine then_run (part5 fun w => ?_)
  refine then_run (part6 _ ?_)
  refine then_run (part7 fun v177 => ?_)
  refine then_run (part8 _ _ _ ?_)
  refine then_run (part9 _ ?_)
  refine then_run (part10 _ ?_)
  refine then_run (part11 _ ?_)
  refine then_run (part12 _ (fun w0 => ?_))
  refine then_run (part13 _ ?_)
  refine then_run (part14 _ ?_)
  refine then_run (part15 _ (fun w0 => ?_))
  refine then_run (part16 _ _ ?_)
  refine then_run (part17 _ (fun w0 w1 => ?_))
  refine then_run (part18 _ _ _ ?_)
  refine then_run (part19 _ ?_)
  refine then_run (part20 ?_)
  refine then_run (part21 ?_)
  refine then_run (part22 ?_)
  refine then_run (part23 ?_)
  refine then_run (part24 ?_)
  refine then_run (part25 ?_)
  refine then_run (part26 ?_)
  refine then_run (part27 ?_)
  refine then_run (part28 ?_)
  refine then_run (part29 ?_)
  refine then_run (part30 ?_)
  refine then_run (part31 _ ?_)
  refine then_run (part32 _ ?_)
  refine then_run (part33 _ (fun w0 => ?_))
  refine then_run (part34 _ _ (fun w0 => ?_))
  refine then_run (part35 _ _ ?_)
  refine then_run (part36 _ (fun w0 w1 => ?_))
  refine then_run (part37 _ _ _ ?_)
  refine then_run (part38 _ ?_)
  refine then_run (part39 ?_)
  refine then_run (part40 ?_)
  refine then_run (part41 ?_)
  refine then_run (part42 ?_)
  refine then_run (part43 ?_)
  refine then_run (part44 ?_)
  refine then_run (part45 ?_)
  refine then_run (part46 ?_)
  refine then_run (part47 ?_)
  refine loadC 7 (by decide) rfl ?_
  refine load_got (St_got Wn_4) ?_
  exact H.trans fupd_intro

/-- STORE to a whole memref. -/
theorem store_full {Λ : Labels} {defs : Defs nD τ sig (Elt F) Λ} {α : Type} {s : Shape} {e : EltTy}
    {m : Memref sig .tc .vmem s e} {X w : s.Idx → Elt F e} {off : Fin s.rank → ℕ} {inb : ∀ a, off a + s.size a ≤ s.size a}
    {hx : (m.access (Rect.unit off s.size inb)).Stores Finset.univ} {hm}
    {k : PUnit → Prog (TpuEff nD τ sig (Elt F) Λ .tc) α} {Q : α → PP} :
    iprop(owns (c : Thread nD τ) m fullShare X ∗ (owns (c : Thread nD τ) m fullShare w -∗ wp frame (wpE defs 𝒱₀ c none) Set.univ (k ⟨⟩) Q))
      ⊢ wp frame (wpE defs 𝒱₀ (c : Thread nD τ) none) Set.univ (.op (.store m (Rect.unit off s.size inb) w Finset.univ hx hm) k) Q := by
  have hS : (m.access (Rect.unit off s.size inb)).setOn Finset.univ ⊆ m.view.set := by
    intro i hi
    obtain ⟨y, -, rfl⟩ := Finset.mem_map.mp hi
    exact Finset.mem_map.mpr ⟨(Rect.unit off s.size inb).emb y, Finset.mem_univ _, rfl⟩
  unfold owns
  iintro ⟨⟨%f, -, H⟩, Hk⟩
  iapply (wp_store 𝒱₀ (c : Thread nD τ) none Set.univ (m := m) (r := Rect.unit off s.size inb) (w := w) (Mk := Finset.univ) (hx := hx) (hm := hm) (k := k)
    (S := m.view.set) (f := f) hS) $$ H
  iintro H
  iapply Hk
  iexists ((m.access (Rect.unit off s.size inb)).write (Elt F) f w Finset.univ)
  isplitr
  · ipureintro
    exact (View.readAt_full (inb := inb) ..).symm.trans (View.read_write_univ (v := m.access (Rect.unit off s.size inb)) f w)
  iexact H

theorem St_out {nk rk sk nq rq sq nc wc rc sc : ℕ} {R : PP} {out w : Vec F S512x768 .f32} :
    St ins κ c nk rk sk nq rq sq nc wc rc sc iprop(Wn ins c W out ∗ R)
      ⊢ iprop(owns (c : Thread nD τ) W.a8 fullShare out ∗ (owns (c : Thread nD τ) W.a8 fullShare w -∗ St ins κ c nk rk sk nq rq sq nc wc rc sc iprop(Wn ins c W w ∗ R))) := by
  unfold St Wn
  iintro ⟨H1, H2, H3, H4, H5, H6, ⟨W0, W1, W2, W3, W4, W5, W6, W7, W8⟩, HR⟩
  isplitl [W8]; · iexact W8
  iintro W8
  isplitl [H1]; · iexact H1
  isplitl [H2]; · iexact H2
  isplitl [H3]; · iexact H3
  isplitl [H4]; · iexact H4
  isplitl [H5]; · iexact H5
  isplitl [H6]; · iexact H6
  isplitr [HR]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    iexact W8
  iexact HR

/-- STORE the result. -/
theorem store_out {Λ : Labels} {defs : Defs nD τ sig (Elt F) Λ} {α : Type} {nk rk sk nq rq sq nc wc rc sc : ℕ} {R : PP} {out w : Vec F S512x768 .f32}
    {off : Fin S512x768.rank → ℕ} {inb : ∀ a, off a + S512x768.size a ≤ S512x768.size a} {hx : (W.a8.access (Rect.unit off S512x768.size inb)).Stores Finset.univ} {hm}
    {k : PUnit → Prog (TpuEff nD τ sig (Elt F) Λ .tc) α} {Q : α → PP}
    (H : St ins κ c nk rk sk nq rq sq nc wc rc sc iprop(Wn ins c W w ∗ R) ⊢ wp frame (wpE defs 𝒱₀ c none) Set.univ (k ⟨⟩) Q) :
    St ins κ c nk rk sk nq rq sq nc wc rc sc iprop(Wn ins c W out ∗ R)
      ⊢ wp frame (wpE defs 𝒱₀ (c : Thread nD τ) none) Set.univ (.op (.store W.a8 (Rect.unit off S512x768.size inb) w Finset.univ hx hm) k) Q := by
  refine BIBase.Entails.trans (St_out (w := w)) ?_
  iintro ⟨HA, HP⟩
  iapply store_full
  isplitl [HA]; · iexact HA
  iintro HA
  iapply H
  iapply HP
  iexact HA

set_option maxRecDepth 65536 in
theorem body_run {out : Vec F S512x768 .f32} {Q : _ → PP} (H : Final ins κ c W ⊢ iprop(|={Set.univ}=> Q ⟨⟩)) :
    Init ins κ c W out ⊢ wp frame (wpE (defs₀ (F := F)) 𝒱₀ (c : Thread nD τ) none) Set.univ (W.run cc0_body) Q := by
  rw [show (cc0_body (F := F)) = _ from cc0_body_eq_skeleton]
  refine then_run (part48 ?_)
  refine load_got (St_got Wn_8) ?_
  refine store_out ?_
  exact H

end Cert.KernelIdeal.Attn
-- ==== Proof.Slots.lean ====
/-
  The scratch buffers cut into the slots the protocol moves, and joined again; the start of the body from what a device holds
  at the kernel's entry, and what it holds at the end.
-/
module

public import proofs.«01_k».proof.Proof.Body

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

local notation "PP" => sProp (MT nD τ sig Unit (Elt F) ℕ UU ℕ)

/-! ## A buffer and its slots -/

theorem slot_any (c : Dev nD) (b : Ref sig .tc) (r : Rect b.ty.shape) :
    (iprop(∃ f, ((View.whole b).slice r).loc (c : Thread nD τ) ↦[((View.whole b).slice r).set]{fullShare} f) : PP)
      = iprop(∃ f : Buf (Elt F) ((c : Thread nD τ).loc b), ((c : Thread nD τ).loc b) ↦[r.set]{fullShare} f) := by
  rw [View.set_slice_whole]

section Cut

variable {T : Type} [Fintype T] [DecidableEq T] (c : Dev nD) (b : Ref sig .tc) (r : T → Rect b.ty.shape)

theorem buf_cut (hd : ∀ i j, i ≠ j → Disjoint (r i).set (r j).set) (hc : Finset.univ.biUnion (fun i => (r i).set) = Finset.univ) :
    (iprop(∃ f : Buf (Elt F) ((c : Thread nD τ).loc b), ((c : Thread nD τ).loc b) ↦{fullShare} f) : PP)
      ⊢ bigSep Finset.univ fun i => iprop(∃ f : Buf (Elt F) ((c : Thread nD τ).loc b), ((c : Thread nD τ).loc b) ↦[(r i).set]{fullShare} f) := by
  iintro ⟨%f, H⟩
  have h : (((c : Thread nD τ).loc b) ↦{fullShare} f : PP) ⊢ bigSep Finset.univ fun i => (((c : Thread nD τ).loc b) ↦[(r i).set]{fullShare} f) := by
    have e := pointsTo_biUnion (Ix := Unit) (Name := ℕ) (U := UU) (Lvl := ℕ) (ℓ := (c : Thread nD τ).loc b) (q := fullShare) (f := f) Finset.univ (fun i => (r i).set) (fun i _ j _ hij => hd i j hij)
    rw [hc] at e
    exact Entails.of_eq e
  iapply (h.trans (bigSep_mono fun i _ => exists_intro (Φ := fun f => (((c : Thread nD τ).loc b) ↦[(r i).set]{fullShare} f : PP)) f)) $$ H

theorem buf_join (hd : ∀ i j, i ≠ j → Disjoint (r i).set (r j).set) (hc : Finset.univ.biUnion (fun i => (r i).set) = Finset.univ) :
    bigSep Finset.univ (fun i => iprop(∃ f : Buf (Elt F) ((c : Thread nD τ).loc b), ((c : Thread nD τ).loc b) ↦[(r i).set]{fullShare} f))
      ⊢ (iprop(∃ f : Buf (Elt F) ((c : Thread nD τ).loc b), ((c : Thread nD τ).loc b) ↦{fullShare} f) : PP) := by
  refine (bigSep_exists_pi (Y := fun _ => Buf (Elt F) ((c : Thread nD τ).loc b)) Finset.univ
    (fun i f => (((c : Thread nD τ).loc b) ↦[(r i).set]{fullShare} f : PP))).trans ?_
  iintro ⟨%fs, H⟩
  ihave H := (pointsTo_biUnion_join Finset.univ (fun i => (r i).set) fs (fun _ => Classical.arbitrary _) (fun i _ j _ hij => hd i j hij)) $$ H
  icases H with ⟨%g, -, H⟩
  rw [hc]
  iexists g; iexact H

end Cut

abbrev row4 {n : ℕ} (i : Fin n) : Rect (⟨4, ![n, 2, 256, 64]⟩ : Shape) := Rect.unit ![i.val, 0, 0, 0] S1x2x256x64.size (inb4 i)
abbrev row3 {n : ℕ} (i : Fin n) : Rect (⟨3, ![n, 256, 64]⟩ : Shape) := Rect.unit ![i.val, 0, 0] S1x256x64.size (inb3 i)

theorem mem_row4 {n : ℕ} (i : Fin n) (y : (⟨4, ![n, 2, 256, 64]⟩ : Shape).Idx) : y ∈ (row4 i).set ↔ (y 0).val = i.val := by
  rw [Rect.mem_set_unit]
  refine ⟨fun h => ?_, fun h a => ?_⟩
  · have := h 0
    change i.val ≤ (y 0).val ∧ (y 0).val < i.val + 1 at this; omega
  · match a with
    | 0 => exact ⟨h.ge, by show (y 0).val < i.val + 1; omega⟩
    | 1 => exact ⟨Nat.zero_le _, by have := (y 1).isLt; show (y 1).val < 0 + 2; change (y 1).val < 2 at this; omega⟩
    | 2 => exact ⟨Nat.zero_le _, by have := (y 2).isLt; show (y 2).val < 0 + 256; change (y 2).val < 256 at this; omega⟩
    | 3 => exact ⟨Nat.zero_le _, by have := (y 3).isLt; show (y 3).val < 0 + 64; change (y 3).val < 64 at this; omega⟩
theorem mem_row3 {n : ℕ} (i : Fin n) (y : (⟨3, ![n, 256, 64]⟩ : Shape).Idx) : y ∈ (row3 i).set ↔ (y 0).val = i.val := by
  rw [Rect.mem_set_unit]
  refine ⟨fun h => ?_, fun h a => ?_⟩
  · have := h 0
    change i.val ≤ (y 0).val ∧ (y 0).val < i.val + 1 at this; omega
  · match a with
    | 0 => exact ⟨h.ge, by show (y 0).val < i.val + 1; omega⟩
    | 1 => exact ⟨Nat.zero_le _, by have := (y 1).isLt; show (y 1).val < 0 + 256; change (y 1).val < 256 at this; omega⟩
    | 2 => exact ⟨Nat.zero_le _, by have := (y 2).isLt; show (y 2).val < 0 + 64; change (y 2).val < 64 at this; omega⟩

theorem row4_disj {n : ℕ} (i j : Fin n) (h : i ≠ j) : Disjoint (row4 i).set (row4 j).set :=
  Finset.disjoint_left.mpr fun y hi hj => h (Fin.ext (((mem_row4 i y).mp hi).symm.trans ((mem_row4 j y).mp hj)))
theorem row3_disj {n : ℕ} (i j : Fin n) (h : i ≠ j) : Disjoint (row3 i).set (row3 j).set :=
  Finset.disjoint_left.mpr fun y hi hj => h (Fin.ext (((mem_row3 i y).mp hi).symm.trans ((mem_row3 j y).mp hj)))
theorem row4_cov {n : ℕ} : Finset.univ.biUnion (fun i : Fin n => (row4 i).set) = Finset.univ :=
  Finset.eq_univ_iff_forall.mpr fun y => Finset.mem_biUnion.mpr ⟨y 0, Finset.mem_univ _, (mem_row4 (y 0) y).mpr rfl⟩
theorem row3_cov {n : ℕ} : Finset.univ.biUnion (fun i : Fin n => (row3 i).set) = Finset.univ :=
  Finset.eq_univ_iff_forall.mpr fun y => Finset.mem_biUnion.mpr ⟨y 0, Finset.mem_univ _, (mem_row3 (y 0) y).mpr rfl⟩

theorem any_slice (c : Dev nD) (b : Ref sig .tc) (r : Rect b.ty.shape) {s' : Shape} (h : s'.numel = r.shape.numel) :
    (iprop(∃ f, (((View.whole b).slice r).reshape s' h).loc (c : Thread nD τ) ↦[(((View.whole b).slice r).reshape s' h).set]{fullShare} f) : PP)
      = iprop(∃ f : Buf (Elt F) ((c : Thread nD τ).loc b), ((c : Thread nD τ).loc b) ↦[r.set]{fullShare} f) := by
  rw [View.set_reshape]; exact slot_any c b r

theorem st_any (c : Dev nD) (i : Fin 8) : anyOf (F := F) c (stM i) = iprop(∃ f : Buf (Elt F) ((c : Thread nD τ).loc cc0_scratch0), ((c : Thread nD τ).loc cc0_scratch0) ↦[(row4 i).set]{fullShare} f) := any_slice c cc0_scratch0 (row4 i) _
theorem kv_any (c : Dev nD) (i : Fin 16) : anyOf (F := F) c (kvM i) = iprop(∃ f : Buf (Elt F) ((c : Thread nD τ).loc cc0_scratch3), ((c : Thread nD τ).loc cc0_scratch3) ↦[(row4 i).set]{fullShare} f) := any_slice c cc0_scratch3 (row4 i) _
theorem qs_any (c : Dev nD) (i : Fin 8) : anyOf (F := F) c (qsM i) = iprop(∃ f : Buf (Elt F) ((c : Thread nD τ).loc cc0_scratch1), ((c : Thread nD τ).loc cc0_scratch1) ↦[(row3 i).set]{fullShare} f) := any_slice c cc0_scratch1 (row3 i) _
theorem cs_any (c : Dev nD) (i : Fin 8) : anyOf (F := F) c (csM i) = iprop(∃ f : Buf (Elt F) ((c : Thread nD τ).loc cc0_scratch2), ((c : Thread nD τ).loc cc0_scratch2) ↦[(row3 i).set]{fullShare} f) := any_slice c cc0_scratch2 (row3 i) _
theorem qb_any (c : Dev nD) (i : Fin 8) : anyOf (F := F) c (qbM i) = iprop(∃ f : Buf (Elt F) ((c : Thread nD τ).loc cc0_scratch4), ((c : Thread nD τ).loc cc0_scratch4) ↦[(row3 i).set]{fullShare} f) := any_slice c cc0_scratch4 (row3 i) _
theorem cb_any (c : Dev nD) (i : Fin 8) : anyOf (F := F) c (cbM i) = iprop(∃ f : Buf (Elt F) ((c : Thread nD τ).loc cc0_scratch5), ((c : Thread nD τ).loc cc0_scratch5) ↦[(row3 i).set]{fullShare} f) := any_slice c cc0_scratch5 (row3 i) _

/-- All the slots of a device, at contents not chosen. -/
def Slots (c : Dev nD) : PP :=
  iprop(bigSep Finset.univ (fun i => anyOf c (stM i)) ∗ bigSep Finset.univ (fun i => anyOf c (qsM i)) ∗ bigSep Finset.univ (fun i => anyOf c (csM i))
    ∗ bigSep Finset.univ (fun i => anyOf c (kvM i)) ∗ bigSep Finset.univ (fun i => anyOf c (qbM i)) ∗ bigSep Finset.univ (fun i => anyOf c (cbM i)))

/-- The scratch buffers of a device, whole. -/
abbrev Scratch (c : Dev nD) : PP := Pipeline.scopedRest (Ix := Unit) (Name := ℕ) (U := UU) (Lvl := ℕ) (Val := Elt F) spec0 c

theorem scratch_cut (c : Dev nD) : Scratch (F := F) c ⊢ Slots c := by
  unfold Scratch Slots
  rw [scopedRest0_eq]
  simp only [st_any, kv_any, qs_any, cs_any, qb_any, cb_any]
  exact BIClass.sep_mono (buf_cut c cc0_scratch0 row4 row4_disj row4_cov) (BIClass.sep_mono (buf_cut c cc0_scratch1 row3 row3_disj row3_cov)
    (BIClass.sep_mono (buf_cut c cc0_scratch2 row3 row3_disj row3_cov) (BIClass.sep_mono (buf_cut c cc0_scratch3 row4 row4_disj row4_cov)
      (BIClass.sep_mono (buf_cut c cc0_scratch4 row3 row3_disj row3_cov) (buf_cut c cc0_scratch5 row3 row3_disj row3_cov)))))

theorem scratch_join (c : Dev nD) : Slots c ⊢ Scratch (F := F) c := by
  unfold Scratch Slots
  rw [scopedRest0_eq]
  simp only [st_any, kv_any, qs_any, cs_any, qb_any, cb_any]
  exact BIClass.sep_mono (buf_join c cc0_scratch0 row4 row4_disj row4_cov) (BIClass.sep_mono (buf_join c cc0_scratch1 row3 row3_disj row3_cov)
    (BIClass.sep_mono (buf_join c cc0_scratch2 row3 row3_disj row3_cov) (BIClass.sep_mono (buf_join c cc0_scratch3 row4 row4_disj row4_cov)
      (BIClass.sep_mono (buf_join c cc0_scratch4 row3 row3_disj row3_cov) (buf_join c cc0_scratch5 row3 row3_disj row3_cov)))))

end Cert.KernelIdeal.Attn
-- ==== Proof.Ends.lean ====
/-
  What a device holds of the protocol at the launch and at the kernel's entry; the body's start made of the latter and the
  scratch buffers; the body's end closed again.
-/
module

public import proofs.«01_k».proof.Proof.Slots

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

local notation "PP" => sProp (MT nD τ sig Unit (Elt F) ℕ UU ℕ)

theorem fam_pair {I : Type} {s : Finset I} {Φ Ψ : I → PP} : iprop(bigSep s Φ ∗ bigSep s Ψ) ⊢ bigSep s (fun i => iprop(Φ i ∗ Ψ i)) :=
  Entails.of_eq (bigSep_sep s Φ Ψ).symm
theorem fam_unpair {I : Type} {s : Finset I} {Φ Ψ : I → PP} : bigSep s (fun i => iprop(Φ i ∗ Ψ i)) ⊢ iprop(bigSep s Φ ∗ bigSep s Ψ) :=
  Entails.of_eq (bigSep_sep s Φ Ψ)

/-! ## A device's cells, channel by channel -/

/-- The cells beside the barrier's: of each channel those its sends credit, then those its receipts credit. -/
abbrev KK : Type := (Fin 16 ⊕ Fin 16) ⊕ ((Fin 8 ⊕ Fin 8) ⊕ (Fin 8 ⊕ Fin 8))
def ofK : KK → Ch
  | .inl (.inl p) => .kvs (lo p) (hi p) | .inl (.inr s) => .kvr s
  | .inr (.inl (.inl j)) => .qs j | .inr (.inl (.inr j)) => .qr j
  | .inr (.inr (.inl j)) => .cs j | .inr (.inr (.inr j)) => .cr j
theorem lohi_inj : Function.Injective fun p : Fin 16 => (lo p, hi p) := by decide
theorem lohi_surj : ∀ n : Fin 8, ∀ h : Fin 2, ∃ p : Fin 16, lo p = n ∧ hi p = h := by decide
theorem ofK_inj : Function.Injective ofK := fun a b h => by
  rcases a with (a | a) | ((a | a) | (a | a)) <;> rcases b with (b | b) | ((b | b) | (b | b)) <;>
    simp only [ofK, Ch.kvs.injEq, Ch.kvr.injEq, Ch.qs.injEq, Ch.qr.injEq, Ch.cs.injEq, Ch.cr.injEq, reduceCtorEq] at h
  · rw [lohi_inj (Prod.ext h.1 h.2)]
  all_goals rw [h]
theorem ofK_ne (k : KK) : ofK k ≠ .bar := by
  rcases k with (a | a) | ((a | a) | (a | a)) <;> exact Ch.noConfusion
theorem ofK_surj (k : Ch) (h : k ≠ .bar) : ∃ k', ofK k' = k := by
  cases k with
  | bar => exact absurd rfl h
  | kvs n i => obtain ⟨p, h1, h2⟩ := lohi_surj n i; exact ⟨.inl (.inl p), by simp only [ofK, h1, h2]⟩
  | kvr s => exact ⟨.inl (.inr s), rfl⟩
  | qs n => exact ⟨.inr (.inl (.inl n)), rfl⟩
  | qr n => exact ⟨.inr (.inl (.inr n)), rfl⟩
  | cs n => exact ⟨.inr (.inr (.inl n)), rfl⟩
  | cr n => exact ⟨.inr (.inr (.inr n)), rfl⟩

/-- A kind's semaphore, of the kernel's own. -/
def osem (k : KK) : SemLoc sig := semOf (ofK k)

variable {ins : Dev nD → Ins F} {κ : GSem nD τ sig → ℕ} {c : Dev nD} {W : Wins}

theorem bigSep_KK (Φ : Ch → sProp (MT nD τ sig Unit (Elt F) ℕ UU ℕ)) : bigSep Finset.univ (fun k : KK => Φ (ofK k))
    = iprop((bigSep Finset.univ (fun i => Φ ((chK ins c).sK i)) ∗ bigSep Finset.univ (fun i => Φ ((chK ins c).gK i)))
      ∗ ((bigSep Finset.univ (fun i => Φ ((chQ ins c).sK i)) ∗ bigSep Finset.univ (fun i => Φ ((chQ ins c).gK i)))
        ∗ (bigSep Finset.univ (fun i => Φ ((chC ins c).sK i)) ∗ bigSep Finset.univ (fun i => Φ ((chC ins c).gK i))))) := by
  rw [bigSep_univ_sum, bigSep_univ_sum, bigSep_univ_sum, bigSep_univ_sum, bigSep_univ_sum]; rfl

/-! ## What the launch deals -/

/-- The tokens of a channel's payments. -/
def Chan.toks (C : Chan ins c) : PP :=
  bigSep Finset.univ (fun i => iprop(dutyTok ER (cell (C.tgt i) C.rK) 0 (0 : Dev nD) ∗ dutyTok ER (cell c (C.sK i)) 0 (0 : Dev nD)))
/-- The credits of a channel's receipts. -/
def Chan.creds (C : Chan ins c) : PP := bigSep Finset.univ (fun i => cred (tallyAt (cell c (C.gK i)) () C.N))

theorem Chan.rest_intro (C : Chan ins c) :
    iprop(C.toks ∗ C.creds ∗ bigSep Finset.univ (fun i => atPos ER (cell c (C.sK i)) 0 (∅ : Finset (Dev nD)) 0)
      ∗ bigSep Finset.univ (fun i => atPos ER (cell c (C.gK i)) 0 (∅ : Finset (Dev nD)) 0)) ⊢ C.rest := by
  unfold Chan.toks Chan.creds Chan.rest
  iintro ⟨H1, H2, H3, H4⟩
  isplitl [H1]; · iexact H1
  isplitl [H3]; · iexact H3
  iapply fam_pair
  isplitl [H4]; · iexact H4
  iexact H2

variable (ins c) in
def Toks : PP :=
  iprop(bigSep Finset.univ (fun p : Dev nD => dutyTok ER (cell p .bar) 0 c) ∗ (chK ins c).toks ∗ (chQ ins c).toks ∗ (chC ins c).toks)
variable (ins c) in
def Creds : PP :=
  iprop(cred (tallyAt (cell c .bar) () 16) ∗ (chK ins c).creds ∗ (chQ ins c).creds ∗ (chC ins c).creds)

variable (ins κ) in
/-- Every cell's invariant, and that the barrier's cells are open. -/
def Known : PP :=
  iprop(bigSep Finset.univ (fun p : Dev nD × Ch => cellInv ER (Rd ins) (κ (cell p.1 p.2)) (cell p.1 p.2))
    ∗ bigSep Finset.univ (fun p : Dev nD => reached ER (cell p .bar) 0))

instance Known_persistent : BI.Persistent (Known ins κ) := by unfold Known; infer_instance

variable (ins c) in
/-- From the launch, the device's own cells not yet open. -/
def Tk : PP :=
  iprop(∃ κ, Known ins κ ∗ atPos ER (cell c .bar) 0 (∅ : Finset (Dev nD)) 0 ∗ bigSep Finset.univ (fun k : KK => openTok ER (cell c (ofK k)))
    ∗ Toks ins c ∗ Creds ins c)
variable (ins κ c) in
/-- At the kernel's entry, the device's cells open. -/
def Opened : PP :=
  iprop(Ctx ins κ c ∗ atPos ER (cell c .bar) 0 (∅ : Finset (Dev nD)) 0 ∗ bigSep Finset.univ (fun k : KK => atPos ER (cell c (ofK k)) 0 (∅ : Finset (Dev nD)) 0)
    ∗ Toks ins c ∗ Creds ins c)
variable (ins c) in
def Xk : PP := iprop(∃ κ, Opened ins κ c)

theorem Known_inv (d : Dev nD) (k : Ch) : Known ins κ ⊢ cellInv ER (Rd ins) (κ (cell d k)) (cell d k) := by
  unfold Known
  iintro ⟨H, -⟩
  iapply (show (bigSep Finset.univ (fun p : Dev nD × Ch => cellInv ER (Rd ins) (κ (cell p.1 p.2)) (cell p.1 p.2)) : PP)
    ⊢ cellInv ER (Rd ins) (κ (cell d k)) (cell d k) from bigSep_elim (i := (d, k)) (Finset.mem_univ _)) $$ H

/-- A device's cells, opened. -/
theorem open_all :
    iprop(Known ins κ ∗ bigSep Finset.univ (fun k : KK => openTok ER (cell c (ofK k))) ∗ bigSep Finset.univ (fun k : KK => semVal (cell c (ofK k)) 0))
      ⊢ (|={Set.univ}=> iprop(bigSep Finset.univ (fun k : KK => atPos ER (cell c (ofK k)) 0 (∅ : Finset (Dev nD)) 0)
          ∗ bigSep Finset.univ (fun k : KK => reached ER (cell c (ofK k)) 0)) : PP) := by
  have h (k : KK) : iprop(Known ins κ ∗ (openTok ER (cell c (ofK k)) ∗ semVal (cell c (ofK k)) 0))
      ⊢ (|={Set.univ}=> iprop(atPos ER (cell c (ofK k)) 0 (∅ : Finset (Dev nD)) 0 ∗ reached ER (cell c (ofK k)) 0) : PP) := by
    refine BIBase.Entails.trans (BIClass.sep_mono (Known_inv c (ofK k)) .rfl) ?_
    exact Rounds.cell_open ER (Rd ins) (Set.mem_univ _)
  iintro ⟨HK, H⟩
  ihave H := fam_pair $$ H
  ihave H := (bigSep_with_persistent (R := Known ins κ) (fun k _ => h k)) $$ [HK H]
  · isplitl [HK]; · iexact HK
    iexact H
  imod (bigSep_fupd Finset.univ _) $$ H with H
  imodintro
  iapply fam_unpair
  iexact H

theorem reached_all :
    iprop(Known ins κ ∗ bigSep Finset.univ (fun k : KK => reached ER (cell c (ofK k)) 0)) ⊢ (bigSep Finset.univ (fun k : Ch => reached ER (cell c k) 0) : PP) := by
  refine bigSep_intro_persistent fun k _ => ?_
  by_cases hk : k = .bar
  · subst hk
    unfold Known
    iintro ⟨⟨-, H⟩, -⟩
    iapply (show (bigSep Finset.univ (fun p : Dev nD => reached ER (cell p .bar) 0) : PP) ⊢ reached ER (cell c .bar) 0 from bigSep_elim (i := c) (Finset.mem_univ _)) $$ H
  · obtain ⟨k', rfl⟩ := ofK_surj k hk
    iintro ⟨-, H⟩
    iapply (show (bigSep Finset.univ (fun k : KK => reached ER (cell c (ofK k)) 0) : PP) ⊢ reached ER (cell c (ofK k')) 0 from bigSep_elim (i := k') (Finset.mem_univ _)) $$ H

theorem ownSems_eq : (Pipeline.ownSems0 osem c : PP) = bigSep Finset.univ (fun k : KK => semVal (cell c (ofK k)) 0) := rfl

theorem open_own : iprop(Tk ins c ∗ Pipeline.ownSems0 osem c ∗ levAts L lv) ⊢ (|={Set.univ}=> Xk ins c : PP) := by
  rw [ownSems_eq]
  unfold Tk Xk Opened
  iintro ⟨⟨%κ, #HK, Hb, Ho, Ht, Hc⟩, Hs, #HL⟩
  imod (open_all (ins := ins) (κ := κ) (c := c)) $$ [Ho Hs] with ⟨Ha, #Hr⟩
  · isplitr; · iexact HK
    isplitl [Ho]; · iexact Ho
    iexact Hs
  imodintro
  iexists κ
  isplitr
  · unfold Ctx
    ihave HR := (reached_all (ins := ins) (κ := κ) (c := c)) $$ []
    · isplitr; · iexact HK
      iexact Hr
    unfold Known
    icases HK with ⟨H1, H2⟩
    isplitr; · iexact H1
    isplitr; · iexact H2
    isplitl [HR]; · iexact HR
    iexact HL
  isplitl [Hb]; · iexact Hb
  isplitl [Ha]; · iexact Ha
  isplitl [Ht]; · iexact Ht
  iexact Hc

/-! ## The start -/

/-- The slots a device hands over with its signals. -/
theorem pays_out :
    iprop(Ctx ins κ c ∗ bigSep Finset.univ (fun i => anyOf c (kvM i)) ∗ bigSep Finset.univ (fun i => anyOf c (qbM i)) ∗ bigSep Finset.univ (fun i => anyOf c (cbM i)))
      ⊢ (bigSep Finset.univ (fun p : Dev nD => barPay c p) : PP) := by
  have hk : iprop(Ctx ins κ c ∗ bigSep Finset.univ (fun i => anyOf c (kvM i)))
      ⊢ (bigSep Finset.univ (fun p : Dev nD => iprop(anyOf c (kvM p) ∗ reached ER (cell c (.kvr p)) 0)) : PP) :=
    bigSep_with_persistent fun p _ => by
      iintro ⟨HC, H⟩
      isplitl [H]; · iexact H
      iapply (Ctx_own ins κ c (.kvr p)); iexact HC
  have hq : iprop(Ctx ins κ c ∗ bigSep Finset.univ (fun i : Fin 8 => iprop(anyOf c (qbM i) ∗ anyOf c (cbM i))))
      ⊢ (bigSep Finset.univ (fun j : Fin 8 => iprop((anyOf c (qbM (lo (mate c j))) ∗ reached ER (cell c (.qr (lo (mate c j)))) 0)
        ∗ (anyOf c (cbM (lo (mate c j))) ∗ reached ER (cell c (.cr (lo (mate c j)))) 0))) : PP) :=
    bigSep_with_persistent fun j _ => by
      rw [lo_mate]
      iintro ⟨#HC, H1, H2⟩
      isplitl [H1]
      · isplitl [H1]; · iexact H1
        iapply (Ctx_own ins κ c (.qr j)); iexact HC
      isplitl [H2]; · iexact H2
      iapply (Ctx_own ins κ c (.cr j)); iexact HC
  have hm := half_mates (c := c) (fun p : Dev nD => (iprop((anyOf c (qbM (lo p)) ∗ reached ER (cell c (.qr (lo p))) 0)
        ∗ (anyOf c (cbM (lo p)) ∗ reached ER (cell c (.cr (lo p))) 0)) : PP))
  iintro ⟨#HC, H1, H2, H3⟩
  ihave H1 := hk $$ [H1]
  · isplitr; · iexact HC
    iexact H1
  ihave H2 := hq $$ [H2 H3]
  · isplitr; · iexact HC
    iapply fam_pair; isplitl [H2]; · iexact H2
    iexact H3
  ihave H2 := (Entails.of_eq hm.symm) $$ H2
  unfold barPay
  iapply fam_pair
  isplitl [H1]; · iexact H1
  simp only [eq_comm (a := c.val / 8)]
  iexact H2

theorem init_intro {out : Vec F S512x768 .f32} :
    iprop(Opened ins κ c ∗ Slots c ∗ (∃ W, owes (c : Thread nD τ) (owedBar 0 + owed ins c 0 0 0) W) ∗ Wn ins c W out) ⊢ Init ins κ c W out := by
  unfold Opened Slots Toks Creds Init StA StB BarW Rest
  rw [bigSep_KK (ins := ins) (c := c) (fun k => atPos ER (cell c k) 0 (∅ : Finset (Dev nD)) 0), span_none (o := Fin.val (n := 8)) (le_refl 0),
    span_all (o := Fin.val (n := 8)) (fun i => i.isLt), span_all (o := Fin.val (n := 16)) (fun i => i.isLt), bigSep_empty, bigSep_empty, bigSep_empty]
  iintro ⟨⟨#HC, Hb, ⟨⟨A1, A2⟩, ⟨A3, A4⟩, ⟨A5, A6⟩⟩, ⟨T0, T1, T2, T3⟩, ⟨C0, C1, C2, C3⟩⟩, ⟨S1, S2, S3, S4, S5, S6⟩, HO, HW⟩
  ihave HP := (pays_out (ins := ins) (κ := κ) (c := c)) $$ [S4 S5 S6]
  · isplitr; · iexact HC
    isplitl [S4]; · iexact S4
    isplitl [S5]; · iexact S5
    iexact S6
  isplitr; · iempintro
  isplitr; · iempintro
  isplitl [S1]; · iexact S1
  isplitr; · iempintro
  isplitl [S2]; · iexact S2
  isplitl [HW]; · iexact HW
  isplitr; · iexact HC
  isplitl [HO]; · iexact HO
  isplitl [T0 HP]
  · iapply fam_pair
    isplitl [T0]; · iexact T0
    iexact HP
  isplitl [Hb C0]
  · isplitl [Hb]; · iexact Hb
    iexact C0
  isplitl [T1 C1 A1 A2]
  · iapply (chK ins c).rest_intro
    isplitl [T1]; · iexact T1
    isplitl [C1]; · iexact C1
    isplitl [A1]; · iexact A1
    iexact A2
  isplitl [T2 C2 A3 A4]
  · iapply (chQ ins c).rest_intro
    isplitl [T2]; · iexact T2
    isplitl [C2]; · iexact C2
    isplitl [A3]; · iexact A3
    iexact A4
  isplitl [T3 C3 A5 A6]
  · iapply (chC ins c).rest_intro
    isplitl [T3]; · iexact T3
    isplitl [C3]; · iexact C3
    isplitl [A5]; · iexact A5
    iexact A6
  iexact S3

/-! ## The end -/

theorem Chan.done (C : Chan ins c) (h : ∀ i, C.o i < C.n) :
    ChSt C C.n C.n C.n C.n ⊢ iprop((bigSep Finset.univ (fun i => atPos ER (cell c (C.sK i)) 1 (∅ : Finset (Dev nD)) 0)
        ∗ bigSep Finset.univ (fun i => atPos ER (cell c (C.gK i)) 1 (∅ : Finset (Dev nD)) 0))
      ∗ bigSep Finset.univ (fun i => owns (c : Thread nD τ) (C.sM i) (C.sh i) (C.X i)) ∗ bigSep Finset.univ (fun i => owns (c : Thread nD τ) (C.gM i) fullShare (C.Y i))) := by
  unfold ChSt
  rw [span_all (o := C.o) h, span_all (o := Fin.val) (fun i : Fin C.n => i.isLt)]
  iintro ⟨-, -, -, -, -, H1, -, H2⟩
  ihave H1 := fam_unpair $$ H1
  icases H1 with ⟨A1, O1⟩
  ihave H2 := fam_unpair $$ H2
  icases H2 with ⟨A2, O2⟩
  isplitl [A1 A2]
  · isplitl [A1]; · iexact A1
    iexact A2
  isplitl [O1]; · iexact O1
  iexact O2

/-- A device's cells, closed. -/
theorem close_all :
    iprop(Ctx ins κ c ∗ bigSep Finset.univ (fun k : KK => atPos ER (cell c (ofK k)) 1 (∅ : Finset (Dev nD)) 0))
      ⊢ (|={Set.univ}=> bigSep Finset.univ (fun k : KK => semVal (cell c (ofK k)) 0) : PP) := by
  have h (k : KK) : iprop(Ctx ins κ c ∗ atPos ER (cell c (ofK k)) 1 (∅ : Finset (Dev nD)) 0) ⊢ (|={Set.univ}=> semVal (cell c (ofK k)) 0 : PP) := by
    refine BIBase.Entails.trans (BIClass.sep_mono (Ctx_inv ins κ c c (ofK k)) .rfl) ?_
    exact Rounds.cell_close ER (Rd ins) (Set.mem_univ _) id (Rd_duties_later ins _)
  exact (bigSep_with_persistent (fun k _ => h k)).trans (bigSep_fupd Finset.univ _)

theorem owns_any {s : Shape} {e : EltTy} (M : Memref sig .tc .vmem s e) (X : s.Idx → Elt F e) : owns (c : Thread nD τ) M fullShare X ⊢ anyOf c M := by
  unfold owns anyOf
  iintro ⟨%f, -, H⟩
  iexists f; iexact H

theorem owns_fam {n : ℕ} {s : Shape} {e : EltTy} (M : Fin n → Memref sig .tc .vmem s e) (X : Fin n → s.Idx → Elt F e) :
    bigSep Finset.univ (fun i => owns (c : Thread nD τ) (M i) fullShare (X i)) ⊢ (bigSep Finset.univ (fun i => anyOf c (M i)) : PP) :=
  bigSep_mono fun i _ => owns_any (M i) (X i)

theorem Chan.got_any (C : Chan ins c) : bigSep Finset.univ (fun i => owns (c : Thread nD τ) (C.gM i) fullShare (C.Y i)) ⊢ (bigSep Finset.univ (fun i => anyOf c (C.gM i)) : PP) :=
  owns_fam C.gM C.Y

theorem halves_in : bigSep Finset.univ (fun i => owns (c : Thread nD τ) ((chK ins c).sM i) ((chK ins c).sh i) ((chK ins c).X i))
    ⊢ (bigSep Finset.univ (fun n => owns (c : Thread nD τ) (stM n) fullShare (kvC ins c n)) : PP) := by
  let e : Fin 16 ≃ Fin 8 × Fin 2 :=
    ⟨fun p => (lo p, hi p), fun q => ⟨8 * q.2.val + q.1.val, by omega⟩, by decide, by decide⟩
  refine BIBase.Entails.trans (Entails.of_eq ?_) (bigSep_mono fun n _ => (owns_halves (c : Thread nD τ) (stM n) fullShare (kvC ins c n)).2)
  refine Eq.trans (bigSep_univ_equiv e (fun q : Fin 8 × Fin 2 => (owns (c : Thread nD τ) (stM q.1) (hs q.2) (kvC ins c q.1) : PP))).symm ?_
  rw [bigSep_univ_prod]
  exact bigSep_congr fun n _ => bigSep_fin_two (fun h => owns (c : Thread nD τ) (stM n) (hs h) (kvC ins c n))

theorem final_elim : Final ins κ c W ⊢ (|={Set.univ}=> iprop(Pipeline.ownSems0 osem c ∗ semVal (cell c .bar) 0 ∗ Slots c
    ∗ (∃ W, owes (c : Thread nD τ) (0 : CellTallies nD τ sig Unit) W) ∗ Wn ins c W (outC ins c)) : PP) := by
  have hq : bigSep Finset.univ (fun i => owns (c : Thread nD τ) ((chQ ins c).sM i) ((chQ ins c).sh i) ((chQ ins c).X i))
    ⊢ (bigSep Finset.univ (fun i => anyOf c (qsM i)) : PP) := owns_fam (chQ ins c).sM (chQ ins c).X
  have hx : bigSep Finset.univ (fun i => owns (c : Thread nD τ) ((chC ins c).sM i) ((chC ins c).sh i) ((chC ins c).X i))
    ⊢ (bigSep Finset.univ (fun i => anyOf c (csM i)) : PP) := owns_fam (chC ins c).sM (chC ins c).X
  unfold Final St
  rw [owed_nil, ownSems_eq]
  iintro ⟨#HC, HO, HK, HQ, HX, -, HW, Hb⟩
  ihave HK := (show ChSt (chK ins c) 16 16 16 16 ⊢ _ from (chK ins c).done ordK_lt) $$ HK
  icases HK with ⟨AK, SK, GK⟩
  ihave HQ := (show ChSt (chQ ins c) 8 8 8 8 ⊢ _ from (chQ ins c).done (fun i => i.isLt)) $$ HQ
  icases HQ with ⟨AQ, SQ, GQ⟩
  ihave HX := (show ChSt (chC ins c) 8 8 8 8 ⊢ _ from (chC ins c).done (fun i => i.isLt)) $$ HX
  icases HX with ⟨AC, SC, GC⟩
  imod (close_all (ins := ins) (κ := κ) (c := c)) $$ [AK AQ AC] with Hs
  · isplitr; · iexact HC
    rw [bigSep_KK (ins := ins) (c := c) (fun k => atPos ER (cell c k) 1 (∅ : Finset (Dev nD)) 0)]
    isplitl [AK]; · iexact AK
    isplitl [AQ]; · iexact AQ
    iexact AC
  imod (Rounds.cell_close ER (Rd ins) (g := cell c .bar) (κ := κ (cell c .bar)) (Set.mem_univ _) id (Rd_duties_later ins _)) $$ [Hb] with Hb
  · isplitr; · iapply (Ctx_inv ins κ c c .bar); iexact HC
    iexact Hb
  imodintro
  isplitl [Hs]; · iexact Hs
  isplitl [Hb]; · iexact Hb
  isplitr [HO HW]
  · unfold Slots
    ihave SK := (halves_in (ins := ins) (c := c)) $$ SK
    isplitl [SK]; · iapply (owns_fam (c := c) stM (kvC ins c)) $$ SK
    isplitl [SQ]; · iapply hq $$ SQ
    isplitl [SC]; · iapply hx $$ SC
    isplitl [GK]; · iapply (chK ins c).got_any $$ GK
    isplitl [GQ]; · iapply (chQ ins c).got_any $$ GQ
    iapply (chC ins c).got_any $$ GC
  isplitl [HO]; · iexact HO
  iexact HW

end Cert.KernelIdeal.Attn
-- ==== Proof.Windows.lean ====
/-
  What the windows of the kernel's one point hold, fetched and written back.
-/
module

public import proofs.«01_k».proof.Proof.Ends
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

open Idealize.ShloMosaic.Pipeline (Dat Seg HostSeg RegionSeg BodyObligation)

local notation "PP" => sProp (MT nD τ sig Unit (Elt F) ℕ UU ℕ)

variable (m : (ℓ : Loc nD τ sig) → Buf (Elt F) ℓ)

/-! ## What the windows hold -/

/-- What every device's kernel is given. -/
def insOf (c : Dev nD) : Ins F where
  x := V1 m c main_v5
  wq := V1 m c main_arg1
  wk := V1 m c main_arg2
  wv := V1 m c main_arg3
  wo := V1 m c main_arg4
  cos := V1 m c main_v32
  sin := V1 m c main_v38
  rot := V1 m c main_cst

/-- What a device owes at the kernel's entry: its signals, then its sends. -/
def O₀ (c : Dev nD) : CellTallies nD τ sig Unit := owedBar 0 + owed (insOf m) c 0 0 0

variable {m} in
theorem O₀_above (c : Dev nD) : Above 0 (O₀ m c) := by
  unfold O₀ owedBar owed
  refine Above.add (Above.sum _ _ fun p _ => Above.tally _ _ _ (by decide)) ?_
  refine Above.add ?_ (Above.add ?_ ?_)
  · exact Chan.owed_above _ 0 (by show 0 < 2; decide)
  · exact Chan.owed_above _ 0 (by show 0 < 2; decide)
  · exact Chan.owed_above _ 0 (by show 0 < 3; decide)

/-- The kernel's one point: the arrays as the host left them; the result's window left at the contexts' projection. -/
def dat0 (c : Dev nD) : Dat τ (Elt F) Unit ℕ UU ℕ cfg0 c where
  A w := V1 m c (Proc.devRef .tc (Pipeline.arrRef spec0 w))
  after := fun
    | 0 => fun _ => (insOf m c).x | 1 => fun _ => (insOf m c).wq | 2 => fun _ => (insOf m c).wk | 3 => fun _ => (insOf m c).wv | 4 => fun _ => (insOf m c).wo
    | 5 => fun _ => (insOf m c).cos | 6 => fun _ => (insOf m c).sin | 7 => fun _ => (insOf m c).rot | 8 => fun _ => outC (insOf m) c
    | ⟨_ + 9, h⟩ => absurd h (Nat.not_lt.2 (Nat.le_add_left _ _))
  Φ t := if t.val = 0 then iprop(Xk (insOf m) c ∗ Scratch c ∗ ∃ r, prngReg c r)
    else iprop(Pipeline.ownSems0 osem c ∗ semVal (cell c .bar) 0 ∗ Scratch c ∗ ∃ r, prngReg c r)
  q _ := fullShare
  owed t := if t.val = 0 then O₀ m c else 0

/-- Every window's one block begins at the array's start. -/
theorem index_zero : ∀ (w : Fin 9) (a : Fin (win0 w).block.rank), (win0 w).index t0_0 a = 0 := by decide +kernel

theorem fetched_0 (c : Dev nD) (d) : (dat0 m c).fetched 0 t0_0 d = (insOf m c).x :=
  funext fun j => (Dat.blockOf_apply (dat0 m c) 0 t0_0 j).trans (congrArg (V1 m c main_v5) (by blk_ext <;> rw [index_zero 0] <;> omega))
theorem fetched_1 (c : Dev nD) (d) : (dat0 m c).fetched 1 t0_0 d = (insOf m c).wq :=
  funext fun j => (Dat.blockOf_apply (dat0 m c) 1 t0_0 j).trans (congrArg (V1 m c main_arg1) (by blk_ext <;> rw [index_zero 1] <;> omega))
theorem fetched_2 (c : Dev nD) (d) : (dat0 m c).fetched 2 t0_0 d = (insOf m c).wk :=
  funext fun j => (Dat.blockOf_apply (dat0 m c) 2 t0_0 j).trans (congrArg (V1 m c main_arg2) (by blk_ext <;> rw [index_zero 2] <;> omega))
theorem fetched_3 (c : Dev nD) (d) : (dat0 m c).fetched 3 t0_0 d = (insOf m c).wv :=
  funext fun j => (Dat.blockOf_apply (dat0 m c) 3 t0_0 j).trans (congrArg (V1 m c main_arg3) (by blk_ext <;> rw [index_zero 3] <;> omega))
theorem fetched_4 (c : Dev nD) (d) : (dat0 m c).fetched 4 t0_0 d = (insOf m c).wo :=
  funext fun j => (Dat.blockOf_apply (dat0 m c) 4 t0_0 j).trans (congrArg (V1 m c main_arg4) (by blk_ext <;> rw [index_zero 4] <;> omega))
theorem fetched_5 (c : Dev nD) (d) : (dat0 m c).fetched 5 t0_0 d = (insOf m c).cos :=
  funext fun j => (Dat.blockOf_apply (dat0 m c) 5 t0_0 j).trans (congrArg (V1 m c main_v32) (by blk_ext <;> rw [index_zero 5] <;> omega))
theorem fetched_6 (c : Dev nD) (d) : (dat0 m c).fetched 6 t0_0 d = (insOf m c).sin :=
  funext fun j => (Dat.blockOf_apply (dat0 m c) 6 t0_0 j).trans (congrArg (V1 m c main_v38) (by blk_ext <;> rw [index_zero 6] <;> omega))
theorem fetched_7 (c : Dev nD) (d) : (dat0 m c).fetched 7 t0_0 d = (insOf m c).rot :=
  funext fun j => (Dat.blockOf_apply (dat0 m c) 7 t0_0 j).trans (congrArg (V1 m c main_cst) (by blk_ext <;> rw [index_zero 7] <;> omega))

theorem out_8 (c : Dev nD) : (dat0 m c).arrAt 8 cfg0.N = outC (insOf m) c := by
  refine (dat0 m c).arrAt_eq_of_covers 8 _ (by decide +kernel) fun t hf y => ?_
  obtain rfl := fin_N0 t
  refine congrArg (outC (insOf m) c) ?_
  blk_ext <;> rw [index_zero 8] <;> omega

theorem Φ_first (c : Dev nD) (t : Fin (cfg0.N + 1)) (h : t.val = 0) : (dat0 m c).Φ t = iprop(Xk (insOf m) c ∗ Scratch c ∗ ∃ r, prngReg c r) := if_pos h
theorem Φ_last (c : Dev nD) (t : Fin (cfg0.N + 1)) (h : t.val ≠ 0) :
    (dat0 m c).Φ t = iprop(Pipeline.ownSems0 osem c ∗ semVal (cell c .bar) 0 ∗ Scratch c ∗ ∃ r, prngReg c r) := if_neg h
theorem owed_first (c : Dev nD) (t : Fin (cfg0.N + 1)) (h : t.val = 0) : (dat0 m c).owed t = O₀ m c := if_pos h
theorem owed_last (c : Dev nD) (t : Fin (cfg0.N + 1)) (h : t.val ≠ 0) : (dat0 m c).owed t = 0 := if_neg h

end Cert.KernelIdeal.Attn
-- ==== Proof.Region.lean ====
/-
  The kernel's region of the launch: its body's obligation and its record.
-/
module

public import proofs.«01_k».proof.Proof.Windows

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

open Idealize.ShloMosaic.Pipeline (Dat Seg HostSeg RegionSeg BodyObligation)

local notation "PP" => sProp (MT nD τ sig Unit (Elt F) ℕ UU ℕ)

variable (m : (ℓ : Loc nD τ sig) → Buf (Elt F) ℓ)

/-! ## The body's obligation -/

/-- The kernel's windows at its one point. -/
def stages : Wins where
  a0 := st0_0 t0_0
  h0 := stage_whole0 0 _
  a1 := st0_1 t0_0
  h1 := stage_whole0 1 _
  a2 := st0_2 t0_0
  h2 := stage_whole0 2 _
  a3 := st0_3 t0_0
  h3 := stage_whole0 3 _
  a4 := st0_4 t0_0
  h4 := stage_whole0 4 _
  a5 := st0_5 t0_0
  h5 := stage_whole0 5 _
  a6 := st0_6 t0_0
  h6 := stage_whole0 6 _
  a7 := st0_7 t0_0
  h7 := stage_whole0 7 _
  a8 := st0_8 t0_0
  h8 := stage_whole0 8 _

/-- The body, from the device's cells and its scratch buffers back to them. -/
theorem kernel_run (c : Dev nD) (out : Vec F S512x768 .f32) :
    iprop((Xk (insOf m) c ∗ Scratch c ∗ ∃ r, prngReg c r) ∗ (∃ W, owes (c : Thread nD τ) (O₀ m c) W) ∗ Wn (insOf m) c stages out)
      ⊢ wp frame (wpE (defs₀ (F := F)) 𝒱₀ (c : Thread nD τ) none) Set.univ (stages.run cc0_body) fun _ =>
        iprop((Pipeline.ownSems0 osem c ∗ semVal (cell c .bar) 0 ∗ Scratch c ∗ ∃ r, prngReg c r)
          ∗ (∃ W, owes (c : Thread nD τ) (0 : CellTallies nD τ sig Unit) W) ∗ Wn (insOf m) c stages (outC (insOf m) c)) := by
  unfold Xk
  iintro ⟨⟨⟨%κ, HX⟩, HS, Hp⟩, HO, HW⟩
  ihave HS := (scratch_cut (F := F) c) $$ HS
  ihave HI := (init_intro (ins := insOf m) (κ := κ) (c := c) (W := stages) (out := out)) $$ [HX HS HO HW]
  · isplitl [HX]; · iexact HX
    isplitl [HS]; · iexact HS
    isplitl [HO]; · iexact HO
    iexact HW
  ihave HI := (body_run (ins := insOf m) (κ := κ) (c := c) (W := stages) (out := out) (Q := fun _ => iprop(Pipeline.ownSems0 osem c ∗ semVal (cell c .bar) 0 ∗ Slots c
    ∗ (∃ W, owes (c : Thread nD τ) (0 : CellTallies nD τ sig Unit) W) ∗ Wn (insOf m) c stages (outC (insOf m) c))) final_elim) $$ HI
  iapply (wp_wand_r frame (wpE (defs₀ (F := F)) 𝒱₀ (c : Thread nD τ) none) Set.univ)
  isplitl [HI]; · iexact HI
  iintro %u ⟨H1, H2, H3, H4, H5⟩
  isplitr [H4 H5]
  · isplitl [H1]; · iexact H1
    isplitl [H2]; · iexact H2
    isplitl [H3]; · iapply (scratch_join (F := F) c) $$ H3
    iexact Hp
  isplitl [H4]; · iexact H4
  iexact H5

theorem before_k (c : Dev nD) (w : Fin 9) (X : (cfg0.win w).block.Idx → Elt F (cfg0.win w).elt) (hf : (cfg0.win w).fetch t0_0 = true) (h : ∀ d, (dat0 m c).fetched w t0_0 d = X) :
    (iprop(∃ d, owns (c : Thread nD τ) ((cfg0.win w).stage (cfg0.slots t0_0 w)) fullShare ((dat0 m c).before w t0_0 d)) : PP)
      ⊢ owns (c : Thread nD τ) ((cfg0.win w).stage (cfg0.slots t0_0 w)) fullShare X := by
  iintro ⟨%d, H⟩
  rw [(dat0 m c).before_fetched w t0_0 hf d, h d]
  iexact H

theorem owes_in {c : Dev nD} (dat : Dat τ (Elt F) Unit ℕ UU ℕ cfg0 c) (t : Fin (cfg0.N + 1)) (O : CellTallies nD τ sig Unit) (h : dat.owed t = O)
    (hr : dat.recorded t = Set.univ) : iprop(∃ W, owes (c : Thread nD τ) O W) ⊢ (dat.owesAt () t : PP) := by
  unfold Dat.owesAt Pipeline.owesWithin Dat.bound
  rw [h, hr]
  iintro ⟨%W, H⟩
  iexists W
  isplitr; · ipureintro; exact fun _ _ => Or.inl trivial
  iexact H
theorem owes_out {c : Dev nD} (dat : Dat τ (Elt F) Unit ℕ UU ℕ cfg0 c) (t : Fin (cfg0.N + 1)) (O : CellTallies nD τ sig Unit) (h : dat.owed t = O) :
    (dat.owesAt () t : PP) ⊢ iprop(∃ W, owes (c : Thread nD τ) O W) := by
  unfold Dat.owesAt Pipeline.owesWithin
  rw [h]
  iintro ⟨%W, -, H⟩
  iexists W; iexact H

theorem enters (c : Dev nD) :
    (bigSep Finset.univ (fun w : Fin 9 => iprop(∃ d, owns (c : Thread nD τ) ((cfg0.win w).stage (cfg0.slots t0_0 w)) fullShare ((dat0 m c).before w t0_0 d))) : PP)
      ⊢ iprop(∃ out, Wn (insOf m) c stages out) := by
  rw [bigSep_W0]
  unfold Wn
  iintro ⟨H0, H1, H2, H3, H4, H5, H6, H7, ⟨%d8, H8⟩⟩
  iexists ((dat0 m c).before 8 t0_0 d8)
  isplitl [H0]; · iapply (before_k m c 0 _ (fetch0_0 _) (fetched_0 m c)) $$ H0
  isplitl [H1]; · iapply (before_k m c 1 _ (fetch0_1 _) (fetched_1 m c)) $$ H1
  isplitl [H2]; · iapply (before_k m c 2 _ (fetch0_2 _) (fetched_2 m c)) $$ H2
  isplitl [H3]; · iapply (before_k m c 3 _ (fetch0_3 _) (fetched_3 m c)) $$ H3
  isplitl [H4]; · iapply (before_k m c 4 _ (fetch0_4 _) (fetched_4 m c)) $$ H4
  isplitl [H5]; · iapply (before_k m c 5 _ (fetch0_5 _) (fetched_5 m c)) $$ H5
  isplitl [H6]; · iapply (before_k m c 6 _ (fetch0_6 _) (fetched_6 m c)) $$ H6
  isplitl [H7]; · iapply (before_k m c 7 _ (fetch0_7 _) (fetched_7 m c)) $$ H7
  iexact H8

theorem after_0 (c : Dev nD) : (dat0 m c).after 0 t0_0 = (insOf m c).x := by dsimp only [dat0]
theorem after_1 (c : Dev nD) : (dat0 m c).after 1 t0_0 = (insOf m c).wq := by dsimp only [dat0]
theorem after_2 (c : Dev nD) : (dat0 m c).after 2 t0_0 = (insOf m c).wk := by dsimp only [dat0]
theorem after_3 (c : Dev nD) : (dat0 m c).after 3 t0_0 = (insOf m c).wv := by dsimp only [dat0]
theorem after_4 (c : Dev nD) : (dat0 m c).after 4 t0_0 = (insOf m c).wo := by dsimp only [dat0]
theorem after_5 (c : Dev nD) : (dat0 m c).after 5 t0_0 = (insOf m c).cos := by dsimp only [dat0]
theorem after_6 (c : Dev nD) : (dat0 m c).after 6 t0_0 = (insOf m c).sin := by dsimp only [dat0]
theorem after_7 (c : Dev nD) : (dat0 m c).after 7 t0_0 = (insOf m c).rot := by dsimp only [dat0]
theorem after_8 (c : Dev nD) : (dat0 m c).after 8 t0_0 = outC (insOf m) c := by dsimp only [dat0]

theorem leaves (c : Dev nD) : Wn (insOf m) c stages (outC (insOf m) c)
    ⊢ (bigSep Finset.univ (fun w : Fin 9 => owns (c : Thread nD τ) ((cfg0.win w).stage (cfg0.slots t0_0 w)) fullShare ((dat0 m c).after w t0_0)) : PP) := by
  rw [bigSep_W0, after_0, after_1, after_2, after_3, after_4, after_5, after_6, after_7, after_8]
  exact .rfl

theorem succ_ne : (t0_0 : Fin grid0.N).succ.val ≠ 0 := Nat.succ_ne_zero t0_0.val

set_option maxRecDepth 65536 in
theorem prog_eq : defs₀ (F := F) .tc cfg0.body (cfg0.bodyArgs t0_0 (cfg0.slots t0_0)) = stages.run cc0_body := rfl

theorem body0 (c : Dev nD) : BodyObligation (dat0 m c) defs₀ 𝒱₀ () Set.univ := fun t => by
  obtain rfl := fin_N0 t
  have hpre : iprop((dat0 m c).Φ t0_0.castSucc ∗ (dat0 m c).owesAt () t0_0.castSucc
      ∗ bigSep Finset.univ (fun w : Fin 9 => iprop(∃ d, owns (c : Thread nD τ) ((cfg0.win w).stage (cfg0.slots t0_0 w)) fullShare ((dat0 m c).before w t0_0 d))))
      ⊢ (iprop(∃ out, (Xk (insOf m) c ∗ Scratch c ∗ ∃ r, prngReg c r) ∗ (∃ W, owes (c : Thread nD τ) (O₀ m c) W) ∗ Wn (insOf m) c stages out) : PP) := by
    rw [Φ_first m c _ rfl]
    iintro ⟨HΦ, HO, HW⟩
    ihave HW := (enters m c) $$ HW
    icases HW with ⟨%out, HW⟩
    iexists out
    isplitl [HΦ]; · iexact HΦ
    isplitl [HO]; · iapply (owes_out (dat0 m c) _ _ (owed_first m c _ rfl)) $$ HO
    iexact HW
  refine BIBase.Entails.trans hpre (exists_elim fun out => ?_)
  rw [prog_eq]
  have key := kernel_run m c out
  generalize stages.run (cc0_body (F := F)) = p at key ⊢
  refine (key.trans (wp_mono _ _ _ fun _ => ?_))
  refine BIClass.sep_mono (Entails.of_eq ?_) (BIClass.sep_mono (owes_in (dat0 m c) t0_0.succ 0 (owed_last m c _ succ_ne) rfl) ((leaves m c).trans (bigSep_mono fun w _ => by
    have h : cfg0.idle w (cfg0.grid.coords t0_0) = false := rfl
    simp only [h]
    exact BI.Entails.refl _)))
  exact (Φ_last m c _ succ_ne).symm

/-! ## The region's record -/

/-- What the kernel leaves in its result's array. -/
def outs : Outs (F := F) := fun _ r c => Function.update (V1 m c) (Proc.devRef .tc main_v39) (outC (insOf m) c) (Proc.devRef .tc r)

theorem outs_eq (c : Dev nD) : outs m 2 main_v39 c = outC (insOf m) c := by
  unfold outs; exact Function.update_self ..

abbrev pdats : (p : Fin 1) → (c : Dev nD) → Dat τ (Elt F) Unit ℕ UU ℕ (cfgs p) c := fun
  | 0 => dat0 m | ⟨_ + 1, h⟩ => absurd h (Nat.not_lt.2 (Nat.le_add_left _ _))

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own0 : Pipeline.OwnSemFacts spec0 osem where
  isScoped := by decide
  inj := semOf_inj.comp ofK_inj
  disj := by decide

/-- A staging semaphore is of no kind. -/
theorem kind_none : ∀ (w : Fin 9) (s : Fin (win0 w).nbuf) (k : Ch), semOf k ≠ .dma ((win0 w).sem s) := by decide

theorem lv_stage (c : Dev nD) (w : Fin 9) (s : Fin (win0 w).nbuf) : lv ((c : Thread nD τ), .dma ((win0 w).sem s)) () = 0 := by
  unfold lv kindOf Function.partialInv
  rw [dif_neg fun ⟨k, hk⟩ => kind_none w s k hk]

theorem arr_sub : Pipeline.arrRefs (τ := τ) spec0 ⊆ Pipeline.ucRefs τ sig := Pipeline.arrRefs_sub_ucRefs spec0 (by decide)

theorem V2_rest (c : Dev nD) (b : DevRef τ sig) (hb : b ≠ Proc.devRef .tc main_v39) : V2 m (outs m) c b = V1 m c b := Function.update_of_ne hb ..
theorem V2_out (c : Dev nD) : V2 m (outs m) c (Proc.devRef .tc main_v39) = outC (insOf m) c := (Function.update_self ..).trans (outs_eq m c)

theorem arr_ne : ∀ w : Fin 9, w ≠ 8 → (Proc.devRef .tc (Pipeline.arrRef spec0 w) : DevRef τ sig) ≠ Proc.devRef .tc main_v39 := by decide
theorem out_mem : (Proc.devRef .tc main_v39 : DevRef τ sig) ∈ Pipeline.arrRefs (τ := τ) spec0 := by decide
theorem isOut_of : ∀ w : Fin 9, w ≠ 8 → (win0 w).isOut = false := by decide

set_option backward.isDefEq.respectTransparency.types false in
def reg0 : RegionSeg (pcfgs (F := F)) adm (pdats m) () defs₀ 𝒱₀ L lv 0 :=
  Pipeline.RegionSeg.ofTalk (pcfgs (F := F)) adm (pdats m) () defs₀ 𝒱₀ L lv 0 osem own0
    ∅ (Pipeline.ucRefs τ sig \ Pipeline.arrRefs spec0) (Finset.empty_subset _) kit0 rfl (fun c => (body0 m c).loose)
    (fun _ => 0) (O₀ m) (fun c => (owed_first m c _ rfl).trans (zero_add _).symm) (fun c => owed_last m c _ (Nat.succ_ne_zero _)) (fun _ => rfl)
    (fun c w => by unfold Dat.share; split <;> rfl)
    (V1 m) (V2 m (outs m)) (fun c b hb => V2_rest m c b fun h => (Finset.mem_sdiff.mp (Finset.mem_sdiff.mp hb).1).2 (h ▸ out_mem))
    (Tk (insOf m)) (fun c => semVal (cell c .bar) 0) (Xk (insOf m)) (fun c => semVal (cell c .bar) 0) (fun c => open_own)
    (fun c => by
      rw [show (pdats m 0 c).Φ 0 = _ from Φ_first m c 0 rfl]
      iintro ⟨Hs, Hp, -, HX⟩
      isplitl [HX]; · iexact HX
      isplitl [Hs]; · iexact Hs
      iexact Hp)
    (fun c => by
      rw [show (pdats m 0 c).Φ (Fin.last _) = _ from Φ_last m c (Fin.last _) (Nat.succ_ne_zero _)]
      iintro ⟨Ho, Hb, Hs, Hp⟩
      isplitl [Hs]; · iexact Hs
      isplitl [Hp]; · iexact Hp
      isplitr; · unfold StableHlo.held; rw [bigSep_empty]; iempintro
      isplitl [Ho]; · iexact Ho
      iexact Hb)
    (fun c => fupd_intro)
    (fun _ => 0)
    ⟨fun c w s => by rw [L_tc]; exact Finset.mem_singleton_self _, fun c w s => (lv_stage c w s).le, fun c t g i h => by
      have e : (pdats m 0 c).owed t = if t.val = 0 then O₀ m c else 0 := rfl
      rw [e] at h
      split at h
      · have := O₀_above c g i h
        exact ⟨by unfold L; rw [if_pos this.1]; exact Finset.mem_singleton_self _, this.2⟩
      · exact absurd h (Nat.lt_irrefl 0)⟩
    (fun _ => iprop(emp))
    (fun c w => rfl)
    (fun c w => by
      by_cases hw : w = (8 : Fin 9)
      · subst hw; exact (out_8 m c).trans (V2_out m c).symm
      · exact ((dat0 m c).arrAt_in w (isOut_of w hw) _).trans (V2_rest m c _ (arr_ne w hw)).symm)

end Cert.KernelIdeal.Attn
-- ==== Proof.Launch.lean ====
/-
  The launch: every cell's invariant allocated, the tokens and the credits dealt to the devices.
-/
module

public import proofs.«01_k».proof.Proof.Region

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

local notation "PP" => sProp (MT nD τ sig Unit (Elt F) ℕ UU ℕ)

/-! ## The cells and the tokens at launch -/

def barEmb : Dev nD ↪ GSem nD τ sig := ⟨fun c => cell c .bar, fun _ _ h => (Prod.mk.inj (cell_inj (a₁ := (_, _)) (a₂ := (_, _)) h)).1⟩
def ownEmb : Dev nD × KK ↪ GSem nD τ sig := ⟨fun x => cell x.1 (ofK x.2), fun x y h => by
  obtain ⟨h1, h2⟩ := Prod.mk.inj (cell_inj (a₁ := (x.1, ofK x.2)) (a₂ := (y.1, ofK y.2)) h)
  exact Prod.ext h1 (ofK_inj h2)⟩

/-- The barrier's cells, live from the start, and the others, asleep until the kernel's entry. -/
abbrev barCells : Finset (GSem nD τ sig) := Finset.univ.map barEmb
abbrev ownCells : Finset (GSem nD τ sig) := Finset.univ.map ownEmb

theorem cells_apart : Disjoint barCells ownCells := by
  rw [Finset.disjoint_left]
  rintro g h₁ h₂
  obtain ⟨c, -, rfl⟩ := Finset.mem_map.mp h₁
  obtain ⟨x, -, h⟩ := Finset.mem_map.mp h₂
  exact ofK_ne x.2 (Prod.mk.inj (cell_inj (a₁ := (x.1, ofK x.2)) (a₂ := (c, .bar)) h)).2

theorem cell_mem (d : Dev nD) (k : Ch) : cell d k ∈ barCells ∪ ownCells := by
  by_cases hk : k = .bar
  · subst hk; exact Finset.mem_union_left _ (Finset.mem_map_of_mem barEmb (Finset.mem_univ d))
  · obtain ⟨k', rfl⟩ := ofK_surj k hk
    exact Finset.mem_union_right _ (Finset.mem_map_of_mem ownEmb (Finset.mem_univ (d, k')))

/-- Every payment's token: of each barrier one per device, of each other cell one. -/
def tokAt : (Dev nD × Dev nD) ⊕ (Dev nD × KK) → GSem nD τ sig × ℕ × Dev nD
  | .inl x => (cell x.1 .bar, 0, x.2) | .inr x => (cell x.1 (ofK x.2), 0, 0)
theorem tokAt_inj : Function.Injective tokAt := fun a b h => by
  rcases a with a | a <;> rcases b with b | b <;> obtain ⟨h1, h2⟩ := Prod.mk.inj h <;> obtain ⟨h3, h4⟩ := Prod.mk.inj (cell_inj (a₁ := (_, _)) (a₂ := (_, _)) h1)
  · rw [Prod.ext h3 (Prod.mk.inj h2).2]
  · exact absurd h4.symm (ofK_ne _)
  · exact absurd h4 (ofK_ne _)
  · rw [Prod.ext h3 (ofK_inj h4)]
abbrev allToks : Finset (GSem nD τ sig × ℕ × Dev nD) := Finset.univ.map ⟨tokAt, tokAt_inj⟩

/-! ## The tokens, dealt to their payers -/

/-- Exchanging devices and places: message `p` out of device `c` is message `c` into device `p`; -/
def swK : Dev nD × Fin 16 ≃ Dev nD × Fin 16 := Equiv.prodComm _ _
/-- message `j` out of device `c` is message `lo c` into device `mate c j`. -/
def swM : Dev nD × Fin 8 ≃ Dev nD × Fin 8 :=
  ⟨fun x => (mate x.1 x.2, lo x.1), fun x => (mate x.1 x.2, lo x.1), fun x => by simp only [mate_mate, lo_mate], fun x => by simp only [mate_mate, lo_mate]⟩

theorem deal {n : ℕ} (e : Dev nD × Fin n ≃ Dev nD × Fin n) (Φ : Dev nD × Fin n → PP) :
    bigSep Finset.univ (fun d => bigSep Finset.univ (fun i => Φ (d, i))) = bigSep Finset.univ (fun d => bigSep Finset.univ (fun i => Φ (e (d, i)))) := by
  rw [← bigSep_univ_prod, ← bigSep_univ_prod (fun x => Φ (e x))]
  exact bigSep_univ_equiv e Φ

variable {ins : Dev nD → Ins F}

/-- One channel's tokens. -/
theorem deal_ch {n : ℕ} (e : Dev nD × Fin n ≃ Dev nD × Fin n) (A : Dev nD → Fin n → PP) (B : Dev nD × Fin n → PP) :
    iprop((bigSep Finset.univ fun d => bigSep Finset.univ fun i => A d i) ∗ (bigSep Finset.univ fun d => bigSep Finset.univ fun i => B (d, i)))
      ⊢ bigSep Finset.univ (fun d => bigSep Finset.univ (fun i => iprop(B (e (d, i)) ∗ A d i))) := by
  rw [deal e B]
  iintro ⟨HA, HB⟩
  ihave H := fam_pair $$ [HA HB]
  · isplitl [HB]; · iexact HB
    iexact HA
  iapply (show bigSep Finset.univ (fun d : Dev nD => iprop((bigSep Finset.univ fun i => B (e (d, i))) ∗ bigSep Finset.univ fun i => A d i))
    ⊢ (bigSep Finset.univ (fun d => bigSep Finset.univ (fun i => iprop(B (e (d, i)) ∗ A d i))) : PP) from bigSep_mono fun _ _ => fam_pair) $$ H

theorem toks_split : bigSep allToks (fun x => (dutyTok ER x.1 x.2.1 x.2.2 : PP))
    = iprop((bigSep Finset.univ fun c : Dev nD => bigSep Finset.univ fun p : Dev nD => dutyTok ER (cell p .bar) 0 c)
      ∗ bigSep Finset.univ fun d : Dev nD => bigSep Finset.univ fun k : KK => dutyTok ER (cell d (ofK k)) 0 (0 : Dev nD)) := by
  rw [bigSep_map, bigSep_univ_sum]
  refine congrArg₂ (fun P Q : PP => iprop(P ∗ Q)) ?_ ?_
  · refine Eq.trans (bigSep_univ_equiv (Equiv.prodComm (Dev nD) (Dev nD)) _) ?_
    rw [bigSep_univ_prod]; rfl
  · rw [bigSep_univ_prod]; rfl

theorem toks_deal : bigSep allToks (fun x => (dutyTok ER x.1 x.2.1 x.2.2 : PP)) ⊢ bigSep Finset.univ (fun c => Toks ins c) := by
  have hk : (bigSep Finset.univ fun d : Dev nD => bigSep Finset.univ fun k : KK => (dutyTok ER (cell d (ofK k)) 0 (0 : Dev nD) : PP))
      = iprop(((bigSep Finset.univ fun d : Dev nD => bigSep Finset.univ fun i : Fin 16 => dutyTok ER (cell d (.kvs (lo i) (hi i))) 0 (0 : Dev nD))
          ∗ (bigSep Finset.univ fun d : Dev nD => bigSep Finset.univ fun i : Fin 16 => dutyTok ER (cell d (.kvr i)) 0 (0 : Dev nD)))
        ∗ (((bigSep Finset.univ fun d : Dev nD => bigSep Finset.univ fun i : Fin 8 => dutyTok ER (cell d (.qs i)) 0 (0 : Dev nD))
          ∗ (bigSep Finset.univ fun d : Dev nD => bigSep Finset.univ fun i : Fin 8 => dutyTok ER (cell d (.qr i)) 0 (0 : Dev nD)))
        ∗ ((bigSep Finset.univ fun d : Dev nD => bigSep Finset.univ fun i : Fin 8 => dutyTok ER (cell d (.cs i)) 0 (0 : Dev nD))
          ∗ (bigSep Finset.univ fun d : Dev nD => bigSep Finset.univ fun i : Fin 8 => dutyTok ER (cell d (.cr i)) 0 (0 : Dev nD))))) := by
    rw [← bigSep_sep', ← bigSep_sep', ← bigSep_sep', ← bigSep_sep', ← bigSep_sep']
    exact bigSep_congr fun d _ => bigSep_KK (ins := ins) (c := d) fun k => dutyTok ER (cell d k) 0 (0 : Dev nD)
  rw [toks_split, hk]
  unfold Toks
  iintro ⟨H0, ⟨A1, A2⟩, ⟨B1, B2⟩, C1, C2⟩
  iapply fam_pair; isplitl [H0]; · iexact H0
  iapply fam_pair; isplitl [A1 A2]
  · iapply (deal_ch swK (fun d i => dutyTok ER (cell d (.kvs (lo i) (hi i))) 0 (0 : Dev nD)) (fun x => dutyTok ER (cell x.1 (.kvr x.2)) 0 (0 : Dev nD)))
    isplitl [A1]; · iexact A1
    iexact A2
  iapply fam_pair; isplitl [B1 B2]
  · iapply (deal_ch swM (fun d i => dutyTok ER (cell d (.qs i)) 0 (0 : Dev nD)) (fun x => dutyTok ER (cell x.1 (.qr x.2)) 0 (0 : Dev nD)))
    isplitl [B1]; · iexact B1
    iexact B2
  iapply (deal_ch swM (fun d i => dutyTok ER (cell d (.cs i)) 0 (0 : Dev nD)) (fun x => dutyTok ER (cell x.1 (.cr x.2)) 0 (0 : Dev nD)))
  isplitl [C1]; · iexact C1
  iexact C2

/-! ## The launch credit -/

/-- A family of messages of `N` units, one into each place `g j` of each device. -/
theorem creds_of {n : ℕ} (N : ℕ) (tgt : Dev nD → Fin n → Dev nD) (r : Dev nD → Ch) (g : Fin n → Ch) (hg : Function.Injective g)
    (e : Dev nD × Fin n ≃ Dev nD × Fin n) (h : ∀ x, cell (tgt x.1 x.2) (r x.1) = cell (e x).1 (g (e x).2)) (c : Dev nD) :
    Pipeline.launchCred (fun d => ∑ i, tallyAt (cell (tgt d i) (r d)) () N) c ⊢ (bigSep Finset.univ (fun j => cred (tallyAt (cell c (g j)) () N)) : PP) := by
  unfold Pipeline.launchCred
  refine BIBase.Entails.trans (bigSep_subset (Finset.subset_univ (Finset.univ.map ⟨fun j => semOf (g j), semOf_inj.comp hg⟩))) (Entails.of_eq ?_)
  rw [bigSep_map]
  refine bigSep_congr fun j _ => congrArg cred ?_
  show tallyOn (cell c (g j)) (launchCredit _ 0 (cell c (g j))) = _
  rw [Pipeline.tallyOn_launchCredit_owing]
  unfold tallyAt
  refine congrArg _ (Finsupp.ext fun u => ?_)
  cases u
  rw [← Fintype.sum_prod_type' (f := fun d i => tallyOn (cell (tgt d i) (r d)) (Finsupp.single () N)), Finset.sum_apply, Finsupp.finsetSum_apply,
    Finset.sum_eq_single (e.symm (c, j)) (fun x _ hx => ?_) (fun hx => absurd (Finset.mem_univ _) hx)]
  · rw [h, Equiv.apply_symm_apply, tallyOn_self]
  · rw [h, tallyOn_ne fun hc => hx ?_]; · rfl
    obtain ⟨h1, h2⟩ := Prod.mk.inj (cell_inj (a₁ := (c, g j)) (a₂ := ((e x).1, g (e x).2)) hc)
    rw [Equiv.eq_symm_apply, h1, hg h2]

theorem cred_bar (c : Dev nD) : Pipeline.launchCred (fun _ => owedBar 0) c ⊢ (cred (tallyAt (cell c .bar) () 16) : PP) := by
  refine BIBase.Entails.trans (Pipeline.launchCred_elim _ c (semOf .bar)) (Entails.of_eq (congrArg cred ?_))
  rw [Pipeline.tallyOn_launchCredit_owing]
  unfold owedBar tallyAt
  refine congrArg _ (Finsupp.ext fun u => ?_)
  cases u
  rw [span_all (o := Fin.val (n := 16)) (fun i => i.isLt), Finset.sum_apply, Finsupp.finsetSum_apply, Finset.sum_congr rfl (g := fun _ : Dev nD => 1) fun d _ => ?_]
  · rw [Finset.sum_const, Finsupp.single_eq_same]; rfl
  · rw [Finset.sum_apply, Finsupp.finsetSum_apply, Finset.sum_eq_single c (fun p _ hp => ?_) (fun hx => absurd (Finset.mem_univ _) hx)]
    · rw [tallyOn_self, Finsupp.single_eq_same]
    · rw [tallyOn_ne fun hc => hp ?_]; · rfl
      exact (Prod.mk.inj (cell_inj (a₁ := (c, .bar)) (a₂ := (p, .bar)) hc)).1.symm

variable (m : (ℓ : Loc nD τ sig) → Buf (Elt F) ℓ)

theorem creds (c : Dev nD) : Pipeline.launchCred (O₀ m) c ⊢ (Creds (insOf m) c : PP) := by
  have e : O₀ m = fun d => owedBar 0 + ((∑ i : Fin 16, tallyAt (cell i (.kvr d)) () NK)
      + ((∑ i : Fin 8, tallyAt (cell (mate d i) (.qr (lo d))) () NQ) + ∑ i : Fin 8, tallyAt (cell (mate d i) (.cr (lo d))) () NQ)) := by
    funext d
    unfold O₀ owed Chan.owed
    rw [show span (chK (insOf m) d).o 0 (chK (insOf m) d).n = Finset.univ from span_all (b := 16) ordK_lt,
      show span (chQ (insOf m) d).o 0 (chQ (insOf m) d).n = Finset.univ from span_all (b := 8) (fun i => i.isLt),
      show span (chC (insOf m) d).o 0 (chC (insOf m) d).n = Finset.univ from span_all (b := 8) (fun i => i.isLt)]
    rfl
  rw [e, Pipeline.launchCred_add, Pipeline.launchCred_add, Pipeline.launchCred_add]
  unfold Creds
  refine BIClass.sep_mono (cred_bar c) (BIClass.sep_mono ?_ (BIClass.sep_mono ?_ ?_))
  · exact creds_of NK (fun _ i => i) .kvr .kvr (fun _ _ h => Ch.kvr.inj h) swK (fun _ => rfl) c
  · exact creds_of NQ mate (fun d => .qr (lo d)) .qr (fun _ _ h => Ch.qr.inj h) swM (fun _ => rfl) c
  · exact creds_of NQ mate (fun d => .cr (lo d)) .cr (fun _ _ h => Ch.cr.inj h) swM (fun _ => rfl) c

/-! ## The launch's element -/

abbrev uR : Rounds.URounds (GSem nD τ sig) (Dev nD) := launchOf barCells ownCells allToks
def u₀ : UU :=
  (initOf (Pipeline.cells (Pipeline.pin (pcfgs (F := F)) adm) cellOf_inj) (Pipeline.launchToks (Pipeline.pin (pcfgs (F := F)) adm) cellOf_inj), uR)

/-- The protocol's half, kept by device 0 until all is dealt at once. -/
def G (c : Dev nD) : PP := if c = 0 then BI.own (ER uR) else iprop(emp)
theorem G_all : bigSep Finset.univ (G (F := F)) = BI.own (ER uR) := by
  rw [bigSep_univ_at _ (0 : Dev nD), bigSep_congr (s := Finset.univ.erase (0 : Dev nD)) (Ψ := fun _ => (BI.emp : PP))
      fun c hc => by unfold G; rw [if_neg (Finset.ne_of_mem_erase hc)]; rfl, BI.bigSep_emp_const]
  unfold G; rw [if_pos rfl]
  exact BI.equiv_iff.mp sep_emp

theorem barSem_eq : (Finset.univ.filter fun sm : SemLoc sig => ¬ sm.isScoped .tc) = {semOf .bar} := by decide
theorem unscoped_bar (c : Dev nD) : (unscopedSems0 c : PP) = semVal (cell c .bar) 0 := by
  unfold unscopedSems0
  rw [barSem_eq, BI.bigSep_singleton]

/-- What stays with a device. -/
def Mine (c : Dev nD) : PP :=
  iprop(atPos ER (cell c .bar) 0 (∅ : Finset (Dev nD)) 0 ∗ bigSep Finset.univ (fun k : KK => openTok ER (cell c (ofK k))) ∗ Toks (insOf m) c)
/-- A device's holdings at the first host operation, beside its buffers. -/
def Start (c : Dev nD) : PP :=
  iprop((∃ r, prngReg c r) ∗ Tk (insOf m) c ∗ ∃ W, owes (c : Thread nD τ) (O₀ m c) W)

theorem start_intro (κ : GSem nD τ sig → ℕ) (c : Dev nD) :
    iprop(Known (insOf m) κ ∗ (Mine m c ∗ (Creds (insOf m) c ∗ (∃ r, prngReg c r) ∗ owes (c : Thread nD τ) (O₀ m c) ∅))) ⊢ Start m c := by
  unfold Start Tk Mine
  iintro ⟨#HK, ⟨Ha, Ho, Ht⟩, Hc, Hp, HO⟩
  isplitl [Hp]; · iexact Hp
  isplitr [HO]
  · iexists κ
    isplitr; · iexact HK
    isplitl [Ha]; · iexact Ha
    isplitl [Ho]; · iexact Ho
    isplitl [Ht]; · iexact Ht
    iexact Hc
  iexists ∅; iexact HO

theorem known_intro (κ : GSem nD τ sig → ℕ) :
    iprop((bigSep (barCells ∪ ownCells) fun g => cellInv ER (Rd (insOf m)) (κ g) g) ∗ bigSep barCells fun g => reached ER g 0) ⊢ (Known (insOf m) κ : PP) := by
  have h1 : (bigSep (barCells ∪ ownCells) fun g => (cellInv ER (Rd (insOf m)) (κ g) g : PP))
      ⊢ bigSep Finset.univ (fun p : Dev nD × Ch => cellInv ER (Rd (insOf m)) (κ (cell p.1 p.2)) (cell p.1 p.2)) :=
    bigSep_intro_persistent fun p _ => bigSep_elim (cell_mem p.1 p.2)
  have h2 : (bigSep barCells fun g => (reached ER g 0 : PP)) ⊢ bigSep Finset.univ (fun p : Dev nD => reached ER (cell p .bar) 0) :=
    Entails.of_eq (bigSep_map (s := Finset.univ) barEmb (Φ := fun g : GSem nD τ sig => (reached ER g 0 : PP)))
  unfold Known
  exact BIClass.sep_mono h1 h2

theorem fund : iprop((bigSep Finset.univ fun c : Dev nD => semVal (cell c .bar) 0) ∗ BI.own (ER uR))
    ⊢ (|={Set.univ}=> iprop(∃ κ, Known (insOf m) κ ∗ bigSep Finset.univ (Mine m)) : PP) := by
  have hv : bigSep Finset.univ (fun c : Dev nD => (semVal (cell c .bar) 0 : PP)) ⊢ bigSep barCells (fun g => (semVal g 0 : PP)) :=
    Entails.of_eq (bigSep_map (s := Finset.univ) barEmb (Φ := fun g : GSem nD τ sig => (semVal g 0 : PP))).symm
  have ha : bigSep barCells (fun g => (atPos ER g 0 (∅ : Finset (Dev nD)) 0 : PP)) ⊢ bigSep Finset.univ (fun c : Dev nD => (atPos ER (cell c .bar) 0 (∅ : Finset (Dev nD)) 0 : PP)) :=
    Entails.of_eq (bigSep_map (s := Finset.univ) barEmb (Φ := fun g : GSem nD τ sig => (atPos ER g 0 (∅ : Finset (Dev nD)) 0 : PP)))
  have ho : bigSep ownCells (fun g => (openTok ER g : PP)) ⊢ bigSep Finset.univ (fun c : Dev nD => bigSep Finset.univ (fun k : KK => (openTok ER (cell c (ofK k)) : PP))) :=
    Entails.of_eq (by rw [bigSep_map, bigSep_univ_prod]; rfl)
  iintro ⟨Hv, Hu⟩
  imod (Rounds.fund_launch ER (Rd (insOf m)) cells_apart (fun g _ h => h) allToks) $$ [Hv Hu] with ⟨%κ, -, Hinv, Hr, Hat, Hopen, Htok⟩
  · isplitl [Hv]
    · iapply hv $$ Hv
    · iexact Hu
  imodintro
  iexists κ
  isplitl [Hinv Hr]
  · iapply (known_intro m κ)
    isplitl [Hinv]; · iexact Hinv
    iexact Hr
  unfold Mine
  iapply fam_pair; isplitl [Hat]; · iapply ha $$ Hat
  iapply fam_pair; isplitl [Hopen]; · iapply ho $$ Hopen
  iapply (toks_deal (ins := insOf m)) $$ Htok

end Cert.KernelIdeal.Attn
-- ==== Proof.Run.lean ====
/-
  The run of the whole program on the 16 devices, and what it leaves.
-/
module

public import proofs.«01_k».proof.Proof.Launch

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

open Idealize.ShloMosaic.Pipeline (Dat Seg HostSeg RegionSeg)

local notation "PP" => sProp (MT nD τ sig Unit (Elt F) ℕ UU ℕ)

variable (m : (ℓ : Loc nD τ sig) → Buf (Elt F) ℓ) (ρ : Dev nD → PrngReg)

/-! ## Into the region and out of it -/

theorem pre0 (c : Dev nD) : iprop(StableHlo.held (c : Thread nD τ) (Pipeline.ucRefs τ sig) (V1 m c) ∗ Start m c) ⊢ (reg0 m).pre c := by
  show _ ⊢ (iprop(StableHlo.held (c : Thread nD τ) (Pipeline.arrRefs (τ := τ) spec0) (V1 m c) ∗ (∃ r, prngReg c r)
    ∗ (StableHlo.held (c : Thread nD τ) (Pipeline.ucRefs τ sig \ Pipeline.arrRefs spec0) (V1 m c) ∗ emp) ∗ Tk (insOf m) c
    ∗ ∃ Wd, owes (c : Thread nD τ) (0 + O₀ m c) Wd) : PP)
  rw [StableHlo.held_sub_split (c : Thread nD τ) arr_sub, zero_add]
  unfold Start
  iintro ⟨⟨H1, H2⟩, Hp, HT, HO⟩
  isplitl [H1]; · iexact H1
  isplitl [Hp]; · iexact Hp
  isplitl [H2]
  · isplitl [H2]; · iexact H2
    iempintro
  isplitl [HT]; · iexact HT
  iexact HO

/-- A device's holdings after the kernel, beside its buffers. -/
def End (c : Dev nD) : PP := iprop(semVal (cell c .bar) 0 ∗ ∃ W, owes (c : Thread nD τ) (0 : CellTallies nD τ sig Unit) W)

theorem post0 (c : Dev nD) : (reg0 m).post c ⊢ iprop(StableHlo.held (c : Thread nD τ) (Pipeline.ucRefs τ sig) (V2 m (outs m) c) ∗ End c) := by
  show (iprop(StableHlo.held (c : Thread nD τ) (Pipeline.arrRefs (τ := τ) spec0) (V2 m (outs m) c) ∗ (∃ r, prngReg c r)
    ∗ (StableHlo.held (c : Thread nD τ) (Pipeline.ucRefs τ sig \ Pipeline.arrRefs spec0) (V2 m (outs m) c) ∗ emp) ∗ semVal (cell c .bar) 0
    ∗ ∃ Wd, owes (c : Thread nD τ) (0 : CellTallies nD τ sig Unit) Wd) : PP) ⊢ _
  rw [StableHlo.held_sub_split (c : Thread nD τ) arr_sub]
  unfold End
  iintro ⟨H1, -, ⟨H2, -⟩, Hb, HO⟩
  isplitl [H1 H2]
  · isplitl [H1]; · iexact H1
    iexact H2
  isplitl [Hb]; · iexact Hb
  iexact HO

/-! ## The run -/

def EE : Fin 2 → Dev nD → PP := fun | 0 => Start m | 1 => End

abbrev T₀ (c : Dev nD) : PP := iprop(StableHlo.held (c : Thread nD τ) (Pipeline.ucRefs τ sig) (V0 m c) ∗ Start m c)
abbrev Tₙ (c : Dev nD) : PP := iprop(StableHlo.held (c : Thread nD τ) (Pipeline.ucRefs τ sig) (V3 m (outs m) c) ∗ semVal (cell c .bar) 0)

theorem init : iprop((bigSep Finset.univ fun c : Dev nD => iprop(unscopedBufs c (fun b => m ((c.tc : Thread nD τ).loc b)) ∗ unscopedSems0 c
          ∗ owes (c.tc : Thread nD τ) (O₀ m c) ∅ ∗ Pipeline.launchCred (O₀ m) c ∗ prngReg c (ρ c) ∗ G c)) ∗ levAts L lv)
      ⊢ (|={Set.univ}=> bigSep Finset.univ (T₀ m) : PP) := by
  have h (c : Dev nD) : iprop(unscopedBufs c (fun b => m ((c.tc : Thread nD τ).loc b)) ∗ unscopedSems0 c
        ∗ owes (c.tc : Thread nD τ) (O₀ m c) ∅ ∗ Pipeline.launchCred (O₀ m) c ∗ prngReg c (ρ c) ∗ G c)
      ⊢ (iprop(StableHlo.held (c : Thread nD τ) (Pipeline.ucRefs τ sig) (V0 m c)
        ∗ ((Creds (insOf m) c ∗ (∃ r, prngReg c r) ∗ owes (c : Thread nD τ) (O₀ m c) ∅) ∗ (semVal (cell c .bar) 0 ∗ G c))) : PP) := by
    rw [← Pipeline.unscopedBufs_held c (V0 m c), unscoped_bar]
    iintro ⟨Hh, Hs, HO, Hc, Hp, HG⟩
    isplitl [Hh]; · iexact Hh
    isplitl [HO Hc Hp]
    · isplitl [Hc]; · iapply (creds m c) $$ Hc
      isplitl [Hp]; · iexists (ρ c); iexact Hp
      iexact HO
    isplitl [Hs]; · iexact Hs
    iexact HG
  refine BIBase.Entails.trans (BIClass.sep_mono (bigSep_mono fun c _ => h c) .rfl) ?_
  iintro ⟨H, -⟩
  ihave H := fam_unpair $$ H
  icases H with ⟨Hh, H⟩
  ihave H := fam_unpair $$ H
  icases H with ⟨HB, H⟩
  ihave H := fam_unpair $$ H
  icases H with ⟨Hs, HG⟩
  imod (fund m) $$ [Hs HG] with ⟨%κ, #HK, HM⟩
  · isplitl [Hs]; · iexact Hs
    iapply (Entails.of_eq (G_all (F := F))) $$ HG
  imodintro
  iapply fam_pair
  isplitl [Hh]; · iexact Hh
  iapply (bigSep_with_persistent (R := Known (insOf m) κ) (Φ := fun c => iprop(Mine m c ∗ (Creds (insOf m) c ∗ (∃ r, prngReg c r) ∗ owes (c : Thread nD τ) (O₀ m c) ∅)))
    fun c _ => start_intro m κ c)
  isplitr; · iexact HK
  iapply fam_pair
  isplitl [HM]; · iexact HM
  iexact HB

theorem bar_only : ∀ sm : SemLoc sig, sm.isScoped .tc = false → sm = semOf .bar := by decide

/-- What every run leaves: the result, the arguments as they were, every counter at zero. -/
def Ends (c : Dev nD) (s : MemSt nD τ sig (Elt F)) : Prop :=
  (s.mem ((c.tc : Thread nD τ).loc main_v40) = V3 m (outs m) c main_v40)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

set_option backward.isDefEq.respectTransparency.types false in
/-- From any memory, with every counter at zero, every run of the program on the 16 devices ends, and ends so. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (EE m) () (pdats m) (reg0 m))
    (fun c Q => by
      rewrite [main_chain c, Seg.run_eq_chain,
        show (segs m (outs m) 𝒱₀ L lv (EE m) () (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (O₀ m) L_of_ne (G (F := F)) (u₀ (F := F))
    (by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, pre0 m c, post0 m c, ?_⟩)
    (hinit := init m ρ) (QY := fun c s => Ends m c s ∧ s.sem (cell c .bar) = 0)
    (hfin := fun c s' => ?_) (hQ := fun s h hs => ⟨fun c => (h c).1, sem_eq_zero hs fun c sm hsm => ?_⟩)
  · show iprop(StableHlo.held (c : Thread nD τ) (Pipeline.ucRefs τ sig) (V3 m (outs m) c) ∗ (semVal (cell c .bar) 0 ∗ ∃ W, owes (c : Thread nD τ) (0 : CellTallies nD τ sig Unit) W))
      ⊢ (iprop((StableHlo.held (c : Thread nD τ) (Pipeline.ucRefs τ sig) (V3 m (outs m) c) ∗ semVal (cell c .bar) 0) ∗ ∃ W, owes (c : Thread nD τ) (0 : CellTallies nD τ sig Unit) W) : PP)
    iintro ⟨Hh, Hb, HO⟩
    isplitr [HO]
    · isplitl [Hh]; · iexact Hh
      iexact Hb
    iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨h (Proc.devRef .tc main_v40) (Finset.mem_filter.mpr ⟨StableHlo.devRef_mem_tcRefs main_v40, by decide⟩),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩, by simpa using hb⟩
    · iexact HSI
  · obtain rfl := bar_only sm hsm
    exact (h c).2

end Cert.KernelIdeal.Attn
-- ==== Proof.Frames.lean ====
/-
  The frames: the run's values dropped.
-/
module

public import proofs.«01_k».proof.Proof.Same
public import proofs.«01_k».proof.Proof.Run
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts

/-- The run's result and arguments. -/
theorem run_kernelIdeal {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, Cert.KernelIdeal.Attn.Ends m c r.2) ∧ r.2.sem = fun _ => 0) :=
  Cert.KernelIdeal.Attn.run_main m ρ

/-- The run with its value dropped, at any float instance. -/
theorem frame_any {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧ r.2.sem = fun _ => 0) :=
  (θ_run Cert.KernelIdeal.defs _ _).mono (fun _ h => ⟨fun c => (h.1 c).2, h.2⟩) (run_kernelIdeal m ρ)

theorem frame_kernelIdeal : Cert.quiescent_KernelIdeal := fun m ρ _ => frame_any m ρ

attribute [local instance] named_bits

theorem frame_kernel : Cert.quiescent_Kernel := fun m ρ _ => by
  have h := frame_any (F := Bits) m ρ
  rw [main_same, defs_same] at h
  exact h

theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

end Cert.Proof

end
-- ==== Proof.Rot.lean ====
/-
  The rotation's matrix: what its table holds.
-/
module

public import proofs.«01_k».proof.KernelIdeal

@[expose] public section

noncomputable section

namespace Cert.Value

open Idealize.ShloMosaic

/-- The matrix's word at a row and a column: -1 above a pair's even column, 1 below its odd column, and zeros, some of
    them with a sign. -/
def rotWord (k n : ℕ) : BitVec 16 :=
  if n % 2 = 0 then (if k = n + 1 then 0xBF80#16 else if k % 64 = n % 64 + 1 then 0x8000#16 else 0#16) else (if k + 1 = n then 0x3F80#16 else 0#16)

/-- The word by the three digits of its place in the table. -/
def word (a b c : ℕ) : BitVec 16 := rotWord ((128 * a + b) / 2) (128 * (b % 2) + c)

/-- The choice of a digit under 128 among a function's values. -/
abbrev pick (j : ℕ) (f : ℕ → BitVec 16) : BitVec 16 := match j with
  | 0 => f 0 | 1 => f 1 | 2 => f 2 | 3 => f 3 | 4 => f 4 | 5 => f 5 | 6 => f 6 | 7 => f 7 | 8 => f 8 | 9 => f 9
  | 10 => f 10 | 11 => f 11 | 12 => f 12 | 13 => f 13 | 14 => f 14 | 15 => f 15 | 16 => f 16 | 17 => f 17
  | 18 => f 18 | 19 => f 19 | 20 => f 20 | 21 => f 21 | 22 => f 22 | 23 => f 23 | 24 => f 24 | 25 => f 25
  | 26 => f 26 | 27 => f 27 | 28 => f 28 | 29 => f 29 | 30 => f 30 | 31 => f 31 | 32 => f 32 | 33 => f 33
  | 34 => f 34 | 35 => f 35 | 36 => f 36 | 37 => f 37 | 38 => f 38 | 39 => f 39 | 40 => f 40 | 41 => f 41
  | 42 => f 42 | 43 => f 43 | 44 => f 44 | 45 => f 45 | 46 => f 46 | 47 => f 47 | 48 => f 48 | 49 => f 49
  | 50 => f 50 | 51 => f 51 | 52 => f 52 | 53 => f 53 | 54 => f 54 | 55 => f 55 | 56 => f 56 | 57 => f 57
  | 58 => f 58 | 59 => f 59 | 60 => f 60 | 61 => f 61 | 62 => f 62 | 63 => f 63 | 64 => f 64 | 65 => f 65
  | 66 => f 66 | 67 => f 67 | 68 => f 68 | 69 => f 69 | 70 => f 70 | 71 => f 71 | 72 => f 72 | 73 => f 73
  | 74 => f 74 | 75 => f 75 | 76 => f 76 | 77 => f 77 | 78 => f 78 | 79 => f 79 | 80 => f 80 | 81 => f 81
  | 82 => f 82 | 83 => f 83 | 84 => f 84 | 85 => f 85 | 86 => f 86 | 87 => f 87 | 88 => f 88 | 89 => f 89
  | 90 => f 90 | 91 => f 91 | 92 => f 92 | 93 => f 93 | 94 => f 94 | 95 => f 95 | 96 => f 96 | 97 => f 97
  | 98 => f 98 | 99 => f 99 | 100 => f 100 | 101 => f 101 | 102 => f 102 | 103 => f 103 | 104 => f 104 | 105 => f 105
  | 106 => f 106 | 107 => f 107 | 108 => f 108 | 109 => f 109 | 110 => f 110 | 111 => f 111 | 112 => f 112
  | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126
  | 127 => f 127
  | _ => 0#16

theorem pick_eq (f : ℕ → BitVec 16) (j : ℕ) (h : j < 128) : pick j f = f j := by
  interval_cases j <;> rfl

set_option maxRecDepth 65536 in
set_option maxHeartbeats 16000000 in
/-- The table, by its digits. -/
theorem lit0t_tree : Cert.KernelIdeal.lit0t = fun i => match i / 16384 with
    | 0 => pick (i / 128 % 128) (fun b => pick (i % 128) (word 0 b))
    | 1 => pick (i / 128 % 128) (fun b => pick (i % 128) (word 1 b))
    | 2 => pick (i / 128 % 128) (fun b => pick (i % 128) (word 2 b))
    | 3 => pick (i / 128 % 128) (fun b => pick (i % 128) (word 3 b))
    | _ => 0#16 := rfl

/-- A row's word at a column. -/
theorem lit0_row (k n : ℕ) (hk : k < 256) (hn : n < 256) (h : 256 * k + n < 65536) :
    Cert.KernelIdeal.lit0 ⟨256 * k + n, h⟩ = rotWord k n := by
  show Cert.KernelIdeal.lit0t (256 * k + n) = _
  have hb : (256 * k + n) / 128 % 128 < 128 := Nat.mod_lt _ (by decide)
  have hc : (256 * k + n) % 128 < 128 := Nat.mod_lt _ (by decide)
  have ha : (256 * k + n) / 16384 < 4 := by omega
  have key : ∀ a, (256 * k + n) / 16384 = a → word a ((256 * k + n) / 128 % 128) ((256 * k + n) % 128) = rotWord k n := by
    intro a e
    have e1 : (128 * a + (256 * k + n) / 128 % 128) / 2 = k := by omega
    have e2 : 128 * ((256 * k + n) / 128 % 128 % 2) + (256 * k + n) % 128 = n := by omega
    unfold word
    rw [e1, e2]
  rw [lit0t_tree]
  generalize hA : (256 * k + n) / 16384 = a at ha key
  have kk := key a rfl
  dsimp only
  rw [hA]
  interval_cases a <;> simp only [] <;> rw [pick_eq _ _ hb, pick_eq _ _ hc] <;> exact kk

end Cert.Value

end
-- ==== Proof.Angles.lean ====
/-
  The rotation's angles: a position times a column's inverse frequency, and the constants they are made of.
-/
module

public import Idealize.ShloMosaic.Lib.IdealHost
public import Idealize.ShloMosaic.PureOps.Ideal

@[expose] public section

noncomputable section

namespace Cert.Value

open Idealize.ShloMosaic

/-! ## Real values -/

/-- An extended real that is a real. -/
def IsR (x : EReal) : Prop := ∃ r : ℝ, x = (r : EReal)

theorem IsR.coe (r : ℝ) : IsR (r : EReal) := ⟨r, rfl⟩
theorem IsR.add {x y : EReal} : IsR x → IsR y → IsR (x + y)
  | ⟨a, ha⟩, ⟨b, hb⟩ => ⟨a + b, by rw [ha, hb, EReal.coe_add]⟩
theorem IsR.mul {x y : EReal} : IsR x → IsR y → IsR (x * y)
  | ⟨a, ha⟩, ⟨b, hb⟩ => ⟨a * b, by rw [ha, hb, EReal.coe_mul]⟩
theorem IsR.neg {x : EReal} : IsR x → IsR (-x)
  | ⟨a, ha⟩ => ⟨-a, by rw [ha, EReal.coe_neg]⟩
theorem IsR.sum {ι : Type*} (t : Finset ι) {f : ι → EReal} (h : ∀ j, IsR (f j)) : IsR (∑ j ∈ t, f j) := by
  classical
  induction t using Finset.induction_on with
  | empty => exact ⟨0, by simp⟩
  | insert a t ha ih => rw [Finset.sum_insert ha]; exact (h a).add ih
theorem IsR.cos {x : EReal} : IsR x → IsR (Ideal.cos x)
  | ⟨a, ha⟩ => ⟨Real.cos a, by rw [ha, Ideal.cos_coe]⟩
theorem IsR.sin {x : EReal} : IsR x → IsR (Ideal.sin x)
  | ⟨a, ha⟩ => ⟨Real.sin a, by rw [ha]; rfl⟩
/-- A value whose absolute value is under the top is a real. -/
theorem IsR.of_lt {x : EReal} (h : max x (-x) < ⊤) : IsR x := by
  induction x with
  | bot => simp at h
  | top => simp at h
  | coe r => exact ⟨r, rfl⟩

/-! ## The constants -/

theorem ofBits_two : Ideal.ofBits .f32 0x40000000#32 = ((2 : ℝ) : EReal) := by
  simp [Ideal.ofBits, Ideal.ieee, -EReal.coe_mul]; norm_num
theorem ofBits_sixty_four : Ideal.ofBits .f32 0x42800000#32 = ((64 : ℝ) : EReal) := by
  simp [Ideal.ofBits, Ideal.ieee, -EReal.coe_mul]; norm_num
theorem ofBits_ten_thousand : Ideal.ofBits .f32 0x461C4000#32 = ((10000 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_least : Ideal.ofBits .f32 0xFF800000#32 = ⊥ := by
  simp [Ideal.ofBits, Ideal.ieee]
theorem ofBits_top_bf16 : Ideal.ofBits .bf16 0x7F80#16 = ⊤ := by
  simp [Ideal.ofBits, Ideal.ieee]
theorem ofBits_minus_zero_bf16 : Ideal.ofBits .bf16 0x8000#16 = 0 := by
  simp [Ideal.ofBits, Ideal.ieee]

/-- A small number's word, read as a signed number. -/
theorem sitofp_ofNat (n : ℕ) (h : n < 2 ^ 31) :
    (FloatOps.sitofp .f32 (BitVec.ofNat 32 n) : Ideal .f32) = (((n : ℕ) : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]
    congr 1
    omega
  rw [e]
  norm_num

/-! ## The angles -/

/-- The inverse frequency of a pair of columns. -/
def freq (i : ℕ) : EReal :=
  Ideal.div 1 (Ideal.pow (Ideal.ofBits .f32 0x461C4000#32) (Ideal.div (((2 * i : ℕ) : ℝ) : EReal) (Ideal.ofBits .f32 0x42800000#32)))

theorem freq_real (i : ℕ) : IsR (freq i) := by
  unfold freq
  have h : ∀ y, Real.rpow 10000 y ≠ 0 := fun y => (Real.rpow_pos_of_pos (by norm_num) y).ne'
  rw [ofBits_ten_thousand, ofBits_sixty_four, Ideal.div_coe (by norm_num), ← EReal.coe_mul, Ideal.pow_coe_coe, Ideal.div_coe (h _), one_mul]
  exact IsR.coe _

/-- A pair's angle at a position. -/
def angle (t i : ℕ) : EReal := ((t : ℝ) : EReal) * freq i

theorem angle_real (t i : ℕ) : IsR (angle t i) := (IsR.coe _).mul (freq_real i)

end Cert.Value

end
-- ==== Proof.Pieces.lean ====
/-
  The kernel's pieces read at an index: what a device sends, the weights it sums, and what it stores.
-/
module

public import proofs.«01_k».proof.Proof.Proto
public import Idealize.ShloMosaic.Lib.Pointwise

@[expose] public section

noncomputable section

namespace Cert.KernelIdeal.Attn

open Idealize.ShloMosaic Idealize.ShloMosaic.TcCoe
open Cert.KernelIdeal.Gen

set_option maxRecDepth 16384

/-- A row of a batch's half, and a column of a head. -/
abbrev rowAt (b : ℕ) (r : Fin 256) (h : b < 2) : Fin 512 := ⟨256 * b + r.val, by omega⟩
abbrev colAt (h : ℕ) (e : Fin 64) (hh : h < 4) : Fin 256 := ⟨64 * h + e.val, by omega⟩
abbrev rowOf (n : Fin 8) (r : Fin 256) : Fin 512 := rowAt (n.val / 4) r (by omega)
abbrev colOf (n : Fin 8) (e : Fin 64) : Fin 256 := colAt (n.val % 4) e (by omega)

theorem q2_apply (i : Ins Ideal) (r : Fin 512) (n : Fin 256) :
    q2 i (ix2 r n) = (∑ x, i.x (ix2 r x) * i.wq (ix2 x n)) * i.cos (ix2 r n)
      + (∑ y, (∑ x, i.x (ix2 r x) * i.wq (ix2 x y)) * i.rot (ix2 y n)) * i.sin (ix2 r n) := by
  pointwise [q2, k0_pay2, k0_pay1]

theorem k2_apply (i : Ins Ideal) (r : Fin 512) (n : Fin 256) :
    k2 i (ix2 r n) = (∑ x, i.x (ix2 r x) * i.wk (ix2 x n)) * i.cos (ix2 r n)
      + (∑ y, (∑ x, i.x (ix2 r x) * i.wk (ix2 x y)) * i.rot (ix2 y n)) * i.sin (ix2 r n) := by
  pointwise [k2, k0_pay3, k0_pay1]

theorem kP_apply (i : Ins Ideal) (n : Fin 8) (r : Fin 256) (e : Fin 64) :
    kP i n (ix4 0 0 r e) = k2 i (ix2 (rowOf n r) (colOf n e)) := by
  fin_cases n <;> (pointwise [kP, k0_pay5, k0_pay8, k0_pay11, k0_pay12, k0_pay15, k0_pay18, k0_pay22, k0_pay25, k0_pay28]; exact congrArg₂ (fun a b => k2 i (ix2 a b)) (Fin.ext (by simp)) (Fin.ext (by simp)))

theorem qP_apply (i : Ins Ideal) (n : Fin 8) (r : Fin 256) (e : Fin 64) :
    qP i n (ix3 0 r e) = q2 i (ix2 (rowOf n r) (colOf n e)) := by
  fin_cases n <;> (pointwise [qP, k0_pay7, k0_pay10, k0_pay14, k0_pay17, k0_pay21, k0_pay24, k0_pay27, k0_pay30]; exact congrArg₂ (fun a b => q2 i (ix2 a b)) (Fin.ext (by simp)) (Fin.ext (by simp)))

theorem vP_apply (i : Ins Ideal) (n : Fin 8) (r : Fin 256) (e : Fin 64) :
    vP i n (ix4 0 0 r e) = ∑ x, i.x (ix2 (rowOf n r) x) * i.wv (ix2 x (colOf n e)) := by
  fin_cases n <;> (pointwise [vP, v2, k0_pay1, k0_pay4, k0_pay6, k0_pay9, k0_pay13, k0_pay16, k0_pay19, k0_pay20, k0_pay23, k0_pay26, k0_pay29]; exact congrArg₂ (fun a b => ∑ x, i.x (ix2 a x) * i.wv (ix2 x b)) (Fin.ext (by simp)) (Fin.ext (by simp)))

variable (ins : Dev nD → Ins Ideal)

/-- Equal digits read a piece at the same place. -/
theorem qP_at (d : Dev nD) {j j' : Fin 8} {r r' : Fin 256} (e : Fin 64) (hj : j.val = j'.val) (hr : r.val = r'.val) :
    qP (ins (mate d j)) (lo d) (ix3 0 r e) = qP (ins (mate d j')) (lo d) (ix3 0 r' e) := by
  obtain rfl := Fin.ext hj
  obtain rfl := Fin.ext hr
  rfl

theorem qf_apply (d : Dev nD) (j : Fin 8) (r : Fin 256) (e : Fin 64) :
    qf ins d (ix2 ⟨256 * j.val + r.val, by omega⟩ e) = q2 (ins (mate d j)) (ix2 (rowOf (lo d) r) (colOf (lo d) e)) := by
  rw [← qP_apply]
  pointwise [qf, k0_pay33, k0_pay31, k0_pay32]
  have := j.isLt
  have := r.isLt
  split_ifs <;> refine qP_at ins d e ?_ ?_ <;> (try simp only [Fin.isValue, Fin.val_zero, Fin.coe_ofNat_eq_mod]) <;> omega

/-- A weight: the base-two exponential of a row's scaled score against a source's row. -/
def wt (d : Dev nD) (R : Fin 2048) (s : Fin 16) (r : Fin 256) : EReal :=
  FloatOps.exp2 (F := Ideal) (φ := .f32) ((∑ e, qf ins d (ix2 R e) * kR ins d s (ix4 0 0 r e)) * Named.named (F := Ideal) κ (φ := .f32) "scale_log2e" 0x3E38AA3B#32)
/-- A source's weights, summed; and its weighted values, summed. -/
def Ls (d : Dev nD) (R : Fin 2048) (s : Fin 16) : EReal := ∑ r, wt ins d R s r
def As (d : Dev nD) (R : Fin 2048) (e : Fin 64) (s : Fin 16) : EReal := ∑ r, wt ins d R s r * vR ins d s (ix4 0 0 r e)

theorem l1_apply (d : Dev nD) (R : Fin 2048) : l1 ins d (ix2 R 0) = Ls ins d R 0 + Ls ins d R 1 := by
  pointwise [l1, k0_pay35, k0_pay34, Ls, wt]
theorem l2_apply (d : Dev nD) (R : Fin 2048) : l2 ins d (ix2 R 0) = l1 ins d (ix2 R 0) + (Ls ins d R 2 + Ls ins d R 3) := by
  pointwise [l2, k0_pay40, k0_pay39, k0_pay37, z512, Ls, wt]
theorem l3_apply (d : Dev nD) (R : Fin 2048) : l3 ins d (ix2 R 0) = l2 ins d (ix2 R 0) + (Ls ins d R 4 + Ls ins d R 5) := by
  pointwise [l3, k0_pay43, k0_pay42, Ls, wt]
theorem l4_apply (d : Dev nD) (R : Fin 2048) : l4 ins d (ix2 R 0) = l3 ins d (ix2 R 0) + (Ls ins d R 6 + Ls ins d R 7) := by
  pointwise [l4, k0_pay46, k0_pay45, Ls, wt]
theorem l5_apply (d : Dev nD) (R : Fin 2048) : l5 ins d (ix2 R 0) = l4 ins d (ix2 R 0) + (Ls ins d R 8 + Ls ins d R 9) := by
  pointwise [l5, k0_pay51, k0_pay49, k0_pay50, Ls, wt]
theorem l6_apply (d : Dev nD) (R : Fin 2048) : l6 ins d (ix2 R 0) = l5 ins d (ix2 R 0) + (Ls ins d R 10 + Ls ins d R 11) := by
  pointwise [l6, k0_pay54, k0_pay53, Ls, wt]
theorem l7_apply (d : Dev nD) (R : Fin 2048) : l7 ins d (ix2 R 0) = l6 ins d (ix2 R 0) + (Ls ins d R 12 + Ls ins d R 13) := by
  pointwise [l7, k0_pay59, k0_pay56, k0_pay58, z512, Ls, wt]

theorem a1_apply (d : Dev nD) (R : Fin 2048) (e : Fin 64) : a1 ins d (ix2 R e) = As ins d R e 0 + As ins d R e 1 := by
  pointwise [a1, k0_pay36, k0_pay34, As, wt]
theorem a2_apply (d : Dev nD) (R : Fin 2048) (e : Fin 64) : a2 ins d (ix2 R e) = a1 ins d (ix2 R e) + (As ins d R e 2 + As ins d R e 3) := by
  pointwise [a2, k0_pay41, k0_pay37, k0_pay38, k0_pay39, z512, As, wt]
theorem a3_apply (d : Dev nD) (R : Fin 2048) (e : Fin 64) : a3 ins d (ix2 R e) = a2 ins d (ix2 R e) + (As ins d R e 4 + As ins d R e 5) := by
  pointwise [a3, k0_pay44, k0_pay42, As, wt]
theorem a4_apply (d : Dev nD) (R : Fin 2048) (e : Fin 64) : a4 ins d (ix2 R e) = a3 ins d (ix2 R e) + (As ins d R e 6 + As ins d R e 7) := by
  pointwise [a4, d4, k0_pay48, k0_pay47, k0_pay45, As, wt]
theorem a5_apply (d : Dev nD) (R : Fin 2048) (e : Fin 64) : a5 ins d (ix2 R e) = a4 ins d (ix2 R e) + (As ins d R e 8 + As ins d R e 9) := by
  pointwise [a5, k0_pay52, k0_pay49, k0_pay50, As, wt]
theorem a6_apply (d : Dev nD) (R : Fin 2048) (e : Fin 64) : a6 ins d (ix2 R e) = a5 ins d (ix2 R e) + (As ins d R e 10 + As ins d R e 11) := by
  pointwise [a6, k0_pay55, k0_pay53, As, wt]
theorem a7_apply (d : Dev nD) (R : Fin 2048) (e : Fin 64) : a7 ins d (ix2 R e) = a6 ins d (ix2 R e) + (As ins d R e 12 + As ins d R e 13) := by
  pointwise [a7, k0_pay60, k0_pay56, k0_pay57, k0_pay58, z512, As, wt]

theorem cx_step (d : Dev nD) (R : Fin 2048) (e : Fin 64) :
    cx ins d (ix2 R e) = Ideal.div (a7 ins d (ix2 R e) + (As ins d R e 14 + As ins d R e 15)) (l7 ins d (ix2 R 0) + (Ls ins d R 14 + Ls ins d R 15)) := by
  pointwise [cx, k0_pay61, As, Ls, wt]

theorem sum16 (f : Fin 16 → EReal) :
    ∑ s, f s = f 0 + f 1 + (f 2 + f 3) + (f 4 + f 5) + (f 6 + f 7) + (f 8 + f 9) + (f 10 + f 11) + (f 12 + f 13) + (f 14 + f 15) := by
  simp only [Fin.sum_univ_castSucc, Fin.sum_univ_zero, zero_add, add_assoc]
  rfl

/-- A context: the weighted values over the weights, each summed over every source. -/
theorem cx_apply (d : Dev nD) (R : Fin 2048) (e : Fin 64) :
    cx ins d (ix2 R e) = Ideal.div (∑ s, As ins d R e s) (∑ s, Ls ins d R s) := by
  rw [cx_step, a7_apply, a6_apply, a5_apply, a4_apply, a3_apply, a2_apply, a1_apply, l7_apply, l6_apply, l5_apply, l4_apply,
    l3_apply, l2_apply, l1_apply, sum16, sum16]

theorem cP_apply (d : Dev nD) (n : Fin 8) (r : Fin 256) (e : Fin 64) :
    cP ins d n (ix3 0 r e) = cx ins d (ix2 ⟨256 * n.val + r.val, by omega⟩ e) := by
  fin_cases n <;> pointwise [cP, k0_pay62, k0_pay63, k0_pay64, k0_pay65, k0_pay66, k0_pay67, k0_pay68, k0_pay69]
  pointwise [cx, k0_pay61]

theorem cR_at (d : Dev nD) {j j' : Fin 8} {r r' : Fin 256} {e e' : Fin 64} (hj : j.val = j'.val) (hr : r.val = r'.val) (he : e.val = e'.val) :
    cR ins d j (ix3 0 r e) = cR ins d j' (ix3 0 r' e') := by
  obtain rfl := Fin.ext hj
  obtain rfl := Fin.ext hr
  obtain rfl := Fin.ext he
  rfl

/-- What device `c` stores, at a batch's row. -/
theorem outC_apply (c : Dev nD) (b : Fin 2) (r : Fin 256) (e : Fin 768) :
    outC ins c (ix2 (rowAt b.val r b.isLt) e)
      = ∑ n : Fin 256, cx ins (mate c ⟨4 * b.val + n.val / 64, by omega⟩) (ix2 ⟨256 * (lo c).val + r.val, by have := (lo c).isLt; omega⟩ ⟨n.val % 64, by omega⟩) * (ins c).wo (ix2 n e) := by
  have key : ∀ n : Fin 256, cx ins (mate c ⟨4 * b.val + n.val / 64, by omega⟩) (ix2 ⟨256 * (lo c).val + r.val, by have := (lo c).isLt; omega⟩ ⟨n.val % 64, by omega⟩)
      = cR ins c ⟨4 * b.val + n.val / 64, by omega⟩ (ix3 0 r ⟨n.val % 64, by omega⟩) := fun n => (cP_apply ins _ _ _ _).symm
  simp only [key]
  pointwise [outC, k0_pay74, k0_pay70, k0_pay71, k0_pay72, k0_pay73]
  refine Finset.sum_congr rfl fun n _ => ?_
  congr 1
  have := b.isLt
  have := r.isLt
  have := n.isLt
  split_ifs <;> refine cR_at ins c ?_ ?_ ?_ <;> (try simp only [Fin.isValue, Fin.val_zero, Fin.coe_ofNat_eq_mod]) <;> omega

end Cert.KernelIdeal.Attn

end
-- ==== Proof.HostValue.lean ====
/-
  What the kernel is given, read at an index: the rows, the tables of the rotation, and its matrix; and what the host
  makes of the kernel's result.
-/
module

public import proofs.«01_k».proof.Proof.Run
public import proofs.«01_k».proof.Proof.Rot
public import proofs.«01_k».proof.Proof.Angles
public import proofs.«01_k».proof.Proof.Pieces
public import Idealize.ShloMosaic.Lib.Tactic.CleanTypes

@[expose] public section

noncomputable section

namespace Cert.KernelIdeal.Attn

open Idealize.ShloMosaic Idealize.ShloMosaic.TcCoe Idealize.ShloMosaic.StableHlo
open Cert.KernelIdeal.Gen Cert.Value

set_option maxRecDepth 16384

/-- The position a device's row stands at. -/
abbrev posOf (c : Dev nD) (r : Fin 256) : Fin 4096 := ⟨256 * c.val + r.val, by have := c.isLt; simp only [nD] at this; omega⟩

/-- The first position a device holds, as the host computes it. -/
theorem first_pos : ∀ c : Dev nD,
    IntOp.muli (id (Host.remui (Host.divui (constantI S_ 32 c.word) (constantI S_ 32 1#32)) (constantI S_ 32 16#32)) ix0) 256#32 = BitVec.ofNat 32 (256 * c.val) := by
  decide +kernel

variable (m : (ℓ : Loc nD τ sig) → Buf (Elt Ideal) ℓ)

theorem x_apply (c : Dev nD) (b : Fin 2) (r : Fin 256) (n : Fin 768) :
    (insOf m c).x (ix2 (rowAt b.val r b.isLt) n) = (m ((c.tc : Thread nD τ).loc main_arg0) : FVec Ideal S2x256x768 .bf16) (ix3 b r n) := by
  unfold insOf V1 hostOps0
  dsimp only
  after_results_simp
  clean_types
  pointwise []
  show (m ((c.tc : Thread nD τ).loc main_arg0) : FVec Ideal S2x256x768 .bf16) _ = _
  refine congrArg₂ (fun b r => (m ((c.tc : Thread nD τ).loc main_arg0) : FVec Ideal S2x256x768 .bf16) (ix3 b r n)) (Fin.ext ?_) (Fin.ext ?_) <;> dsimp only <;> omega

theorem rot_apply (c : Dev nD) (k n : Fin 256) : (insOf m c).rot (ix2 k n) = Ideal.ofBits .bf16 (rotWord k.val n.val) := by
  unfold insOf V1 hostOps0
  dsimp only
  after_results_simp
  clean_types
  pointwise []
  rw [← lit0_row k.val n.val k.isLt n.isLt (by omega)]
  congr 2
  apply Fin.ext
  rw [Shape.rowMajor_val_two]
  show k.val * 256 + n.val = 256 * k.val + n.val
  omega

/-- The angle at a device's row, as its host computes it. -/
theorem host_angle (c : Dev nD) (r : Fin 256) (i : ℕ) (hi : i < 32) :
    ((FloatOps.sitofp .f32 (BitVec.ofNat 32 (256 * c.val)) : Ideal .f32) + (FloatOps.sitofp .f32 (BitVec.ofNat 32 r.val) : Ideal .f32) : EReal)
      * Ideal.div 1 (Ideal.pow (Ideal.ofBits .f32 0x461C4000#32) (Ideal.div (Ideal.ofBits .f32 0x40000000#32 * (FloatOps.sitofp .f32 (BitVec.ofNat 32 i) : Ideal .f32)) (Ideal.ofBits .f32 0x42800000#32)))
      = angle (posOf c r).val i := by
  have := c.isLt
  simp only [nD] at this
  rw [sitofp_ofNat _ (by omega), sitofp_ofNat _ (by omega), sitofp_ofNat _ (by omega), ofBits_two]
  unfold angle freq
  congr 1
  · rw [← EReal.coe_add]
    congr 1
    push_cast
    rfl
  · rw [← EReal.coe_mul]
    push_cast
    rfl

theorem cos_apply (c : Dev nD) (b : Fin 2) (r : Fin 256) (n : Fin 256) :
    (insOf m c).cos (ix2 (rowAt b.val r b.isLt) n) = Ideal.cos (angle (posOf c r).val (n.val % 64 / 2)) := by
  rw [← host_angle c r (n.val % 64 / 2) (by omega), ← first_pos]
  unfold insOf V1 hostOps0
  dsimp only
  after_results_simp
  clean_types
  pointwise []
  have e : (256 * b.val + r.val) % 256 = r.val := by omega
  rw [e]

theorem sin_apply (c : Dev nD) (b : Fin 2) (r : Fin 256) (n : Fin 256) :
    (insOf m c).sin (ix2 (rowAt b.val r b.isLt) n) = Ideal.sin (angle (posOf c r).val (n.val % 64 / 2)) := by
  rw [← host_angle c r (n.val % 64 / 2) (by omega), ← first_pos]
  unfold insOf V1 hostOps0
  dsimp only
  after_results_simp
  clean_types
  pointwise []
  have e : (256 * b.val + r.val) % 256 = r.val := by omega
  rw [e]

theorem out_apply (c : Dev nD) (b : Fin 2) (r : Fin 256) (n : Fin 768) :
    (V3 m (outs m) c main_v40 : FVec Ideal S2x256x768 .f32) (ix3 b r n) = outC (insOf m) c (ix2 (rowAt b.val r b.isLt) n) := by
  unfold V3 hostOps1
  after_results_simp
  clean_types
  rw [V2_out]
  pointwise []
  refine congrArg (fun a => outC (insOf m) c (ix2 a n)) (Fin.ext ?_)
  dsimp only
  omega

end Cert.KernelIdeal.Attn

end
-- ==== Proof.Softmax.lean ====
/-
  Attention's normalisation: the exponentials in base two, unshifted, give what the shifted natural ones give.
-/
module

public import Idealize.ShloMosaic.PureOps.Ideal

@[expose] public section

noncomputable section

namespace Cert.Value

open Idealize.ShloMosaic

/-- A nonnegative real factor goes into a sum of extended reals. -/
theorem sum_mul_coe {ι : Type*} (t : Finset ι) (f : ι → EReal) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih,
      EReal.right_distrib_of_nonneg_of_ne_top (by exact_mod_cast hr) (EReal.coe_ne_top r)]

theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, ← ih, EReal.coe_add]

/-- The base-two exponential at a score times the named factor. -/
theorem rpow_scale (x : ℝ) : Real.rpow 2 (x * ((1 / 8) * (Real.log 2)⁻¹)) = Real.exp (x * (1 / 8)) := by
  have h : Real.log 2 ≠ 0 := (Real.log_pos (by norm_num)).ne'
  show (2 : ℝ) ^ (x * ((1 / 8) * (Real.log 2)⁻¹)) = _
  rw [Real.rpow_def_of_pos (by norm_num)]
  congr 1
  field_simp

/-- Weighted values over the sum of unshifted base-two exponentials are the values weighted by the shifted softmax. -/
theorem soft {ι : Type*} [Fintype ι] [Nonempty ι] (s : ι → ℝ) (M : ℝ) (v : ι → EReal) :
    Ideal.div (∑ j, Ideal.exp2 ((s j : EReal) * (((1 / 8) * (Real.log 2)⁻¹ : ℝ) : EReal)) * v j)
        (∑ j, Ideal.exp2 ((s j : EReal) * (((1 / 8) * (Real.log 2)⁻¹ : ℝ) : EReal)))
      = ∑ j, v j * Ideal.div (Ideal.exp ((s j : EReal) * ((1 / 8 : ℝ) : EReal) - (M : EReal)))
          (∑ k, Ideal.exp ((s k : EReal) * ((1 / 8 : ℝ) : EReal) - (M : EReal))) := by
  have h2 : ∀ j, Ideal.exp2 ((s j : EReal) * (((1 / 8) * (Real.log 2)⁻¹ : ℝ) : EReal)) = (Real.exp (s j * (1 / 8)) : EReal) := by
    intro j
    rw [← EReal.coe_mul, Ideal.exp2_coe, rpow_scale]
  have he : ∀ j, Ideal.exp ((s j : EReal) * ((1 / 8 : ℝ) : EReal) - (M : EReal)) = ((Real.exp (s j * (1 / 8)) * Real.exp (-M) : ℝ) : EReal) := by
    intro j
    rw [← EReal.coe_mul, ← EReal.coe_sub, Ideal.exp_coe, ← Real.exp_add, sub_eq_add_neg]
  simp only [h2, he]
  have hP : 0 < ∑ j, Real.exp (s j * (1 / 8)) := Finset.sum_pos (fun _ _ => Real.exp_pos _) Finset.univ_nonempty
  have hM := Real.exp_pos (-M)
  rw [← coe_sum, ← coe_sum, ← Finset.sum_mul, Ideal.div_coe hP.ne', sum_mul_coe _ _ (by positivity)]
  refine Finset.sum_congr rfl fun j _ => ?_
  rw [Ideal.div_coe (mul_pos hP hM).ne', ← EReal.coe_mul, mul_comm _ (v j), mul_assoc, ← EReal.coe_mul]
  congr 2
  field_simp

/-- A maximum of reals, begun from the least value, is a real where there is one to take. -/
theorem max_real {ι : Type*} [Fintype ι] [Nonempty ι] (s : ι → ℝ) :
    ∃ M : ℝ, Finset.univ.sup (fun j => (s j : EReal)) = (M : EReal) := by
  obtain ⟨j, _, h⟩ := Finset.exists_mem_eq_sup (Finset.univ : Finset ι) Finset.univ_nonempty (fun j => (s j : EReal))
  exact ⟨s j, h⟩

end Cert.Value

end
-- ==== Proof.RefParts.lean ====
/-
  The reference's result in named parts, each read at an index.
-/
module

public import proofs.«01_k».proof.Proof.Gen.ReferenceIdeal.Run
public import proofs.«01_k».proof.Proof.Softmax
public import proofs.«01_k».proof.Proof.Angles
public import Idealize.ShloMosaic.Lib.Pointwise

@[expose] public section

noncomputable section

namespace Cert.ReferenceIdeal.Value

open Cert.Value Cert.ReferenceIdeal Cert.ReferenceIdeal.Gen Idealize.ShloMosaic Idealize.ShloMosaic.TcCoe Idealize.ShloMosaic.StableHlo

set_option maxRecDepth 16384

/-- The angles: a position times a column's inverse frequency. -/
def angR : FVec Ideal S4096x32 .f32 :=
  mulf (broadcastInDim S4096x32 ![0, 1] bcast_S4096x1_S4096x32_0_1 (sitofp .f32 (broadcastInDim S4096x1 ![0] bcast_S4096_S4096x1_0 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (addi (broadcastInDim S32 ![] bcast_S_S32 (constantI S_ 32 0#32)) (muli (broadcastInDim S32 ![] bcast_S_S32 (constantI S_ 32 2#32)) (iotaInDim S32 32 0)))) (broadcastInDim S32 ![] bcast_S_S32 (constant S_ .f32 0x42800000#32)))))))

/-- A table of an angle's function, over every head's columns. -/
def tabR (t : FVec Ideal S4096x32 .f32) : FVec Ideal S2x4096x4x64 .f32 :=
  broadcastInDim S2x4096x4x64 ![0, 1, 2, 3] bcast_S1x4096x1x64_S2x4096x4x64_0_1_2_3 (broadcastInDim S1x4096x1x64 ![1, 3] bcast_S4096x64_S1x4096x1x64_1_3 (shapeCast _ (broadcastInDim S4096x32x2 ![0, 1] bcast_S4096x32_S4096x32x2_0_1 t) shapeCasts_S4096x32x2_S4096x64))

/-- A projection, by heads. -/
def projR (x : FVec Ideal S2x4096x768 .bf16) (w : FVec Ideal S768x256 .bf16) : FVec Ideal S2x4096x4x64 .f32 :=
  shapeCast _ (Host.dotGeneral dot_S2x4096x768_S768x256_S2x4096x256_2_0_01_1_n_n none (extf .f32 x bitsLt_bf16_f32) (extf .f32 w bitsLt_bf16_f32)) shapeCasts_S2x4096x256_S2x4096x4x64

/-- A projection with its columns' pairs turned. -/
def turnR (q : FVec Ideal S2x4096x4x64 .f32) : FVec Ideal S2x4096x4x64 .f32 :=
  shapeCast _ (fn_main_v40 (F := Ideal) (broadcastInDim S2x4096x4x32x1 ![0, 1, 2, 3] bcast_S2x4096x4x32_S2x4096x4x32x1_0_1_2_3 (Host.negf (shapeCast _ (extractStridedSlice S2x4096x4x32x1 ![0, 0, 0, 0, 1] (shapeCast _ q shapeCasts_S2x4096x4x64_S2x4096x4x32x2) slices_S2x4096x4x32x2_S2x4096x4x32x1_0_0_0_0_1) shapeCasts_S2x4096x4x32x1_S2x4096x4x32))) (broadcastInDim S2x4096x4x32x1 ![0, 1, 2, 3] bcast_S2x4096x4x32_S2x4096x4x32x1_0_1_2_3 (shapeCast _ (extractStridedSlice S2x4096x4x32x1 ![0, 0, 0, 0, 0] (shapeCast _ q shapeCasts_S2x4096x4x64_S2x4096x4x32x2) slices_S2x4096x4x32x2_S2x4096x4x32x1_0_0_0_0_0) shapeCasts_S2x4096x4x32x1_S2x4096x4x32))) shapeCasts_S2x4096x4x32x2_S2x4096x4x64

/-- A projection turned by the position's angles. -/
def ropeR (q : FVec Ideal S2x4096x4x64 .f32) : FVec Ideal S2x4096x4x64 .f32 :=
  addf (mulf q (tabR (Host.cos angR))) (mulf (turnR q) (tabR (Host.sin angR)))

/-- The scaled scores. -/
def scoreR (q k : FVec Ideal S2x4096x4x64 .f32) : FVec Ideal S2x4x4096x4096 .f32 :=
  mulf (Host.dotGeneral dot_S2x4096x4x64_S2x4096x4x64_S2x4x4096x4096_3_3_1_1_02_02 none q k) (broadcastInDim S2x4x4096x4096 ![] bcast_S_S2x4x4096x4096 (constant S_ .f32 0x3E000000#32))

/-- The rows' largest scores, along the rows. -/
def maxR (s : FVec Ideal S2x4x4096x4096 .f32) : FVec Ideal S2x4x4096x4096 .f32 :=
  broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduce FloatOps.maximumf s (constant S_ .f32 0xFF800000#32) reducesTo_S2x4x4096x4096_S2x4x4096_d3 h_S_))

/-- The scores' exponentials, below the rows' largest. -/
def expR (s : FVec Ideal S2x4x4096x4096 .f32) : FVec Ideal S2x4x4096x4096 .f32 :=
  Host.exp (subf s (maxR s))

/-- The exponentials over their rows' sums. -/
def probR (p : FVec Ideal S2x4x4096x4096 .f32) : FVec Ideal S2x4x4096x4096 .f32 :=
  Host.divf p (broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduceAdd p (constant S_ .f32 0x00000000#32) reducesTo_S2x4x4096x4096_S2x4x4096_d3 h_S_)))

/-- The heads' contexts, side by side. -/
def ctxR (v : FVec Ideal S2x4096x4x64 .f32) (p : FVec Ideal S2x4x4096x4096 .f32) : FVec Ideal S2x4096x256 .f32 :=
  shapeCast _ (transpose S2x4096x4x64 [0, 3, 1, 2] (Host.dotGeneral dot_S2x4096x4x64_S2x4x4096x4096_S2x4x64x4096_1_3_3_2_02_01 none v p) transposes_S2x4x64x4096_S2x4096x4x64_0_3_1_2) shapeCasts_S2x4096x4x64_S2x4096x256

/-- The contexts' projection. -/
def outR (x : FVec Ideal S2x4096x256 .f32) (w : FVec Ideal S256x768 .bf16) : FVec Ideal S2x4096x768 .f32 :=
  Host.dotGeneral dot_S2x4096x256_S256x768_S2x4096x768_2_0_01_1_n_n none x (extf .f32 w bitsLt_bf16_f32)

/-- The whole reference, of its five arguments. -/
def wholeR (x : FVec Ideal S2x4096x768 .bf16) (wq wk wv : FVec Ideal S768x256 .bf16) (wo : FVec Ideal S256x768 .bf16) : FVec Ideal S2x4096x768 .f32 :=
  outR (ctxR (projR x wv) (probR (expR (scoreR (ropeR (projR x wq)) (ropeR (projR x wk)))))) wo

theorem res_eq (m : (ℓ : Loc nD τ sig) → Buf (Elt Ideal) ℓ) (c : Dev nD) :
    res_main_v85 m c = wholeR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v85
  rfl

theorem angR_apply (t : Fin 4096) (i : Fin 32) : angR (ix2 t i) = angle t.val i.val := by
  pointwise [angR]
  have h : IntOp.addi (0#32) (IntOp.muli (2#32) (BitVec.ofNat 32 i.val)) = BitVec.ofNat 32 (2 * i.val) := by
    revert i
    decide
  rw [h, sitofp_ofNat _ (by omega), sitofp_ofNat _ (by omega)]
  rfl

theorem tabR_apply (a : FVec Ideal S4096x32 .f32) (b : Fin 2) (t : Fin 4096) (h : Fin 4) (e : Fin 64) :
    tabR a (ix4 b t h e) = a (ix2 t ⟨e.val / 2, by omega⟩) := by
  pointwise [tabR]

theorem projR_apply (x : FVec Ideal S2x4096x768 .bf16) (w : FVec Ideal S768x256 .bf16) (b : Fin 2) (t : Fin 4096) (h : Fin 4) (e : Fin 64) :
    projR x w (ix4 b t h e) = ∑ k, x (ix3 b t k) * w (ix2 k ⟨h.val * 64 + e.val, by omega⟩) := by
  pointwise [projR]

theorem turnR_apply (q : FVec Ideal S2x4096x4x64 .f32) (b : Fin 2) (t : Fin 4096) (h : Fin 4) (e : Fin 64) :
    turnR q (ix4 b t h e) = if e.val % 2 < 1 then -q (ix4 b t h ⟨e.val / 2 * 2 + 1, by omega⟩) else q (ix4 b t h ⟨e.val / 2 * 2, by omega⟩) := by
  pointwise [turnR, fn_main_v40]
  split_ifs <;> rfl

theorem ropeR_apply (q : FVec Ideal S2x4096x4x64 .f32) (b : Fin 2) (t : Fin 4096) (h : Fin 4) (e : Fin 64) :
    ropeR q (ix4 b t h e) = q (ix4 b t h e) * Ideal.cos (angle t.val (e.val / 2)) + turnR q (ix4 b t h e) * Ideal.sin (angle t.val (e.val / 2)) := by
  pointwise [ropeR]
  rw [tabR_apply, tabR_apply, ← angR_apply t ⟨e.val / 2, by omega⟩]
  rfl

/-- A position's unscaled score against another's. -/
def scR (q k : FVec Ideal S2x4096x4x64 .f32) (b : Fin 2) (h : Fin 4) (t j : Fin 4096) : EReal :=
  ∑ e, q (ix4 b t h e) * k (ix4 b j h e)

theorem scoreR_apply (q k : FVec Ideal S2x4096x4x64 .f32) (b : Fin 2) (h : Fin 4) (t j : Fin 4096) :
    scoreR q k (ix4 b h t j) = scR q k b h t j * ((1 / 8 : ℝ) : EReal) := by
  rw [← ofBits_eighth]
  pointwise [scoreR, scR]

theorem expR_apply (s : FVec Ideal S2x4x4096x4096 .f32) (b : Fin 2) (h : Fin 4) (t j : Fin 4096) :
    expR s (ix4 b h t j) = Ideal.exp (s (ix4 b h t j) - Finset.univ.sup fun k => s (ix4 b h t k)) := by
  pointwise [expR, maxR]
  rw [ofBits_least]
  rfl

theorem probR_apply (s : FVec Ideal S2x4x4096x4096 .f32) (b : Fin 2) (h : Fin 4) (t j : Fin 4096) :
    probR s (ix4 b h t j) = Ideal.div (s (ix4 b h t j)) (∑ k, s (ix4 b h t k)) := by
  pointwise [probR]

theorem ctxR_apply (v : FVec Ideal S2x4096x4x64 .f32) (p : FVec Ideal S2x4x4096x4096 .f32) (b : Fin 2) (t : Fin 4096) (n : Fin 256) :
    ctxR v p (ix3 b t n) = ∑ j, v (ix4 b j ⟨n.val / 64, by omega⟩ ⟨n.val % 64, by omega⟩) * p (ix4 b ⟨n.val / 64, by omega⟩ t j) := by
  pointwise [ctxR]

theorem outR_apply (x : FVec Ideal S2x4096x256 .f32) (w : FVec Ideal S256x768 .bf16) (b : Fin 2) (t : Fin 4096) (e : Fin 768) :
    outR x w (ix3 b t e) = ∑ n, x (ix3 b t n) * w (ix2 n e) := by
  pointwise [outR]

/-! ## Reals in, reals out -/

theorem projR_real {x : FVec Ideal S2x4096x768 .bf16} {w : FVec Ideal S768x256 .bf16} (hx : ∀ i, IsR (x i)) (hw : ∀ i, IsR (w i))
    (b : Fin 2) (t : Fin 4096) (h : Fin 4) (e : Fin 64) : IsR (projR x w (ix4 b t h e)) := by
  rw [projR_apply]
  exact IsR.sum _ fun k => (hx _).mul (hw _)

theorem ropeR_real {q : FVec Ideal S2x4096x4x64 .f32} (hq : ∀ b t h e, IsR (q (ix4 b t h e)))
    (b : Fin 2) (t : Fin 4096) (h : Fin 4) (e : Fin 64) : IsR (ropeR q (ix4 b t h e)) := by
  rw [ropeR_apply, turnR_apply]
  refine ((hq ..).mul (angle_real ..).cos).add (IsR.mul ?_ (angle_real ..).sin)
  split
  · exact (hq ..).neg
  · exact hq ..

theorem scR_real {q k : FVec Ideal S2x4096x4x64 .f32} (hq : ∀ b t h e, IsR (q (ix4 b t h e))) (hk : ∀ b t h e, IsR (k (ix4 b t h e)))
    (b : Fin 2) (h : Fin 4) (t j : Fin 4096) : IsR (scR q k b h t j) :=
  IsR.sum _ fun _ => (hq ..).mul (hk ..)

/-- A context of the reference: its values weighted by the unshifted base-two exponentials, over their sum. -/
theorem ctx_eq {q k : FVec Ideal S2x4096x4x64 .f32} (hq : ∀ b t h e, IsR (q (ix4 b t h e))) (hk : ∀ b t h e, IsR (k (ix4 b t h e)))
    (v : FVec Ideal S2x4096x4x64 .f32) (b : Fin 2) (t : Fin 4096) (n : Fin 256) :
    ctxR v (probR (expR (scoreR q k))) (ix3 b t n)
      = Ideal.div (∑ j, Ideal.exp2 (scR q k b ⟨n.val / 64, by omega⟩ t j * (((1 / 8) * (Real.log 2)⁻¹ : ℝ) : EReal)) * v (ix4 b j ⟨n.val / 64, by omega⟩ ⟨n.val % 64, by omega⟩))
          (∑ j, Ideal.exp2 (scR q k b ⟨n.val / 64, by omega⟩ t j * (((1 / 8) * (Real.log 2)⁻¹ : ℝ) : EReal))) := by
  rw [ctxR_apply]
  generalize (⟨n.val / 64, _⟩ : Fin 4) = h
  generalize (⟨n.val % 64, _⟩ : Fin 64) = e
  choose s hs using fun j => scR_real hq hk b h t j
  obtain ⟨M, hM⟩ := max_real fun j => s j * (1 / 8)
  have hE : ∀ j, expR (scoreR q k) (ix4 b h t j) = Ideal.exp ((s j : EReal) * ((1 / 8 : ℝ) : EReal) - (M : EReal)) := by
    intro j
    rw [expR_apply]
    simp only [scoreR_apply, hs]
    rw [← hM]
    simp only [EReal.coe_mul]
  simp only [probR_apply, hE, hs]
  exact (soft s M fun j => v (ix4 b j h e)).symm

end Cert.ReferenceIdeal.Value

end
-- ==== Proof.Attention.lean ====
/-
  What a device stores is the reference's result at the positions the device holds.
-/
module

public import proofs.«01_k».proof.Proof.HostValue
public import proofs.«01_k».proof.Proof.RefParts

@[expose] public section

noncomputable section

namespace Cert.Value

open Idealize.ShloMosaic Idealize.ShloMosaic.TcCoe
open Cert.KernelIdeal.Attn Cert.ReferenceIdeal.Value
open Cert.KernelIdeal (nD S512x256 S256x256)

set_option maxRecDepth 16384

/-! ## The turning matrix -/

/-- The matrix's entries: minus one and one beside the diagonal. -/
theorem rot_entry (k n : ℕ) : Ideal.ofBits .bf16 (rotWord k n)
    = if n % 2 < 1 then (if k = n + 1 then -1 else 0) else (if k + 1 = n then 1 else 0) := by
  unfold rotWord
  by_cases h : n % 2 = 0
  · have h' : n % 2 < 1 := by omega
    simp only [if_pos h, if_pos h']
    split_ifs
    · rw [Ideal.ofBits_neg_one_bf16]; norm_num
    · exact ofBits_minus_zero_bf16
    · exact Ideal.ofBits_zero_bf16
  · have h' : ¬n % 2 < 1 := by omega
    simp only [if_neg h, if_neg h']
    split_ifs
    · exact Ideal.ofBits_one_bf16
    · exact Ideal.ofBits_zero_bf16

/-- A row times the turning matrix: the pairs' columns exchanged, one of them negated. -/
theorem row_turned (p : Fin 256 → EReal) (h : Fin 4) (e : Fin 64) :
    ∑ y : Fin 256, p y * Ideal.ofBits .bf16 (rotWord y.val (64 * h.val + e.val))
      = if e.val % 2 < 1 then -p ⟨h.val * 64 + (e.val / 2 * 2 + 1), by omega⟩ else p ⟨h.val * 64 + e.val / 2 * 2, by omega⟩ := by
  simp only [rot_entry]
  by_cases hp : e.val % 2 < 1
  · rw [if_pos hp]
    have hp' : (64 * h.val + e.val) % 2 < 1 := by omega
    simp only [if_pos hp']
    rw [Finset.sum_eq_single (⟨h.val * 64 + (e.val / 2 * 2 + 1), by omega⟩ : Fin 256)]
    · rw [if_pos (by dsimp only; omega), mul_neg_one]
    · intro y _ hy
      rw [if_neg (fun e' => hy (Fin.ext (by dsimp only; omega))), mul_zero]
    · exact fun hn => absurd (Finset.mem_univ _) hn
  · rw [if_neg hp]
    have hp' : ¬(64 * h.val + e.val) % 2 < 1 := by omega
    simp only [if_neg hp']
    rw [Finset.sum_eq_single (⟨h.val * 64 + e.val / 2 * 2, by omega⟩ : Fin 256)]
    · rw [if_pos (by dsimp only; omega), mul_one]
    · intro y _ hy
      rw [if_neg (fun e' => hy (Fin.ext (by dsimp only; omega))), mul_zero]
    · exact fun hn => absurd (Finset.mem_univ _) hn

/-! ## Of the whole arrays -/

/-- What the devices' kernels are given, where every device holds its positions of `X` and the weights whole. -/
structure Given (ins : Dev nD → Ins Ideal) (X : FVec Ideal Cert.ReferenceIdeal.S2x4096x768 .bf16)
    (wq wk wv : FVec Ideal Cert.ReferenceIdeal.S768x256 .bf16) (wo : FVec Ideal Cert.ReferenceIdeal.S256x768 .bf16) : Prop where
  x : ∀ c (b : Fin 2) r n, (ins c).x (ix2 (rowAt b.val r b.isLt) n) = X (ix3 b (posOf c r) n)
  wq : ∀ c, (ins c).wq = wq
  wk : ∀ c, (ins c).wk = wk
  wv : ∀ c, (ins c).wv = wv
  wo : ∀ c, (ins c).wo = wo
  cos : ∀ c (b : Fin 2) r n, (ins c).cos (ix2 (rowAt b.val r b.isLt) n) = Ideal.cos (angle (posOf c r).val (n.val % 64 / 2))
  sin : ∀ c (b : Fin 2) r n, (ins c).sin (ix2 (rowAt b.val r b.isLt) n) = Ideal.sin (angle (posOf c r).val (n.val % 64 / 2))
  rot : ∀ c k n, (ins c).rot (ix2 k n) = Ideal.ofBits .bf16 (rotWord k.val n.val)

variable {ins : Dev nD → Ins Ideal} {X : FVec Ideal Cert.ReferenceIdeal.S2x4096x768 .bf16}
  {wq wk wv : FVec Ideal Cert.ReferenceIdeal.S768x256 .bf16} {wo : FVec Ideal Cert.ReferenceIdeal.S256x768 .bf16}

/-- A projection turned by the matrix and the tables is the reference's. -/
theorem rope_of (w : FVec Ideal Cert.ReferenceIdeal.S768x256 .bf16) (x : Fin 768 → EReal) (b : Fin 2) (t : Fin 4096) (h : Fin 4) (e : Fin 64)
    (hx : ∀ n, x n = X (ix3 b t n)) :
    (∑ n, x n * w (ix2 n (colAt h.val e h.isLt))) * Ideal.cos (angle t.val (e.val / 2))
      + (∑ y : Fin 256, (∑ n, x n * w (ix2 n y)) * Ideal.ofBits .bf16 (rotWord y.val (64 * h.val + e.val))) * Ideal.sin (angle t.val (e.val / 2))
      = ropeR (projR X w) (ix4 b t h e) := by
  rw [row_turned, ropeR_apply, turnR_apply]
  simp only [projR_apply, hx]
  have hc : colAt h.val e h.isLt = ⟨h.val * 64 + e.val, by omega⟩ := Fin.ext (by dsimp only; omega)
  rw [hc]

variable (G : Given ins X wq wk wv wo)
include G

theorem q2_eq (c : Dev nD) (b : Fin 2) (r : Fin 256) (h : Fin 4) (e : Fin 64) :
    q2 (ins c) (ix2 (rowAt b.val r b.isLt) (colAt h.val e h.isLt)) = ropeR (projR X wq) (ix4 b (posOf c r) h e) := by
  rw [q2_apply, G.wq, G.cos, G.sin, ← rope_of wq (fun n => (ins c).x (ix2 (rowAt b.val r b.isLt) n)) b (posOf c r) h e (fun n => G.x c b r n)]
  simp only [G.rot]
  have hm : (64 * h.val + e.val) % 64 / 2 = e.val / 2 := by omega
  rw [hm]

theorem k2_eq (c : Dev nD) (b : Fin 2) (r : Fin 256) (h : Fin 4) (e : Fin 64) :
    k2 (ins c) (ix2 (rowAt b.val r b.isLt) (colAt h.val e h.isLt)) = ropeR (projR X wk) (ix4 b (posOf c r) h e) := by
  rw [k2_apply, G.wk, G.cos, G.sin, ← rope_of wk (fun n => (ins c).x (ix2 (rowAt b.val r b.isLt) n)) b (posOf c r) h e (fun n => G.x c b r n)]
  simp only [G.rot]
  have hm : (64 * h.val + e.val) % 64 / 2 = e.val / 2 := by omega
  rw [hm]

/-- A piece's batch and head. -/
abbrev batchOf (j : Fin 8) : Fin 2 := ⟨j.val / 4, by omega⟩
abbrev headOf (j : Fin 8) : Fin 4 := ⟨j.val % 4, by omega⟩

theorem kR_eq (d s : Dev nD) (r : Fin 256) (e : Fin 64) :
    kR ins d s (ix4 0 0 r e) = ropeR (projR X wk) (ix4 (batchOf (lo d)) (posOf s r) (headOf (lo d)) e) := by
  unfold kR
  rw [kP_apply]
  exact k2_eq G s (batchOf (lo d)) r (headOf (lo d)) e

theorem vR_eq (d s : Dev nD) (r : Fin 256) (e : Fin 64) :
    vR ins d s (ix4 0 0 r e) = projR X wv (ix4 (batchOf (lo d)) (posOf s r) (headOf (lo d)) e) := by
  unfold vR
  rw [vP_apply, projR_apply, G.wv]
  refine Finset.sum_congr rfl fun n _ => ?_
  rw [show (ins s).x (ix2 (rowOf (lo d) r) n) = _ from G.x s (batchOf (lo d)) r n]
  have hc : colOf (lo d) e = ⟨(headOf (lo d)).val * 64 + e.val, by have := (headOf (lo d)).isLt; omega⟩ := Fin.ext (by dsimp only; omega)
  rw [hc]

theorem qf_eq (d : Dev nD) (j : Fin 8) (r : Fin 256) (e : Fin 64) :
    qf ins d (ix2 ⟨256 * j.val + r.val, by omega⟩ e) = ropeR (projR X wq) (ix4 (batchOf (lo d)) (posOf (mate d j) r) (headOf (lo d)) e) := by
  rw [qf_apply]
  exact q2_eq G (mate d j) (batchOf (lo d)) r (headOf (lo d)) e

/-- A weight, of the reference's score. -/
theorem wt_eq (d : Dev nD) (j : Fin 8) (r : Fin 256) (s : Dev nD) (r' : Fin 256) :
    wt ins d ⟨256 * j.val + r.val, by omega⟩ s r'
      = Ideal.exp2 (scR (ropeR (projR X wq)) (ropeR (projR X wk)) (batchOf (lo d)) (headOf (lo d)) (posOf (mate d j) r) (posOf s r') * (((1 / 8) * (Real.log 2)⁻¹ : ℝ) : EReal)) := by
  unfold wt scR
  rw [IdealRules.named_const.ideal_named_scalar _ _ _ _ rfl]
  simp only [qf_eq G, kR_eq G]
  rfl

omit G in
/-- A sum over every device's rows is a sum over the positions. -/
theorem sum_pos (f : Fin 4096 → EReal) : ∑ s : Fin 16, ∑ r : Fin 256, f (posOf s r) = ∑ t, f t := by
  rw [← Fintype.sum_prod_type' fun (s : Fin 16) (r : Fin 256) => f (posOf s r)]
  refine Fintype.sum_equiv (finProdFinEquiv (m := 16) (n := 256)) _ _ fun x => congrArg f (Fin.ext ?_)
  show 256 * x.1.val + x.2.val = x.2.val + 256 * x.1.val
  omega

/-- What device `c` stores is the reference's result at the device's positions. -/
theorem stored_eq (hX : ∀ i, IsR (X i)) (hq : ∀ i, IsR (wq i)) (hk : ∀ i, IsR (wk i)) (c : Dev nD) (b : Fin 2) (r : Fin 256) (e : Fin 768) :
    outC ins c (ix2 (rowAt b.val r b.isLt) e) = wholeR X wq wk wv wo (ix3 b (posOf c r) e) := by
  rw [outC_apply, wholeR, outR_apply, G.wo]
  refine Finset.sum_congr rfl fun n _ => ?_
  congr 1
  rw [ctx_eq (fun b t h e => ropeR_real (fun b t h e => projR_real hX hq b t h e) b t h e) (fun b t h e => ropeR_real (fun b t h e => projR_real hX hk b t h e) b t h e),
    cx_apply]
  have hb : batchOf (⟨4 * b.val + n.val / 64, by omega⟩ : Fin 8) = b := Fin.ext (by dsimp only; omega)
  have hh : headOf (⟨4 * b.val + n.val / 64, by omega⟩ : Fin 8) = ⟨n.val / 64, by omega⟩ := Fin.ext (by dsimp only; omega)
  congr 1
  · rw [← sum_pos]
    refine Finset.sum_congr rfl fun s _ => Finset.sum_congr rfl fun r' _ => ?_
    rw [wt_eq G, vR_eq G, lo_mate, mate_mate, hb, hh]
  · rw [← sum_pos]
    refine Finset.sum_congr rfl fun s _ => Finset.sum_congr rfl fun r' _ => ?_
    rw [wt_eq G, lo_mate, mate_mate, hb, hh]

end Cert.Value

end
-- ==== Proof.Value.lean ====
/-
  The kernel's result is the reference's, device by device.
-/
module

public import proofs.«01_k».proof.Defs
public import proofs.«01_k».proof.Proof.Frames
public import proofs.«01_k».proof.Proof.Attention
public import Idealize.ShloMosaic.Lib.LayoutAt

@[expose] public section

noncomputable section

namespace Cert.Proof

open Idealize.ShloMosaic Idealize.SL.Sem Idealize.ShloMosaic.TcCoe
open Cert.Value Cert.KernelIdeal.Attn

theorem facts_pre_kernel : Cert.Pre_finite_KernelIdeal.Facts := ⟨by decide, by decide⟩
theorem facts_pre_reference : Cert.Pre_finite_ReferenceIdeal.Facts := ⟨by decide, by decide⟩

attribute [local instance] Cert.Kernel.Gen.facts Cert.KernelIdeal.Gen.facts Cert.ReferenceIdeal.Gen.facts facts_pre_kernel facts_pre_reference

theorem frame_kernelIdeal_finite : Cert.quiescent_KernelIdeal_pre_finite_KernelIdeal := fun m ρ _ => frame_any m ρ
theorem frame_referenceIdeal_finite : Cert.quiescent_ReferenceIdeal_pre_finite_ReferenceIdeal := fun m ρ _ => frame_referenceIdeal m ρ trivial

/-- An element that tests finite is a real. -/
theorem real_of_test {x : EReal} (h : Ideal.cmp .olt (max x (-x)) (Ideal.ofBits .bf16 0x7F80#16) = 1#1) : IsR x := by
  rw [ofBits_top_bf16] at h
  refine IsR.of_lt ?_
  by_contra hn
  simp [Ideal.cmp, hn] at h

variable (m : (ℓ : Loc Cert.KernelIdeal.nD Cert.KernelIdeal.τ Cert.KernelIdeal.sig) → Buf (Elt Ideal) ℓ)

/-- What the precondition says of device `c`'s rows and of the queries' and the keys' weights. -/
theorem finite_of (h : Cert.Pre_KernelIdeal_finite_KernelIdeal m) (c : Dev Cert.KernelIdeal.nD) :
    (∀ i, IsR ((m ((c.tc : Thread Cert.KernelIdeal.nD Cert.KernelIdeal.τ).loc Cert.KernelIdeal.main_arg0) : FVec Ideal Cert.KernelIdeal.S2x256x768 .bf16) i))
    ∧ (∀ i, IsR ((m ((c.tc : Thread Cert.KernelIdeal.nD Cert.KernelIdeal.τ).loc Cert.KernelIdeal.main_arg1) : FVec Ideal Cert.KernelIdeal.S768x256 .bf16) i))
    ∧ (∀ i, IsR ((m ((c.tc : Thread Cert.KernelIdeal.nD Cert.KernelIdeal.τ).loc Cert.KernelIdeal.main_arg2) : FVec Ideal Cert.KernelIdeal.S768x256 .bf16) i)) := by
  obtain ⟨h0, h1, h2⟩ := h c
  exact ⟨fun i => real_of_test (congrFun h0 i), fun i => real_of_test (congrFun h1 i), fun i => real_of_test (congrFun h2 i)⟩

/-- An index of three axes, by its coordinates. -/
theorem ix3_of {a b c : ℕ} (i : (⟨3, ![a, b, c]⟩ : Shape).Idx) : ∃ (x : Fin a) (y : Fin b) (z : Fin c), i = ix3 x y z :=
  ⟨i 0, i 1, i 2, by funext k; fin_cases k <;> rfl⟩

set_option maxHeartbeats 1600000 in
/-- A device's block of an array over the positions, at an index. -/
theorem block_at {α : Type} (v : (⟨3, ![2, 4096, 768]⟩ : Shape).Idx → α) (c : Dev Cert.KernelIdeal.nD) (b : Fin 2) (r : Fin 256) (n : Fin 768) :
    Layout.block ⟨3, ![2, 256, 768]⟩ ⟨3, ![2, 4096, 768]⟩ 1 16 c v (by decide) (ix3 b r n) = v (ix3 b (posOf c r) n) := by
  have := c.isLt
  shard_norm
  congr 1
  shard_ext

set_option maxHeartbeats 1600000 in
theorem algebraic : Cert.algebraic_KernelIdeal_ReferenceIdeal_pre_finite_KernelIdeal := by
  intro m g m' g' hpre hagree
  let A0 := (m' (((0 : Dev Cert.ReferenceIdeal.nD).tc : Thread Cert.ReferenceIdeal.nD Cert.ReferenceIdeal.τ).loc Cert.ReferenceIdeal.main_arg0) : FVec Ideal Cert.ReferenceIdeal.S2x4096x768 .bf16)
  let A1 := (m' (((0 : Dev Cert.ReferenceIdeal.nD).tc : Thread Cert.ReferenceIdeal.nD Cert.ReferenceIdeal.τ).loc Cert.ReferenceIdeal.main_arg1) : FVec Ideal Cert.ReferenceIdeal.S768x256 .bf16)
  let A2 := (m' (((0 : Dev Cert.ReferenceIdeal.nD).tc : Thread Cert.ReferenceIdeal.nD Cert.ReferenceIdeal.τ).loc Cert.ReferenceIdeal.main_arg2) : FVec Ideal Cert.ReferenceIdeal.S768x256 .bf16)
  let A3 := (m' (((0 : Dev Cert.ReferenceIdeal.nD).tc : Thread Cert.ReferenceIdeal.nD Cert.ReferenceIdeal.τ).loc Cert.ReferenceIdeal.main_arg3) : FVec Ideal Cert.ReferenceIdeal.S768x256 .bf16)
  let A4 := (m' (((0 : Dev Cert.ReferenceIdeal.nD).tc : Thread Cert.ReferenceIdeal.nD Cert.ReferenceIdeal.τ).loc Cert.ReferenceIdeal.main_arg4) : FVec Ideal Cert.ReferenceIdeal.S256x768 .bf16)
  -- a device's rows are its positions of the whole array
  have hx : ∀ (c : Dev Cert.KernelIdeal.nD) (b : Fin 2) (r : Fin 256) (n : Fin 768),
      (m ((c.tc : Thread Cert.KernelIdeal.nD Cert.KernelIdeal.τ).loc Cert.KernelIdeal.main_arg0) : FVec Ideal Cert.KernelIdeal.S2x256x768 .bf16) (ix3 b r n) = A0 (ix3 b (posOf c r) n) := by
    intro c b r n
    exact (congrFun (hagree c).1 (ix3 b r n)).trans (block_at A0 c b r n)
  have G : Given (insOf m) A0 A1 A2 A3 A4 := {
    x := fun c b r n => (x_apply m c b r n).trans (hx c b r n)
    wq := fun c => (Cert.KernelIdeal.Gen.V1_of m c Cert.KernelIdeal.main_arg1 (by decide)).trans (hagree c).2.1
    wk := fun c => (Cert.KernelIdeal.Gen.V1_of m c Cert.KernelIdeal.main_arg2 (by decide)).trans (hagree c).2.2.1
    wv := fun c => (Cert.KernelIdeal.Gen.V1_of m c Cert.KernelIdeal.main_arg3 (by decide)).trans (hagree c).2.2.2.1
    wo := fun c => (Cert.KernelIdeal.Gen.V1_of m c Cert.KernelIdeal.main_arg4 (by decide)).trans (hagree c).2.2.2.2
    cos := cos_apply m
    sin := sin_apply m
    rot := rot_apply m }
  have hX : ∀ i, IsR (A0 i) := by
    intro i
    obtain ⟨b, t, n, rfl⟩ := ix3_of i
    have e : t = posOf ⟨t.val / 256, by simp only [Cert.KernelIdeal.nD]; omega⟩ ⟨t.val % 256, by omega⟩ := Fin.ext (by dsimp only; omega)
    rw [e, ← hx]
    exact (finite_of m hpre _).1 _
  have hq : ∀ i, IsR (A1 i) := fun i => by
    have := (finite_of m hpre 0).2.1 i
    rwa [(hagree 0).2.1] at this
  have hk : ∀ i, IsR (A2 i) := fun i => by
    have := (finite_of m hpre 0).2.2 i
    rwa [(hagree 0).2.2.1] at this
  refine ⟨Cert.ReferenceIdeal.Value.wholeR A0 A1 A2 A3 A4, ?_, ?_⟩
  · refine (θ_run Cert.KernelIdeal.defs _ _).mono (fun r h c => ⟨((h.1 c).1).trans ?_, (h.1 c).2⟩) (run_kernelIdeal m g)
    funext i
    obtain ⟨b, r, n, rfl⟩ := ix3_of i
    exact (out_apply m c b r n).trans ((stored_eq G hX hq hk c b r n).trans (block_at _ c b r n).symm)
  · exact (θ_run Cert.ReferenceIdeal.defs _ _).mono (fun r h => ⟨(h 0).1.trans (Cert.ReferenceIdeal.Value.res_eq m' 0), (h 0).2⟩) (Cert.ReferenceIdeal.Value.run m' g')

end Cert.Proof

end
-- ==== Proof.lean ====
/-
  The claims: the frames, the named constant, and the kernel's result against the reference's.
-/
module

public import proofs.«01_k».proof.Defs
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, facts_pre_kernel, facts_pre_reference,
    frame_kernel, frame_kernelIdeal, frame_kernelIdeal_finite, frame_referenceIdeal, frame_referenceIdeal_finite,
    IdealRules.named_const.statement Cert.KernelIdeal.κ "scale_log2e" .f32 0x3E38AA3B#32
      (((1 / 8) * (Real.log 2)⁻¹ : ℝ) : EReal) rfl,
    algebraic⟩

end Cert.Proof

end
